-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "scale" .f32 0x3DB8AA3B#32 (((1 / 16) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x32x256 : Shape := ⟨4, ![4, 1, 32, 256]⟩
abbrev S4x1x2x256 : Shape := ⟨4, ![4, 1, 2, 256]⟩
abbrev S65536x2x256 : Shape := ⟨3, ![65536, 2, 256]⟩
abbrev S65536x2 : Shape := ⟨2, ![65536, 2]⟩
abbrev S4x32x256 : Shape := ⟨3, ![4, 32, 256]⟩
abbrev S4x2x256 : Shape := ⟨3, ![4, 2, 256]⟩
abbrev S2x65536x256 : Shape := ⟨3, ![2, 65536, 256]⟩
abbrev S2x65536 : Shape := ⟨2, ![2, 65536]⟩
abbrev S4x8192 : Shape := ⟨2, ![4, 8192]⟩
abbrev S8x2x2048x256 : Shape := ⟨4, ![8, 2, 2048, 256]⟩
abbrev S8x2x2048 : Shape := ⟨3, ![8, 2, 2048]⟩
abbrev S2x64x256 : Shape := ⟨3, ![2, 64, 256]⟩
abbrev S2x64x128 : Shape := ⟨3, ![2, 64, 128]⟩
abbrev S2x64x2048 : Shape := ⟨3, ![2, 64, 2048]⟩
abbrev S2x2x64x128 : Shape := ⟨4, ![2, 2, 64, 128]⟩
abbrev S8 : Shape := ⟨1, ![8]⟩
abbrev S3 : Shape := ⟨1, ![3]⟩
abbrev S_ : Shape := ⟨0, ![]⟩
abbrev S1 : Shape := ⟨1, ![1]⟩
abbrev S1x2x2048x256 : Shape := ⟨4, ![1, 2, 2048, 256]⟩
abbrev S2x2048x256 : Shape := ⟨3, ![2, 2048, 256]⟩
abbrev S1x2x2048 : Shape := ⟨3, ![1, 2, 2048]⟩
abbrev S2x2048 : Shape := ⟨2, ![2, 2048]⟩
abbrev S1x16x256 : Shape := ⟨3, ![1, 16, 256]⟩
abbrev S16x256 : Shape := ⟨2, ![16, 256]⟩
abbrev S1x2x256 : Shape := ⟨3, ![1, 2, 256]⟩
abbrev S2x256 : Shape := ⟨2, ![2, 256]⟩
abbrev S1x256 : Shape := ⟨2, ![1, 256]⟩
abbrev S16x128 : Shape := ⟨2, ![16, 128]⟩
abbrev S16 : Shape := ⟨1, ![16]⟩
abbrev S16x1 : Shape := ⟨2, ![16, 1]⟩
abbrev S1x16x128 : Shape := ⟨3, ![1, 16, 128]⟩
abbrev S64x128 : Shape := ⟨2, ![64, 128]⟩
abbrev S1x1x64x128 : Shape := ⟨4, ![1, 1, 64, 128]⟩
abbrev S1x64x128 : Shape := ⟨3, ![1, 64, 128]⟩
abbrev S64x256 : Shape := ⟨2, ![64, 256]⟩
abbrev S1x64x256 : Shape := ⟨3, ![1, 64, 256]⟩
abbrev S1x1x256x256 : Shape := ⟨4, ![1, 1, 256, 256]⟩
abbrev S256x256 : Shape := ⟨2, ![256, 256]⟩
abbrev S1x1x256 : Shape := ⟨3, ![1, 1, 256]⟩
abbrev S64 : Shape := ⟨1, ![64]⟩
abbrev S64x1 : Shape := ⟨2, ![64, 1]⟩
abbrev S1x1x128 : Shape := ⟨3, ![1, 1, 128]⟩
abbrev S1x128 : Shape := ⟨2, ![1, 128]⟩
abbrev S64x2048 : Shape := ⟨2, ![64, 2048]⟩
abbrev S1x1x2048x256 : Shape := ⟨4, ![1, 1, 2048, 256]⟩
abbrev S2048x256 : Shape := ⟨2, ![2048, 256]⟩
abbrev S1x1x16x128 : Shape := ⟨4, ![1, 1, 16, 128]⟩
abbrev S1x1x4x128 : Shape := ⟨4, ![1, 1, 4, 128]⟩
abbrev S4x128 : Shape := ⟨2, ![4, 128]⟩

abbrev nBuf : Space → Nat
  | .hbm => 15
  | .vmem => 17
  | .smem => 0
  | _ => 0

abbrev bufTy : (tb : Table) → Fin (tcTables nBuf tb) → BufTy
  | .hbm, ⟨0, _⟩ => ⟨S4x1x32x256, .bf16⟩
  | .hbm, ⟨1, _⟩ => ⟨S4x1x2x256, .bf16⟩
  | .hbm, ⟨2, _⟩ => ⟨S4x1x2x256, .bf16⟩
  | .hbm, ⟨3, _⟩ => ⟨S65536x2x256, .fp8e4m3⟩
  | .hbm, ⟨4, _⟩ => ⟨S65536x2, .f32⟩
  | .hbm, ⟨5, _⟩ => ⟨S65536x2x256, .fp8e4m3⟩
  | .hbm, ⟨6, _⟩ => ⟨S65536x2, .f32⟩
  | .hbm, ⟨7, _⟩ => ⟨S4x32x256, .bf16⟩
  | .hbm, ⟨8, _⟩ => ⟨S4x2x256, .bf16⟩
  | .hbm, ⟨9, _⟩ => ⟨S4x2x256, .bf16⟩
  | .hbm, ⟨10, _⟩ => ⟨S2x65536x256, .fp8e4m3⟩
  | .hbm, ⟨11, _⟩ => ⟨S2x65536, .f32⟩
  | .hbm, ⟨12, _⟩ => ⟨S2x65536x256, .fp8e4m3⟩
  | .hbm, ⟨13, _⟩ => ⟨S2x65536, .f32⟩
  | .hbm, ⟨14, _⟩ => ⟨S4x8192, .bf16⟩
  | .local _ .vmem, ⟨0, _⟩ => ⟨S4x32x256, .bf16⟩
  | .local _ .vmem, ⟨1, _⟩ => ⟨S4x2x256, .bf16⟩
  | .local _ .vmem, ⟨2, _⟩ => ⟨S4x2x256, .bf16⟩
  | .local _ .vmem, ⟨3, _⟩ => ⟨S8x2x2048x256, .fp8e4m3⟩
  | .local _ .vmem, ⟨4, _⟩ => ⟨S8x2x2048, .f32⟩
  | .local _ .vmem, ⟨5, _⟩ => ⟨S8x2x2048x256, .fp8e4m3⟩
  | .local _ .vmem, ⟨6, _⟩ => ⟨S8x2x2048, .f32⟩
  | .local _ .vmem, ⟨7, _⟩ => ⟨S2x64x256, .bf16⟩
  | .local _ .vmem, ⟨8, _⟩ => ⟨S2x64x128, .f32⟩
  | .local _ .vmem, ⟨9, _⟩ => ⟨S2x64x2048, .f32⟩
  | .local _ .vmem, ⟨10, _⟩ => ⟨S2x64x2048, .f32⟩
  | .local _ .vmem, ⟨11, _⟩ => ⟨S2x2x64x128, .f32⟩
  | .local _ .vmem, ⟨12, _⟩ => ⟨S2x2x64x128, .f32⟩
  | .local _ .vmem, ⟨13, _⟩ => ⟨S2x64x128, .f32⟩
  | .local _ .vmem, ⟨14, _⟩ => ⟨S2x64x256, .f32⟩
  | .local _ .vmem, ⟨15, _⟩ => ⟨S2x2x64x128, .f32⟩
  | .local _ .vmem, ⟨16, _⟩ => ⟨S4x8192, .bf16⟩
  | _, _ => ⟨S4x1x32x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩

abbrev nD : Nat := 1
abbrev τ : Topo := Topo.v7x

variable {F : FTy → Type} [FloatOps F]

abbrev grid0 : Pipeline.Grid := .none

def k0_mult1 : BitVec 32 :=
  let c0_i32_1 : BitVec 32 := 0#32
  c0_i32_1
def k0_off1 (c0_i32_0 : BitVec 32) : Fin 1 → Nat :=
  let c8_i32 : BitVec 32 := 8#32
  let v6 : BitVec 32 := Scalar.remsi c0_i32_0 c8_i32
  ![v6.toNat]
def k0_off1_at (r : Fin 10) : BitVec 32 :=
  if r.val < 5 then
    if r.val < 2 then
      if r.val < 1 then
        0#32
      else
        1#32
    else
      if r.val < 3 then
        2#32
      else
        if r.val < 4 then
          3#32
        else
          4#32
  else
    if r.val < 7 then
      if r.val < 6 then
        5#32
      else
        6#32
    else
      if r.val < 8 then
        7#32
      else
        if r.val < 9 then
          31#32
        else
          30#32
def k0_off2 (c0_i32_0 : BitVec 32) : Fin 4 → Nat :=
  let c8_i32 : BitVec 32 := 8#32
  let v6 : BitVec 32 := Scalar.remsi c0_i32_0 c8_i32
  let c0_i32_2 : BitVec 32 := 0#32
  let c0_i32_3 : BitVec 32 := 0#32
  let c0_i32_4 : BitVec 32 := 0#32
  ![v6.toNat, 0, 0, 0]
def k0_off2_at (r : Fin 10) : BitVec 32 :=
  if r.val < 5 then
    if r.val < 2 then
      if r.val < 1 then
        0#32
      else
        1#32
    else
      if r.val < 3 then
        2#32
      else
        if r.val < 4 then
          3#32
        else
          4#32
  else
    if r.val < 7 then
      if r.val < 6 then
        5#32
      else
        6#32
    else
      if r.val < 8 then
        7#32
      else
        if r.val < 9 then
          31#32
        else
          30#32
def k0_off3 (c0_i32_0 : BitVec 32) : Fin 3 → Nat :=
  let c8_i32 : BitVec 32 := 8#32
  let v6 : BitVec 32 := Scalar.remsi c0_i32_0 c8_i32
  let c0_i32_7 : BitVec 32 := 0#32
  let c0_i32_8 : BitVec 32 := 0#32
  ![v6.toNat, 0, 0]
def k0_off3_at (r : Fin 10) : BitVec 32 :=
  if r.val < 5 then
    if r.val < 2 then
      if r.val < 1 then
        0#32
      else
        1#32
    else
      if r.val < 3 then
        2#32
      else
        if r.val < 4 then
          3#32
        else
          4#32
  else
    if r.val < 7 then
      if r.val < 6 then
        5#32
      else
        6#32
    else
      if r.val < 8 then
        7#32
      else
        if r.val < 9 then
          31#32
        else
          30#32
def k0_mult2 : BitVec 32 :=
  let c0_i32_12 : BitVec 32 := 0#32
  c0_i32_12
def k0_mult3 : BitVec 32 :=
  let c2048_i32 : BitVec 32 := 2048#32
  c2048_i32
def k0_mult4 : BitVec 32 :=
  let c2048_i32_33 : BitVec 32 := 2048#32
  c2048_i32_33
def k0_mult5 : BitVec 32 :=
  let c4096_i32 : BitVec 32 := 4096#32
  c4096_i32
def k0_mult6 : BitVec 32 :=
  let c4096_i32_54 : BitVec 32 := 4096#32
  c4096_i32_54
def k0_mult7 : BitVec 32 :=
  let c6144_i32 : BitVec 32 := 6144#32
  c6144_i32
def k0_mult8 : BitVec 32 :=
  let c6144_i32_74 : BitVec 32 := 6144#32
  c6144_i32_74
def k0_mult9 : BitVec 32 :=
  let c8192_i32 : BitVec 32 := 8192#32
  c8192_i32
def k0_mult10 : BitVec 32 :=
  let c8192_i32_94 : BitVec 32 := 8192#32
  c8192_i32_94
def k0_mult11 : BitVec 32 :=
  let c10240_i32 : BitVec 32 := 10240#32
  c10240_i32
def k0_mult12 : BitVec 32 :=
  let c10240_i32_114 : BitVec 32 := 10240#32
  c10240_i32_114
def k0_mult13 : BitVec 32 :=
  let c12288_i32 : BitVec 32 := 12288#32
  c12288_i32
def k0_mult14 : BitVec 32 :=
  let c12288_i32_134 : BitVec 32 := 12288#32
  c12288_i32_134
def k0_mult15 : BitVec 32 :=
  let c14336_i32 : BitVec 32 := 14336#32
  c14336_i32
def k0_mult16 : BitVec 32 :=
  let c14336_i32_154 : BitVec 32 := 14336#32
  c14336_i32_154
def k0_mult17 : BitVec 32 :=
  let c0_i32_294 : BitVec 32 := 0#32
  c0_i32_294
def k0_off4 (c0_i32_303 : BitVec 32) : Fin 4 → Nat :=
  let c8_i32_304 : BitVec 32 := 8#32
  let v430 : BitVec 32 := Scalar.remsi c0_i32_303 c8_i32_304
  let v433 : Index := Scalar.indexCast v430
  let c0_308 : Index := 0#32
  let c0_309 : Index := 0#32
  let c0_310 : Index := 0#32
  ![v433.toNat, 0, 0, 0]
def k0_off5 (c0_i32_303 : BitVec 32) : Fin 3 → Nat :=
  let c8_i32_304 : BitVec 32 := 8#32
  let v430 : BitVec 32 := Scalar.remsi c0_i32_303 c8_i32_304
  let v437 : Index := Scalar.indexCast v430
  let c0_312 : Index := 0#32
  let c0_313 : Index := 0#32
  ![v437.toNat, 0, 0]
def k0_off6 (c0_i32_303 : BitVec 32) : Fin 4 → Nat :=
  let c8_i32_304 : BitVec 32 := 8#32
  let v430 : BitVec 32 := Scalar.remsi c0_i32_303 c8_i32_304
  let v452 : Index := Scalar.indexCast v430
  let c1_321 : Index := 1#32
  let c0_322 : Index := 0#32
  let c0_323 : Index := 0#32
  ![v452.toNat, 1, 0, 0]
def k0_off7 (c0_i32_303 : BitVec 32) : Fin 3 → Nat :=
  let c8_i32_304 : BitVec 32 := 8#32
  let v430 : BitVec 32 := Scalar.remsi c0_i32_303 c8_i32_304
  let v456 : Index := Scalar.indexCast v430
  let c1_325 : Index := 1#32
  let c0_326 : Index := 0#32
  ![v456.toNat, 1, 0]
def k0_off8 (c0_i32_303 : BitVec 32) : Fin 4 → Nat :=
  let c8_i32_304 : BitVec 32 := 8#32
  let v430 : BitVec 32 := Scalar.remsi c0_i32_303 c8_i32_304
  let v471 : Index := Scalar.indexCast v430
  let c0_334 : Index := 0#32
  let c256 : Index := 256#32
  let c0_335 : Index := 0#32
  ![v471.toNat, 0, 256, 0]
def k0_off9 (c0_i32_303 : BitVec 32) : Fin 3 → Nat :=
  let c8_i32_304 : BitVec 32 := 8#32
  let v430 : BitVec 32 := Scalar.remsi c0_i32_303 c8_i32_304
  let v475 : Index := Scalar.indexCast v430
  let c0_337 : Index := 0#32
  let c256_338 : Index := 256#32
  ![v475.toNat, 0, 256]
def k0_off10 (c0_i32_303 : BitVec 32) : Fin 4 → Nat :=
  let c8_i32_304 : BitVec 32 := 8#32
  let v430 : BitVec 32 := Scalar.remsi c0_i32_303 c8_i32_304
  let v491 : Index := Scalar.indexCast v430
  let c1_346 : Index := 1#32
  let c256_347 : Index := 256#32
  let c0_348 : Index := 0#32
  ![v491.toNat, 1, 256, 0]
def k0_off11 (c0_i32_303 : BitVec 32) : Fin 3 → Nat :=
  let c8_i32_304 : BitVec 32 := 8#32
  let v430 : BitVec 32 := Scalar.remsi c0_i32_303 c8_i32_304
  let v495 : Index := Scalar.indexCast v430
  let c1_350 : Index := 1#32
  let c256_351 : Index := 256#32
  ![v495.toNat, 1, 256]
def k0_off12 (c0_i32_303 : BitVec 32) : Fin 4 → Nat :=
  let c8_i32_304 : BitVec 32 := 8#32
  let v430 : BitVec 32 := Scalar.remsi c0_i32_303 c8_i32_304
  let v511 : Index := Scalar.indexCast v430
  let c0_359 : Index := 0#32
  let c512 : Index := 512#32
  let c0_360 : Index := 0#32
  ![v511.toNat, 0, 512, 0]
def k0_off13 (c0_i32_303 : BitVec 32) : Fin 3 → Nat :=
  let c8_i32_304 : BitVec 32 := 8#32
  let v430 : BitVec 32 := Scalar.remsi c0_i32_303 c8_i32_304
  let v515 : Index := Scalar.indexCast v430
  let c0_362 : Index := 0#32
  let c512_363 : Index := 512#32
  ![v515.toNat, 0, 512]
def k0_off14 (c0_i32_303 : BitVec 32) : Fin 4 → Nat :=
  let c8_i32_304 : BitVec 32 := 8#32
  let v430 : BitVec 32 := Scalar.remsi c0_i32_303 c8_i32_304
  let v531 : Index := Scalar.indexCast v430
  let c1_371 : Index := 1#32
  let c512_372 : Index := 512#32
  let c0_373 : Index := 0#32
  ![v531.toNat, 1, 512, 0]
def k0_off15 (c0_i32_303 : BitVec 32) : Fin 3 → Nat :=
  let c8_i32_304 : BitVec 32 := 8#32
  let v430 : BitVec 32 := Scalar.remsi c0_i32_303 c8_i32_304
  let v535 : Index := Scalar.indexCast v430
  let c1_375 : Index := 1#32
  let c512_376 : Index := 512#32
  ![v535.toNat, 1, 512]
def k0_off16 (c0_i32_303 : BitVec 32) : Fin 4 → Nat :=
  let c8_i32_304 : BitVec 32 := 8#32
  let v430 : BitVec 32 := Scalar.remsi c0_i32_303 c8_i32_304
  let v551 : Index := Scalar.indexCast v430
  let c0_384 : Index := 0#32
  let c768 : Index := 768#32
  let c0_385 : Index := 0#32
  ![v551.toNat, 0, 768, 0]
def k0_off17 (c0_i32_303 : BitVec 32) : Fin 3 → Nat :=
  let c8_i32_304 : BitVec 32 := 8#32
  let v430 : BitVec 32 := Scalar.remsi c0_i32_303 c8_i32_304
  let v555 : Index := Scalar.indexCast v430
  let c0_387 : Index := 0#32
  let c768_388 : Index := 768#32
  ![v555.toNat, 0, 768]
def k0_off18 (c0_i32_303 : BitVec 32) : Fin 4 → Nat :=
  let c8_i32_304 : BitVec 32 := 8#32
  let v430 : BitVec 32 := Scalar.remsi c0_i32_303 c8_i32_304
  let v571 : Index := Scalar.indexCast v430
  let c1_396 : Index := 1#32
  let c768_397 : Index := 768#32
  let c0_398 : Index := 0#32
  ![v571.toNat, 1, 768, 0]
def k0_off19 (c0_i32_303 : BitVec 32) : Fin 3 → Nat :=
  let c8_i32_304 : BitVec 32 := 8#32
  let v430 : BitVec 32 := Scalar.remsi c0_i32_303 c8_i32_304
  let v575 : Index := Scalar.indexCast v430
  let c1_400 : Index := 1#32
  let c768_401 : Index := 768#32
  ![v575.toNat, 1, 768]
def k0_off20 (c0_i32_303 : BitVec 32) : Fin 4 → Nat :=
  let c8_i32_304 : BitVec 32 := 8#32
  let v430 : BitVec 32 := Scalar.remsi c0_i32_303 c8_i32_304
  let v591 : Index := Scalar.indexCast v430
  let c0_409 : Index := 0#32
  let c1024 : Index := 1024#32
  let c0_410 : Index := 0#32
  ![v591.toNat, 0, 1024, 0]
def k0_off21 (c0_i32_303 : BitVec 32) : Fin 3 → Nat :=
  let c8_i32_304 : BitVec 32 := 8#32
  let v430 : BitVec 32 := Scalar.remsi c0_i32_303 c8_i32_304
  let v595 : Index := Scalar.indexCast v430
  let c0_412 : Index := 0#32
  let c1024_413 : Index := 1024#32
  ![v595.toNat, 0, 1024]
def k0_off22 (c0_i32_303 : BitVec 32) : Fin 4 → Nat :=
  let c8_i32_304 : BitVec 32 := 8#32
  let v430 : BitVec 32 := Scalar.remsi c0_i32_303 c8_i32_304
  let v611 : Index := Scalar.indexCast v430
  let c1_421 : Index := 1#32
  let c1024_422 : Index := 1024#32
  let c0_423 : Index := 0#32
  ![v611.toNat, 1, 1024, 0]
def k0_off23 (c0_i32_303 : BitVec 32) : Fin 3 → Nat :=
  let c8_i32_304 : BitVec 32 := 8#32
  let v430 : BitVec 32 := Scalar.remsi c0_i32_303 c8_i32_304
  let v615 : Index := Scalar.indexCast v430
  let c1_425 : Index := 1#32
  let c1024_426 : Index := 1024#32
  ![v615.toNat, 1, 1024]
def k0_off24 (c0_i32_303 : BitVec 32) : Fin 4 → Nat :=
  let c8_i32_304 : BitVec 32 := 8#32
  let v430 : BitVec 32 := Scalar.remsi c0_i32_303 c8_i32_304
  let v631 : Index := Scalar.indexCast v430
  let c0_434 : Index := 0#32
  let c1280 : Index := 1280#32
  let c0_435 : Index := 0#32
  ![v631.toNat, 0, 1280, 0]
def k0_off25 (c0_i32_303 : BitVec 32) : Fin 3 → Nat :=
  let c8_i32_304 : BitVec 32 := 8#32
  let v430 : BitVec 32 := Scalar.remsi c0_i32_303 c8_i32_304
  let v635 : Index := Scalar.indexCast v430
  let c0_437 : Index := 0#32
  let c1280_438 : Index := 1280#32
  ![v635.toNat, 0, 1280]
def k0_off26 (c0_i32_303 : BitVec 32) : Fin 4 → Nat :=
  let c8_i32_304 : BitVec 32 := 8#32
  let v430 : BitVec 32 := Scalar.remsi c0_i32_303 c8_i32_304
  let v651 : Index := Scalar.indexCast v430
  let c1_446 : Index := 1#32
  let c1280_447 : Index := 1280#32
  let c0_448 : Index := 0#32
  ![v651.toNat, 1, 1280, 0]
def k0_off27 (c0_i32_303 : BitVec 32) : Fin 3 → Nat :=
  let c8_i32_304 : BitVec 32 := 8#32
  let v430 : BitVec 32 := Scalar.remsi c0_i32_303 c8_i32_304
  let v655 : Index := Scalar.indexCast v430
  let c1_450 : Index := 1#32
  let c1280_451 : Index := 1280#32
  ![v655.toNat, 1, 1280]
def k0_off28 (c0_i32_303 : BitVec 32) : Fin 4 → Nat :=
  let c8_i32_304 : BitVec 32 := 8#32
  let v430 : BitVec 32 := Scalar.remsi c0_i32_303 c8_i32_304
  let v671 : Index := Scalar.indexCast v430
  let c0_459 : Index := 0#32
  let c1536 : Index := 1536#32
  let c0_460 : Index := 0#32
  ![v671.toNat, 0, 1536, 0]
def k0_off29 (c0_i32_303 : BitVec 32) : Fin 3 → Nat :=
  let c8_i32_304 : BitVec 32 := 8#32
  let v430 : BitVec 32 := Scalar.remsi c0_i32_303 c8_i32_304
  let v675 : Index := Scalar.indexCast v430
  let c0_462 : Index := 0#32
  let c1536_463 : Index := 1536#32
  ![v675.toNat, 0, 1536]
def k0_off30 (c0_i32_303 : BitVec 32) : Fin 4 → Nat :=
  let c8_i32_304 : BitVec 32 := 8#32
  let v430 : BitVec 32 := Scalar.remsi c0_i32_303 c8_i32_304
  let v691 : Index := Scalar.indexCast v430
  let c1_471 : Index := 1#32
  let c1536_472 : Index := 1536#32
  let c0_473 : Index := 0#32
  ![v691.toNat, 1, 1536, 0]
def k0_off31 (c0_i32_303 : BitVec 32) : Fin 3 → Nat :=
  let c8_i32_304 : BitVec 32 := 8#32
  let v430 : BitVec 32 := Scalar.remsi c0_i32_303 c8_i32_304
  let v695 : Index := Scalar.indexCast v430
  let c1_475 : Index := 1#32
  let c1536_476 : Index := 1536#32
  ![v695.toNat, 1, 1536]
def k0_off32 (c0_i32_303 : BitVec 32) : Fin 4 → Nat :=
  let c8_i32_304 : BitVec 32 := 8#32
  let v430 : BitVec 32 := Scalar.remsi c0_i32_303 c8_i32_304
  let v711 : Index := Scalar.indexCast v430
  let c0_484 : Index := 0#32
  let c1792 : Index := 1792#32
  let c0_485 : Index := 0#32
  ![v711.toNat, 0, 1792, 0]
def k0_off33 (c0_i32_303 : BitVec 32) : Fin 3 → Nat :=
  let c8_i32_304 : BitVec 32 := 8#32
  let v430 : BitVec 32 := Scalar.remsi c0_i32_303 c8_i32_304
  let v715 : Index := Scalar.indexCast v430
  let c0_487 : Index := 0#32
  let c1792_488 : Index := 1792#32
  ![v715.toNat, 0, 1792]
def k0_off34 (c0_i32_303 : BitVec 32) : Fin 4 → Nat :=
  let c8_i32_304 : BitVec 32 := 8#32
  let v430 : BitVec 32 := Scalar.remsi c0_i32_303 c8_i32_304
  let v731 : Index := Scalar.indexCast v430
  let c1_496 : Index := 1#32
  let c1792_497 : Index := 1792#32
  let c0_498 : Index := 0#32
  ![v731.toNat, 1, 1792, 0]
def k0_off35 (c0_i32_303 : BitVec 32) : Fin 3 → Nat :=
  let c8_i32_304 : BitVec 32 := 8#32
  let v430 : BitVec 32 := Scalar.remsi c0_i32_303 c8_i32_304
  let v735 : Index := Scalar.indexCast v430
  let c1_500 : Index := 1#32
  let c1792_501 : Index := 1792#32
  ![v735.toNat, 1, 1792]
@[reducible] def k0_t1_loop : Scf.Loop 32 :=
  let c0_i32_532 : BitVec 32 := 0#32
  let c15_i32 : BitVec 32 := 15#32
  let v779 : BitVec 32 := Scalar.addi c0_i32_532 c15_i32
  let c1_i32_533 : BitVec 32 := 1#32
  ⟨c0_i32_532, v779, c1_i32_533⟩
def k0_mult18 (k0_t1 : Fin k0_t1_loop.trips) : BitVec 32 :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1657 : BitVec 32 := 1#32
  let v2542 : BitVec 32 := Scalar.addi v2541 c1_i32_1657
  let c2048_i32_1659 : BitVec 32 := 2048#32
  let v2544 : BitVec 32 := Scalar.muli v2542 c2048_i32_1659
  v2544
def k0_off36 (k0_t1 : Fin k0_t1_loop.trips) : Fin 1 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1657 : BitVec 32 := 1#32
  let v2542 : BitVec 32 := Scalar.addi v2541 c1_i32_1657
  let c8_i32_1658 : BitVec 32 := 8#32
  let v2543 : BitVec 32 := Scalar.remsi v2542 c8_i32_1658
  ![v2543.toNat]
def k0_off37 (k0_t1 : Fin k0_t1_loop.trips) : Fin 4 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1657 : BitVec 32 := 1#32
  let v2542 : BitVec 32 := Scalar.addi v2541 c1_i32_1657
  let c8_i32_1658 : BitVec 32 := 8#32
  let v2543 : BitVec 32 := Scalar.remsi v2542 c8_i32_1658
  let c0_i32_1660 : BitVec 32 := 0#32
  let c0_i32_1661 : BitVec 32 := 0#32
  let c0_i32_1662 : BitVec 32 := 0#32
  ![v2543.toNat, 0, 0, 0]
def k0_off38 (k0_t1 : Fin k0_t1_loop.trips) : Fin 3 → Nat :=
  let c0_i32_1663 : BitVec 32 := 0#32
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1657 : BitVec 32 := 1#32
  let v2542 : BitVec 32 := Scalar.addi v2541 c1_i32_1657
  let c2048_i32_1659 : BitVec 32 := 2048#32
  let v2544 : BitVec 32 := Scalar.muli v2542 c2048_i32_1659
  let v2545 : BitVec 32 := v2544
  let c0_i32_1664 : BitVec 32 := 0#32
  ![0, v2545.toNat, 0]
def k0_off39 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1657 : BitVec 32 := 1#32
  let v2542 : BitVec 32 := Scalar.addi v2541 c1_i32_1657
  let c8_i32_1658 : BitVec 32 := 8#32
  let v2543 : BitVec 32 := Scalar.remsi v2542 c8_i32_1658
  let c0_i32_1665 : BitVec 32 := 0#32
  let c0_i32_1666 : BitVec 32 := 0#32
  ![v2543.toNat, 0, 0]
def k0_off40 (k0_t1 : Fin k0_t1_loop.trips) : Fin 2 → Nat :=
  let c0_i32_1667 : BitVec 32 := 0#32
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1657 : BitVec 32 := 1#32
  let v2542 : BitVec 32 := Scalar.addi v2541 c1_i32_1657
  let c2048_i32_1659 : BitVec 32 := 2048#32
  let v2544 : BitVec 32 := Scalar.muli v2542 c2048_i32_1659
  let v2545 : BitVec 32 := v2544
  ![0, v2545.toNat]
def k0_mult19 (k0_t1 : Fin k0_t1_loop.trips) : BitVec 32 :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c2048_i32_1669 : BitVec 32 := 2048#32
  let v2557 : BitVec 32 := Scalar.muli v2541 c2048_i32_1669
  v2557
def k0_off41 (k0_t1 : Fin k0_t1_loop.trips) : Fin 1 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1668 : BitVec 32 := 8#32
  let v2556 : BitVec 32 := Scalar.remsi v2541 c8_i32_1668
  ![v2556.toNat]
def k0_off42 (k0_t1 : Fin k0_t1_loop.trips) : Fin 4 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1668 : BitVec 32 := 8#32
  let v2556 : BitVec 32 := Scalar.remsi v2541 c8_i32_1668
  let c0_i32_1670 : BitVec 32 := 0#32
  let c0_i32_1671 : BitVec 32 := 0#32
  let c0_i32_1672 : BitVec 32 := 0#32
  ![v2556.toNat, 0, 0, 0]
def k0_off43 (k0_t1 : Fin k0_t1_loop.trips) : Fin 3 → Nat :=
  let c0_i32_1673 : BitVec 32 := 0#32
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c2048_i32_1669 : BitVec 32 := 2048#32
  let v2557 : BitVec 32 := Scalar.muli v2541 c2048_i32_1669
  let v2558 : BitVec 32 := v2557
  let c0_i32_1674 : BitVec 32 := 0#32
  ![0, v2558.toNat, 0]
def k0_off44 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1668 : BitVec 32 := 8#32
  let v2556 : BitVec 32 := Scalar.remsi v2541 c8_i32_1668
  let c0_i32_1675 : BitVec 32 := 0#32
  let c0_i32_1676 : BitVec 32 := 0#32
  ![v2556.toNat, 0, 0]
def k0_off45 (k0_t1 : Fin k0_t1_loop.trips) : Fin 2 → Nat :=
  let c0_i32_1677 : BitVec 32 := 0#32
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c2048_i32_1669 : BitVec 32 := 2048#32
  let v2557 : BitVec 32 := Scalar.muli v2541 c2048_i32_1669
  let v2558 : BitVec 32 := v2557
  ![0, v2558.toNat]
def k0_cond1 (k0_t1 : Fin k0_t1_loop.trips) : BitVec 1 :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1678 : BitVec 32 := 8#32
  let v2569 : BitVec 32 := Scalar.addi v2541 c8_i32_1678
  let c32_i32 : BitVec 32 := 32#32
  let v2570 : BitVec 1 := Scalar.cmpi .slt v2569 c32_i32
  let v2571 : BitVec 32 := Scalar.extui v2570
  let c0_i32_1679 : BitVec 32 := 0#32
  let v2572 : BitVec 1 := Scalar.cmpi .ne v2571 c0_i32_1679
  v2572

def k0_mult20 (k0_t1 : Fin k0_t1_loop.trips) : BitVec 32 :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_2606 : BitVec 32 := 8#32
  let v4118 : BitVec 32 := Scalar.addi v2541 c8_i32_2606
  let c2048_i32_2608 : BitVec 32 := 2048#32
  let v4120 : BitVec 32 := Scalar.muli v4118 c2048_i32_2608
  v4120
def k0_off46 (k0_t1 : Fin k0_t1_loop.trips) : Fin 1 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_2606 : BitVec 32 := 8#32
  let v4118 : BitVec 32 := Scalar.addi v2541 c8_i32_2606
  let c8_i32_2607 : BitVec 32 := 8#32
  let v4119 : BitVec 32 := Scalar.remsi v4118 c8_i32_2607
  ![v4119.toNat]
def k0_off47 (k0_t1 : Fin k0_t1_loop.trips) : Fin 4 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_2606 : BitVec 32 := 8#32
  let v4118 : BitVec 32 := Scalar.addi v2541 c8_i32_2606
  let c8_i32_2607 : BitVec 32 := 8#32
  let v4119 : BitVec 32 := Scalar.remsi v4118 c8_i32_2607
  let c0_i32_2609 : BitVec 32 := 0#32
  let c0_i32_2610 : BitVec 32 := 0#32
  let c0_i32_2611 : BitVec 32 := 0#32
  ![v4119.toNat, 0, 0, 0]
def k0_off48 (k0_t1 : Fin k0_t1_loop.trips) : Fin 3 → Nat :=
  let c0_i32_2612 : BitVec 32 := 0#32
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_2606 : BitVec 32 := 8#32
  let v4118 : BitVec 32 := Scalar.addi v2541 c8_i32_2606
  let c2048_i32_2608 : BitVec 32 := 2048#32
  let v4120 : BitVec 32 := Scalar.muli v4118 c2048_i32_2608
  let v4121 : BitVec 32 := v4120
  let c0_i32_2613 : BitVec 32 := 0#32
  ![0, v4121.toNat, 0]
def k0_off49 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_2606 : BitVec 32 := 8#32
  let v4118 : BitVec 32 := Scalar.addi v2541 c8_i32_2606
  let c8_i32_2607 : BitVec 32 := 8#32
  let v4119 : BitVec 32 := Scalar.remsi v4118 c8_i32_2607
  let c0_i32_2614 : BitVec 32 := 0#32
  let c0_i32_2615 : BitVec 32 := 0#32
  ![v4119.toNat, 0, 0]
def k0_off50 (k0_t1 : Fin k0_t1_loop.trips) : Fin 2 → Nat :=
  let c0_i32_2616 : BitVec 32 := 0#32
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_2606 : BitVec 32 := 8#32
  let v4118 : BitVec 32 := Scalar.addi v2541 c8_i32_2606
  let c2048_i32_2608 : BitVec 32 := 2048#32
  let v4120 : BitVec 32 := Scalar.muli v4118 c2048_i32_2608
  let v4121 : BitVec 32 := v4120
  ![0, v4121.toNat]
def k0_cond2 (k0_t1 : Fin k0_t1_loop.trips) : BitVec 1 :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1680 : BitVec 32 := 1#32
  let v2573 : BitVec 1 := Scalar.cmpi .sge v2541 c1_i32_1680
  let c8_i32_1681 : BitVec 32 := 8#32
  let v2574 : BitVec 32 := Scalar.addi v2541 c8_i32_1681
  let c1_i32_1682 : BitVec 32 := 1#32
  let v2575 : BitVec 32 := Scalar.subi v2574 c1_i32_1682
  let c32_i32_1683 : BitVec 32 := 32#32
  let v2576 : BitVec 1 := Scalar.cmpi .slt v2575 c32_i32_1683
  let v2577 : BitVec 1 := Scalar.andi v2573 v2576
  let v2578 : BitVec 32 := Scalar.extui v2577
  let c0_i32_1684 : BitVec 32 := 0#32
  let v2579 : BitVec 1 := Scalar.cmpi .ne v2578 c0_i32_1684
  v2579

def k0_mult21 (k0_t1 : Fin k0_t1_loop.trips) : BitVec 32 :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_2606 : BitVec 32 := 8#32
  let v4118 : BitVec 32 := Scalar.addi v2541 c8_i32_2606
  let c1_i32_2607 : BitVec 32 := 1#32
  let v4119 : BitVec 32 := Scalar.subi v4118 c1_i32_2607
  let c2048_i32_2609 : BitVec 32 := 2048#32
  let v4121 : BitVec 32 := Scalar.muli v4119 c2048_i32_2609
  v4121
def k0_off51 (k0_t1 : Fin k0_t1_loop.trips) : Fin 1 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_2606 : BitVec 32 := 8#32
  let v4118 : BitVec 32 := Scalar.addi v2541 c8_i32_2606
  let c1_i32_2607 : BitVec 32 := 1#32
  let v4119 : BitVec 32 := Scalar.subi v4118 c1_i32_2607
  let c8_i32_2608 : BitVec 32 := 8#32
  let v4120 : BitVec 32 := Scalar.remsi v4119 c8_i32_2608
  ![v4120.toNat]
def k0_off52 (k0_t1 : Fin k0_t1_loop.trips) : Fin 4 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_2606 : BitVec 32 := 8#32
  let v4118 : BitVec 32 := Scalar.addi v2541 c8_i32_2606
  let c1_i32_2607 : BitVec 32 := 1#32
  let v4119 : BitVec 32 := Scalar.subi v4118 c1_i32_2607
  let c8_i32_2608 : BitVec 32 := 8#32
  let v4120 : BitVec 32 := Scalar.remsi v4119 c8_i32_2608
  let c0_i32_2610 : BitVec 32 := 0#32
  let c0_i32_2611 : BitVec 32 := 0#32
  let c0_i32_2612 : BitVec 32 := 0#32
  ![v4120.toNat, 0, 0, 0]
def k0_off53 (k0_t1 : Fin k0_t1_loop.trips) : Fin 3 → Nat :=
  let c0_i32_2613 : BitVec 32 := 0#32
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_2606 : BitVec 32 := 8#32
  let v4118 : BitVec 32 := Scalar.addi v2541 c8_i32_2606
  let c1_i32_2607 : BitVec 32 := 1#32
  let v4119 : BitVec 32 := Scalar.subi v4118 c1_i32_2607
  let c2048_i32_2609 : BitVec 32 := 2048#32
  let v4121 : BitVec 32 := Scalar.muli v4119 c2048_i32_2609
  let v4122 : BitVec 32 := v4121
  let c0_i32_2614 : BitVec 32 := 0#32
  ![0, v4122.toNat, 0]
def k0_off54 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_2606 : BitVec 32 := 8#32
  let v4118 : BitVec 32 := Scalar.addi v2541 c8_i32_2606
  let c1_i32_2607 : BitVec 32 := 1#32
  let v4119 : BitVec 32 := Scalar.subi v4118 c1_i32_2607
  let c8_i32_2608 : BitVec 32 := 8#32
  let v4120 : BitVec 32 := Scalar.remsi v4119 c8_i32_2608
  let c0_i32_2615 : BitVec 32 := 0#32
  let c0_i32_2616 : BitVec 32 := 0#32
  ![v4120.toNat, 0, 0]
def k0_off55 (k0_t1 : Fin k0_t1_loop.trips) : Fin 2 → Nat :=
  let c0_i32_2617 : BitVec 32 := 0#32
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_2606 : BitVec 32 := 8#32
  let v4118 : BitVec 32 := Scalar.addi v2541 c8_i32_2606
  let c1_i32_2607 : BitVec 32 := 1#32
  let v4119 : BitVec 32 := Scalar.subi v4118 c1_i32_2607
  let c2048_i32_2609 : BitVec 32 := 2048#32
  let v4121 : BitVec 32 := Scalar.muli v4119 c2048_i32_2609
  let v4122 : BitVec 32 := v4121
  ![0, v4122.toNat]
def k0_off56 (k0_t1 : Fin k0_t1_loop.trips) : Fin 4 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2584 : Index := Scalar.indexCast v2581
  let c0_1690 : Index := 0#32
  let c0_1691 : Index := 0#32
  let c0_1692 : Index := 0#32
  ![v2584.toNat, 0, 0, 0]
def k0_off57 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2588 : Index := Scalar.indexCast v2581
  let c0_1694 : Index := 0#32
  let c0_1695 : Index := 0#32
  ![v2588.toNat, 0, 0]
def k0_off58 (k0_t1 : Fin k0_t1_loop.trips) : Fin 4 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2603 : Index := Scalar.indexCast v2581
  let c1_1703 : Index := 1#32
  let c0_1704 : Index := 0#32
  let c0_1705 : Index := 0#32
  ![v2603.toNat, 1, 0, 0]
def k0_off59 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2607 : Index := Scalar.indexCast v2581
  let c1_1707 : Index := 1#32
  let c0_1708 : Index := 0#32
  ![v2607.toNat, 1, 0]
def k0_off60 (k0_t1 : Fin k0_t1_loop.trips) : Fin 4 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2622 : Index := Scalar.indexCast v2581
  let c0_1716 : Index := 0#32
  let c256_1717 : Index := 256#32
  let c0_1718 : Index := 0#32
  ![v2622.toNat, 0, 256, 0]
def k0_off61 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2626 : Index := Scalar.indexCast v2581
  let c0_1720 : Index := 0#32
  let c256_1721 : Index := 256#32
  ![v2626.toNat, 0, 256]
def k0_off62 (k0_t1 : Fin k0_t1_loop.trips) : Fin 4 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2642 : Index := Scalar.indexCast v2581
  let c1_1729 : Index := 1#32
  let c256_1730 : Index := 256#32
  let c0_1731 : Index := 0#32
  ![v2642.toNat, 1, 256, 0]
def k0_off63 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2646 : Index := Scalar.indexCast v2581
  let c1_1733 : Index := 1#32
  let c256_1734 : Index := 256#32
  ![v2646.toNat, 1, 256]
def k0_off64 (k0_t1 : Fin k0_t1_loop.trips) : Fin 4 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2662 : Index := Scalar.indexCast v2581
  let c0_1742 : Index := 0#32
  let c512_1743 : Index := 512#32
  let c0_1744 : Index := 0#32
  ![v2662.toNat, 0, 512, 0]
def k0_off65 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2666 : Index := Scalar.indexCast v2581
  let c0_1746 : Index := 0#32
  let c512_1747 : Index := 512#32
  ![v2666.toNat, 0, 512]
def k0_off66 (k0_t1 : Fin k0_t1_loop.trips) : Fin 4 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2682 : Index := Scalar.indexCast v2581
  let c1_1755 : Index := 1#32
  let c512_1756 : Index := 512#32
  let c0_1757 : Index := 0#32
  ![v2682.toNat, 1, 512, 0]
def k0_off67 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2686 : Index := Scalar.indexCast v2581
  let c1_1759 : Index := 1#32
  let c512_1760 : Index := 512#32
  ![v2686.toNat, 1, 512]
def k0_off68 (k0_t1 : Fin k0_t1_loop.trips) : Fin 4 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2702 : Index := Scalar.indexCast v2581
  let c0_1768 : Index := 0#32
  let c768_1769 : Index := 768#32
  let c0_1770 : Index := 0#32
  ![v2702.toNat, 0, 768, 0]
def k0_off69 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2706 : Index := Scalar.indexCast v2581
  let c0_1772 : Index := 0#32
  let c768_1773 : Index := 768#32
  ![v2706.toNat, 0, 768]
def k0_off70 (k0_t1 : Fin k0_t1_loop.trips) : Fin 4 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2722 : Index := Scalar.indexCast v2581
  let c1_1781 : Index := 1#32
  let c768_1782 : Index := 768#32
  let c0_1783 : Index := 0#32
  ![v2722.toNat, 1, 768, 0]
def k0_off71 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2726 : Index := Scalar.indexCast v2581
  let c1_1785 : Index := 1#32
  let c768_1786 : Index := 768#32
  ![v2726.toNat, 1, 768]
def k0_off72 (k0_t1 : Fin k0_t1_loop.trips) : Fin 4 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2742 : Index := Scalar.indexCast v2581
  let c0_1794 : Index := 0#32
  let c1024_1795 : Index := 1024#32
  let c0_1796 : Index := 0#32
  ![v2742.toNat, 0, 1024, 0]
def k0_off73 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2746 : Index := Scalar.indexCast v2581
  let c0_1798 : Index := 0#32
  let c1024_1799 : Index := 1024#32
  ![v2746.toNat, 0, 1024]
def k0_off74 (k0_t1 : Fin k0_t1_loop.trips) : Fin 4 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2762 : Index := Scalar.indexCast v2581
  let c1_1807 : Index := 1#32
  let c1024_1808 : Index := 1024#32
  let c0_1809 : Index := 0#32
  ![v2762.toNat, 1, 1024, 0]
def k0_off75 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2766 : Index := Scalar.indexCast v2581
  let c1_1811 : Index := 1#32
  let c1024_1812 : Index := 1024#32
  ![v2766.toNat, 1, 1024]
def k0_off76 (k0_t1 : Fin k0_t1_loop.trips) : Fin 4 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2782 : Index := Scalar.indexCast v2581
  let c0_1820 : Index := 0#32
  let c1280_1821 : Index := 1280#32
  let c0_1822 : Index := 0#32
  ![v2782.toNat, 0, 1280, 0]
def k0_off77 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2786 : Index := Scalar.indexCast v2581
  let c0_1824 : Index := 0#32
  let c1280_1825 : Index := 1280#32
  ![v2786.toNat, 0, 1280]
def k0_off78 (k0_t1 : Fin k0_t1_loop.trips) : Fin 4 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2802 : Index := Scalar.indexCast v2581
  let c1_1833 : Index := 1#32
  let c1280_1834 : Index := 1280#32
  let c0_1835 : Index := 0#32
  ![v2802.toNat, 1, 1280, 0]
def k0_off79 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2806 : Index := Scalar.indexCast v2581
  let c1_1837 : Index := 1#32
  let c1280_1838 : Index := 1280#32
  ![v2806.toNat, 1, 1280]
def k0_off80 (k0_t1 : Fin k0_t1_loop.trips) : Fin 4 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2822 : Index := Scalar.indexCast v2581
  let c0_1846 : Index := 0#32
  let c1536_1847 : Index := 1536#32
  let c0_1848 : Index := 0#32
  ![v2822.toNat, 0, 1536, 0]
def k0_off81 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2826 : Index := Scalar.indexCast v2581
  let c0_1850 : Index := 0#32
  let c1536_1851 : Index := 1536#32
  ![v2826.toNat, 0, 1536]
def k0_off82 (k0_t1 : Fin k0_t1_loop.trips) : Fin 4 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2842 : Index := Scalar.indexCast v2581
  let c1_1859 : Index := 1#32
  let c1536_1860 : Index := 1536#32
  let c0_1861 : Index := 0#32
  ![v2842.toNat, 1, 1536, 0]
def k0_off83 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2846 : Index := Scalar.indexCast v2581
  let c1_1863 : Index := 1#32
  let c1536_1864 : Index := 1536#32
  ![v2846.toNat, 1, 1536]
def k0_off84 (k0_t1 : Fin k0_t1_loop.trips) : Fin 4 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2862 : Index := Scalar.indexCast v2581
  let c0_1872 : Index := 0#32
  let c1792_1873 : Index := 1792#32
  let c0_1874 : Index := 0#32
  ![v2862.toNat, 0, 1792, 0]
def k0_off85 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2866 : Index := Scalar.indexCast v2581
  let c0_1876 : Index := 0#32
  let c1792_1877 : Index := 1792#32
  ![v2866.toNat, 0, 1792]
def k0_off86 (k0_t1 : Fin k0_t1_loop.trips) : Fin 4 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2882 : Index := Scalar.indexCast v2581
  let c1_1885 : Index := 1#32
  let c1792_1886 : Index := 1792#32
  let c0_1887 : Index := 0#32
  ![v2882.toNat, 1, 1792, 0]
def k0_off87 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c1_i32_1685 : BitVec 32 := 1#32
  let v2580 : BitVec 32 := Scalar.addi v2541 c1_i32_1685
  let c8_i32_1686 : BitVec 32 := 8#32
  let v2581 : BitVec 32 := Scalar.remsi v2580 c8_i32_1686
  let v2886 : Index := Scalar.indexCast v2581
  let c1_1889 : Index := 1#32
  let c1792_1890 : Index := 1792#32
  ![v2886.toNat, 1, 1792]
def k0_off88 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v2943 : Index := Scalar.indexCast v2930
  let c0_1936 : Index := 0#32
  let c0_1937 : Index := 0#32
  ![v2943.toNat, 0, 0]
def k0_off89 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v2954 : Index := Scalar.indexCast v2930
  let c0_1941 : Index := 0#32
  let c128_1942 : Index := 128#32
  ![v2954.toNat, 0, 128]
def k0_off90 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v2965 : Index := Scalar.indexCast v2930
  let c0_1946 : Index := 0#32
  let c256_1947 : Index := 256#32
  ![v2965.toNat, 0, 256]
def k0_off91 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v2976 : Index := Scalar.indexCast v2930
  let c0_1951 : Index := 0#32
  let c384_1952 : Index := 384#32
  ![v2976.toNat, 0, 384]
def k0_off92 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v2987 : Index := Scalar.indexCast v2930
  let c0_1956 : Index := 0#32
  let c512_1957 : Index := 512#32
  ![v2987.toNat, 0, 512]
def k0_off93 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v2998 : Index := Scalar.indexCast v2930
  let c0_1961 : Index := 0#32
  let c640_1962 : Index := 640#32
  ![v2998.toNat, 0, 640]
def k0_off94 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3009 : Index := Scalar.indexCast v2930
  let c0_1966 : Index := 0#32
  let c768_1967 : Index := 768#32
  ![v3009.toNat, 0, 768]
def k0_off95 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3020 : Index := Scalar.indexCast v2930
  let c0_1971 : Index := 0#32
  let c896_1972 : Index := 896#32
  ![v3020.toNat, 0, 896]
def k0_off96 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3031 : Index := Scalar.indexCast v2930
  let c0_1976 : Index := 0#32
  let c1024_1977 : Index := 1024#32
  ![v3031.toNat, 0, 1024]
def k0_off97 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3042 : Index := Scalar.indexCast v2930
  let c0_1981 : Index := 0#32
  let c1152_1982 : Index := 1152#32
  ![v3042.toNat, 0, 1152]
def k0_off98 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3053 : Index := Scalar.indexCast v2930
  let c0_1986 : Index := 0#32
  let c1280_1987 : Index := 1280#32
  ![v3053.toNat, 0, 1280]
def k0_off99 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3064 : Index := Scalar.indexCast v2930
  let c0_1991 : Index := 0#32
  let c1408_1992 : Index := 1408#32
  ![v3064.toNat, 0, 1408]
def k0_off100 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3075 : Index := Scalar.indexCast v2930
  let c0_1996 : Index := 0#32
  let c1536_1997 : Index := 1536#32
  ![v3075.toNat, 0, 1536]
def k0_off101 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3086 : Index := Scalar.indexCast v2930
  let c0_2001 : Index := 0#32
  let c1664_2002 : Index := 1664#32
  ![v3086.toNat, 0, 1664]
def k0_off102 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3097 : Index := Scalar.indexCast v2930
  let c0_2006 : Index := 0#32
  let c1792_2007 : Index := 1792#32
  ![v3097.toNat, 0, 1792]
def k0_off103 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3108 : Index := Scalar.indexCast v2930
  let c0_2011 : Index := 0#32
  let c1920_2012 : Index := 1920#32
  ![v3108.toNat, 0, 1920]
def k0_off104 (k0_t1 : Fin k0_t1_loop.trips) : Fin 4 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3118 : Index := Scalar.indexCast v2930
  let c0_2016 : Index := 0#32
  let c0_2017 : Index := 0#32
  let c0_2018 : Index := 0#32
  ![v3118.toNat, 0, 0, 0]
def k0_off105 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3142 : Index := Scalar.indexCast v2930
  let c1_2040 : Index := 1#32
  let c0_2041 : Index := 0#32
  ![v3142.toNat, 1, 0]
def k0_off106 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3153 : Index := Scalar.indexCast v2930
  let c1_2045 : Index := 1#32
  let c128_2046 : Index := 128#32
  ![v3153.toNat, 1, 128]
def k0_off107 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3164 : Index := Scalar.indexCast v2930
  let c1_2050 : Index := 1#32
  let c256_2051 : Index := 256#32
  ![v3164.toNat, 1, 256]
def k0_off108 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3175 : Index := Scalar.indexCast v2930
  let c1_2055 : Index := 1#32
  let c384_2056 : Index := 384#32
  ![v3175.toNat, 1, 384]
def k0_off109 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3186 : Index := Scalar.indexCast v2930
  let c1_2060 : Index := 1#32
  let c512_2061 : Index := 512#32
  ![v3186.toNat, 1, 512]
def k0_off110 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3197 : Index := Scalar.indexCast v2930
  let c1_2065 : Index := 1#32
  let c640_2066 : Index := 640#32
  ![v3197.toNat, 1, 640]
def k0_off111 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3208 : Index := Scalar.indexCast v2930
  let c1_2070 : Index := 1#32
  let c768_2071 : Index := 768#32
  ![v3208.toNat, 1, 768]
def k0_off112 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3219 : Index := Scalar.indexCast v2930
  let c1_2075 : Index := 1#32
  let c896_2076 : Index := 896#32
  ![v3219.toNat, 1, 896]
def k0_off113 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3230 : Index := Scalar.indexCast v2930
  let c1_2080 : Index := 1#32
  let c1024_2081 : Index := 1024#32
  ![v3230.toNat, 1, 1024]
def k0_off114 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3241 : Index := Scalar.indexCast v2930
  let c1_2085 : Index := 1#32
  let c1152_2086 : Index := 1152#32
  ![v3241.toNat, 1, 1152]
def k0_off115 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3252 : Index := Scalar.indexCast v2930
  let c1_2090 : Index := 1#32
  let c1280_2091 : Index := 1280#32
  ![v3252.toNat, 1, 1280]
def k0_off116 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3263 : Index := Scalar.indexCast v2930
  let c1_2095 : Index := 1#32
  let c1408_2096 : Index := 1408#32
  ![v3263.toNat, 1, 1408]
def k0_off117 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3274 : Index := Scalar.indexCast v2930
  let c1_2100 : Index := 1#32
  let c1536_2101 : Index := 1536#32
  ![v3274.toNat, 1, 1536]
def k0_off118 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3285 : Index := Scalar.indexCast v2930
  let c1_2105 : Index := 1#32
  let c1664_2106 : Index := 1664#32
  ![v3285.toNat, 1, 1664]
def k0_off119 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3296 : Index := Scalar.indexCast v2930
  let c1_2110 : Index := 1#32
  let c1792_2111 : Index := 1792#32
  ![v3296.toNat, 1, 1792]
def k0_off120 (k0_t1 : Fin k0_t1_loop.trips) : Fin 3 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3307 : Index := Scalar.indexCast v2930
  let c1_2115 : Index := 1#32
  let c1920_2116 : Index := 1920#32
  ![v3307.toNat, 1, 1920]
def k0_off121 (k0_t1 : Fin k0_t1_loop.trips) : Fin 4 → Nat :=
  let c2_i32_1656 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v2541 : BitVec 32 := Scalar.muli c2_i32_1656 v2540
  let c8_i32_1921 : BitVec 32 := 8#32
  let v2930 : BitVec 32 := Scalar.remsi v2541 c8_i32_1921
  let v3317 : Index := Scalar.indexCast v2930
  let c1_2120 : Index := 1#32
  let c0_2121 : Index := 0#32
  let c0_2122 : Index := 0#32
  ![v3317.toNat, 1, 0, 0]
def k0_mult22 (k0_t1 : Fin k0_t1_loop.trips) : BitVec 32 :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2132 : BitVec 32 := 1#32
  let v3331 : BitVec 32 := Scalar.addi v3330 c1_i32_2132
  let c2048_i32_2134 : BitVec 32 := 2048#32
  let v3333 : BitVec 32 := Scalar.muli v3331 c2048_i32_2134
  v3333
def k0_off122 (k0_t1 : Fin k0_t1_loop.trips) : Fin 1 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2132 : BitVec 32 := 1#32
  let v3331 : BitVec 32 := Scalar.addi v3330 c1_i32_2132
  let c8_i32_2133 : BitVec 32 := 8#32
  let v3332 : BitVec 32 := Scalar.remsi v3331 c8_i32_2133
  ![v3332.toNat]
def k0_off123 (k0_t1 : Fin k0_t1_loop.trips) : Fin 4 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2132 : BitVec 32 := 1#32
  let v3331 : BitVec 32 := Scalar.addi v3330 c1_i32_2132
  let c8_i32_2133 : BitVec 32 := 8#32
  let v3332 : BitVec 32 := Scalar.remsi v3331 c8_i32_2133
  let c0_i32_2135 : BitVec 32 := 0#32
  let c0_i32_2136 : BitVec 32 := 0#32
  let c0_i32_2137 : BitVec 32 := 0#32
  ![v3332.toNat, 0, 0, 0]
def k0_off124 (k0_t1 : Fin k0_t1_loop.trips) : Fin 3 → Nat :=
  let c0_i32_2138 : BitVec 32 := 0#32
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2132 : BitVec 32 := 1#32
  let v3331 : BitVec 32 := Scalar.addi v3330 c1_i32_2132
  let c2048_i32_2134 : BitVec 32 := 2048#32
  let v3333 : BitVec 32 := Scalar.muli v3331 c2048_i32_2134
  let v3334 : BitVec 32 := v3333
  let c0_i32_2139 : BitVec 32 := 0#32
  ![0, v3334.toNat, 0]
def k0_off125 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2132 : BitVec 32 := 1#32
  let v3331 : BitVec 32 := Scalar.addi v3330 c1_i32_2132
  let c8_i32_2133 : BitVec 32 := 8#32
  let v3332 : BitVec 32 := Scalar.remsi v3331 c8_i32_2133
  let c0_i32_2140 : BitVec 32 := 0#32
  let c0_i32_2141 : BitVec 32 := 0#32
  ![v3332.toNat, 0, 0]
def k0_off126 (k0_t1 : Fin k0_t1_loop.trips) : Fin 2 → Nat :=
  let c0_i32_2142 : BitVec 32 := 0#32
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2132 : BitVec 32 := 1#32
  let v3331 : BitVec 32 := Scalar.addi v3330 c1_i32_2132
  let c2048_i32_2134 : BitVec 32 := 2048#32
  let v3333 : BitVec 32 := Scalar.muli v3331 c2048_i32_2134
  let v3334 : BitVec 32 := v3333
  ![0, v3334.toNat]
def k0_mult23 (k0_t1 : Fin k0_t1_loop.trips) : BitVec 32 :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c2048_i32_2144 : BitVec 32 := 2048#32
  let v3346 : BitVec 32 := Scalar.muli v3330 c2048_i32_2144
  v3346
def k0_cond3 (k0_t1 : Fin k0_t1_loop.trips) : BitVec 1 :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2153 : BitVec 32 := 8#32
  let v3358 : BitVec 32 := Scalar.addi v3330 c8_i32_2153
  let c32_i32_2154 : BitVec 32 := 32#32
  let v3359 : BitVec 1 := Scalar.cmpi .slt v3358 c32_i32_2154
  let v3360 : BitVec 32 := Scalar.extui v3359
  let c0_i32_2155 : BitVec 32 := 0#32
  let v3361 : BitVec 1 := Scalar.cmpi .ne v3360 c0_i32_2155
  v3361

def k0_mult24 (k0_t1 : Fin k0_t1_loop.trips) : BitVec 32 :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2606 : BitVec 32 := 8#32
  let v4118 : BitVec 32 := Scalar.addi v3330 c8_i32_2606
  let c2048_i32_2608 : BitVec 32 := 2048#32
  let v4120 : BitVec 32 := Scalar.muli v4118 c2048_i32_2608
  v4120
def k0_off127 (k0_t1 : Fin k0_t1_loop.trips) : Fin 1 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2606 : BitVec 32 := 8#32
  let v4118 : BitVec 32 := Scalar.addi v3330 c8_i32_2606
  let c8_i32_2607 : BitVec 32 := 8#32
  let v4119 : BitVec 32 := Scalar.remsi v4118 c8_i32_2607
  ![v4119.toNat]
def k0_off128 (k0_t1 : Fin k0_t1_loop.trips) : Fin 4 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2606 : BitVec 32 := 8#32
  let v4118 : BitVec 32 := Scalar.addi v3330 c8_i32_2606
  let c8_i32_2607 : BitVec 32 := 8#32
  let v4119 : BitVec 32 := Scalar.remsi v4118 c8_i32_2607
  let c0_i32_2609 : BitVec 32 := 0#32
  let c0_i32_2610 : BitVec 32 := 0#32
  let c0_i32_2611 : BitVec 32 := 0#32
  ![v4119.toNat, 0, 0, 0]
def k0_off129 (k0_t1 : Fin k0_t1_loop.trips) : Fin 3 → Nat :=
  let c0_i32_2612 : BitVec 32 := 0#32
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2606 : BitVec 32 := 8#32
  let v4118 : BitVec 32 := Scalar.addi v3330 c8_i32_2606
  let c2048_i32_2608 : BitVec 32 := 2048#32
  let v4120 : BitVec 32 := Scalar.muli v4118 c2048_i32_2608
  let v4121 : BitVec 32 := v4120
  let c0_i32_2613 : BitVec 32 := 0#32
  ![0, v4121.toNat, 0]
def k0_off130 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2606 : BitVec 32 := 8#32
  let v4118 : BitVec 32 := Scalar.addi v3330 c8_i32_2606
  let c8_i32_2607 : BitVec 32 := 8#32
  let v4119 : BitVec 32 := Scalar.remsi v4118 c8_i32_2607
  let c0_i32_2614 : BitVec 32 := 0#32
  let c0_i32_2615 : BitVec 32 := 0#32
  ![v4119.toNat, 0, 0]
def k0_off131 (k0_t1 : Fin k0_t1_loop.trips) : Fin 2 → Nat :=
  let c0_i32_2616 : BitVec 32 := 0#32
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2606 : BitVec 32 := 8#32
  let v4118 : BitVec 32 := Scalar.addi v3330 c8_i32_2606
  let c2048_i32_2608 : BitVec 32 := 2048#32
  let v4120 : BitVec 32 := Scalar.muli v4118 c2048_i32_2608
  let v4121 : BitVec 32 := v4120
  ![0, v4121.toNat]
def k0_cond4 (k0_t1 : Fin k0_t1_loop.trips) : BitVec 1 :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2156 : BitVec 32 := 1#32
  let v3362 : BitVec 1 := Scalar.cmpi .sge v3330 c1_i32_2156
  let c8_i32_2157 : BitVec 32 := 8#32
  let v3363 : BitVec 32 := Scalar.addi v3330 c8_i32_2157
  let c1_i32_2158 : BitVec 32 := 1#32
  let v3364 : BitVec 32 := Scalar.subi v3363 c1_i32_2158
  let c32_i32_2159 : BitVec 32 := 32#32
  let v3365 : BitVec 1 := Scalar.cmpi .slt v3364 c32_i32_2159
  let v3366 : BitVec 1 := Scalar.andi v3362 v3365
  let v3367 : BitVec 32 := Scalar.extui v3366
  let c0_i32_2160 : BitVec 32 := 0#32
  let v3368 : BitVec 1 := Scalar.cmpi .ne v3367 c0_i32_2160
  v3368

def k0_mult25 (k0_t1 : Fin k0_t1_loop.trips) : BitVec 32 :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2606 : BitVec 32 := 8#32
  let v4118 : BitVec 32 := Scalar.addi v3330 c8_i32_2606
  let c1_i32_2607 : BitVec 32 := 1#32
  let v4119 : BitVec 32 := Scalar.subi v4118 c1_i32_2607
  let c2048_i32_2609 : BitVec 32 := 2048#32
  let v4121 : BitVec 32 := Scalar.muli v4119 c2048_i32_2609
  v4121
def k0_off132 (k0_t1 : Fin k0_t1_loop.trips) : Fin 1 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2606 : BitVec 32 := 8#32
  let v4118 : BitVec 32 := Scalar.addi v3330 c8_i32_2606
  let c1_i32_2607 : BitVec 32 := 1#32
  let v4119 : BitVec 32 := Scalar.subi v4118 c1_i32_2607
  let c8_i32_2608 : BitVec 32 := 8#32
  let v4120 : BitVec 32 := Scalar.remsi v4119 c8_i32_2608
  ![v4120.toNat]
def k0_off133 (k0_t1 : Fin k0_t1_loop.trips) : Fin 4 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2606 : BitVec 32 := 8#32
  let v4118 : BitVec 32 := Scalar.addi v3330 c8_i32_2606
  let c1_i32_2607 : BitVec 32 := 1#32
  let v4119 : BitVec 32 := Scalar.subi v4118 c1_i32_2607
  let c8_i32_2608 : BitVec 32 := 8#32
  let v4120 : BitVec 32 := Scalar.remsi v4119 c8_i32_2608
  let c0_i32_2610 : BitVec 32 := 0#32
  let c0_i32_2611 : BitVec 32 := 0#32
  let c0_i32_2612 : BitVec 32 := 0#32
  ![v4120.toNat, 0, 0, 0]
def k0_off134 (k0_t1 : Fin k0_t1_loop.trips) : Fin 3 → Nat :=
  let c0_i32_2613 : BitVec 32 := 0#32
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2606 : BitVec 32 := 8#32
  let v4118 : BitVec 32 := Scalar.addi v3330 c8_i32_2606
  let c1_i32_2607 : BitVec 32 := 1#32
  let v4119 : BitVec 32 := Scalar.subi v4118 c1_i32_2607
  let c2048_i32_2609 : BitVec 32 := 2048#32
  let v4121 : BitVec 32 := Scalar.muli v4119 c2048_i32_2609
  let v4122 : BitVec 32 := v4121
  let c0_i32_2614 : BitVec 32 := 0#32
  ![0, v4122.toNat, 0]
def k0_off135 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2606 : BitVec 32 := 8#32
  let v4118 : BitVec 32 := Scalar.addi v3330 c8_i32_2606
  let c1_i32_2607 : BitVec 32 := 1#32
  let v4119 : BitVec 32 := Scalar.subi v4118 c1_i32_2607
  let c8_i32_2608 : BitVec 32 := 8#32
  let v4120 : BitVec 32 := Scalar.remsi v4119 c8_i32_2608
  let c0_i32_2615 : BitVec 32 := 0#32
  let c0_i32_2616 : BitVec 32 := 0#32
  ![v4120.toNat, 0, 0]
def k0_off136 (k0_t1 : Fin k0_t1_loop.trips) : Fin 2 → Nat :=
  let c0_i32_2617 : BitVec 32 := 0#32
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2606 : BitVec 32 := 8#32
  let v4118 : BitVec 32 := Scalar.addi v3330 c8_i32_2606
  let c1_i32_2607 : BitVec 32 := 1#32
  let v4119 : BitVec 32 := Scalar.subi v4118 c1_i32_2607
  let c2048_i32_2609 : BitVec 32 := 2048#32
  let v4121 : BitVec 32 := Scalar.muli v4119 c2048_i32_2609
  let v4122 : BitVec 32 := v4121
  ![0, v4122.toNat]
def k0_off137 (k0_t1 : Fin k0_t1_loop.trips) : Fin 4 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3373 : Index := Scalar.indexCast v3370
  let c0_2166 : Index := 0#32
  let c0_2167 : Index := 0#32
  let c0_2168 : Index := 0#32
  ![v3373.toNat, 0, 0, 0]
def k0_off138 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3377 : Index := Scalar.indexCast v3370
  let c0_2170 : Index := 0#32
  let c0_2171 : Index := 0#32
  ![v3377.toNat, 0, 0]
def k0_off139 (k0_t1 : Fin k0_t1_loop.trips) : Fin 4 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3392 : Index := Scalar.indexCast v3370
  let c1_2179 : Index := 1#32
  let c0_2180 : Index := 0#32
  let c0_2181 : Index := 0#32
  ![v3392.toNat, 1, 0, 0]
def k0_off140 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3396 : Index := Scalar.indexCast v3370
  let c1_2183 : Index := 1#32
  let c0_2184 : Index := 0#32
  ![v3396.toNat, 1, 0]
def k0_off141 (k0_t1 : Fin k0_t1_loop.trips) : Fin 4 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3411 : Index := Scalar.indexCast v3370
  let c0_2192 : Index := 0#32
  let c256_2193 : Index := 256#32
  let c0_2194 : Index := 0#32
  ![v3411.toNat, 0, 256, 0]
def k0_off142 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3415 : Index := Scalar.indexCast v3370
  let c0_2196 : Index := 0#32
  let c256_2197 : Index := 256#32
  ![v3415.toNat, 0, 256]
def k0_off143 (k0_t1 : Fin k0_t1_loop.trips) : Fin 4 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3431 : Index := Scalar.indexCast v3370
  let c1_2205 : Index := 1#32
  let c256_2206 : Index := 256#32
  let c0_2207 : Index := 0#32
  ![v3431.toNat, 1, 256, 0]
def k0_off144 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3435 : Index := Scalar.indexCast v3370
  let c1_2209 : Index := 1#32
  let c256_2210 : Index := 256#32
  ![v3435.toNat, 1, 256]
def k0_off145 (k0_t1 : Fin k0_t1_loop.trips) : Fin 4 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3451 : Index := Scalar.indexCast v3370
  let c0_2218 : Index := 0#32
  let c512_2219 : Index := 512#32
  let c0_2220 : Index := 0#32
  ![v3451.toNat, 0, 512, 0]
def k0_off146 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3455 : Index := Scalar.indexCast v3370
  let c0_2222 : Index := 0#32
  let c512_2223 : Index := 512#32
  ![v3455.toNat, 0, 512]
def k0_off147 (k0_t1 : Fin k0_t1_loop.trips) : Fin 4 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3471 : Index := Scalar.indexCast v3370
  let c1_2231 : Index := 1#32
  let c512_2232 : Index := 512#32
  let c0_2233 : Index := 0#32
  ![v3471.toNat, 1, 512, 0]
def k0_off148 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3475 : Index := Scalar.indexCast v3370
  let c1_2235 : Index := 1#32
  let c512_2236 : Index := 512#32
  ![v3475.toNat, 1, 512]
def k0_off149 (k0_t1 : Fin k0_t1_loop.trips) : Fin 4 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3491 : Index := Scalar.indexCast v3370
  let c0_2244 : Index := 0#32
  let c768_2245 : Index := 768#32
  let c0_2246 : Index := 0#32
  ![v3491.toNat, 0, 768, 0]
def k0_off150 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3495 : Index := Scalar.indexCast v3370
  let c0_2248 : Index := 0#32
  let c768_2249 : Index := 768#32
  ![v3495.toNat, 0, 768]
def k0_off151 (k0_t1 : Fin k0_t1_loop.trips) : Fin 4 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3511 : Index := Scalar.indexCast v3370
  let c1_2257 : Index := 1#32
  let c768_2258 : Index := 768#32
  let c0_2259 : Index := 0#32
  ![v3511.toNat, 1, 768, 0]
def k0_off152 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3515 : Index := Scalar.indexCast v3370
  let c1_2261 : Index := 1#32
  let c768_2262 : Index := 768#32
  ![v3515.toNat, 1, 768]
def k0_off153 (k0_t1 : Fin k0_t1_loop.trips) : Fin 4 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3531 : Index := Scalar.indexCast v3370
  let c0_2270 : Index := 0#32
  let c1024_2271 : Index := 1024#32
  let c0_2272 : Index := 0#32
  ![v3531.toNat, 0, 1024, 0]
def k0_off154 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3535 : Index := Scalar.indexCast v3370
  let c0_2274 : Index := 0#32
  let c1024_2275 : Index := 1024#32
  ![v3535.toNat, 0, 1024]
def k0_off155 (k0_t1 : Fin k0_t1_loop.trips) : Fin 4 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3551 : Index := Scalar.indexCast v3370
  let c1_2283 : Index := 1#32
  let c1024_2284 : Index := 1024#32
  let c0_2285 : Index := 0#32
  ![v3551.toNat, 1, 1024, 0]
def k0_off156 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3555 : Index := Scalar.indexCast v3370
  let c1_2287 : Index := 1#32
  let c1024_2288 : Index := 1024#32
  ![v3555.toNat, 1, 1024]
def k0_off157 (k0_t1 : Fin k0_t1_loop.trips) : Fin 4 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3571 : Index := Scalar.indexCast v3370
  let c0_2296 : Index := 0#32
  let c1280_2297 : Index := 1280#32
  let c0_2298 : Index := 0#32
  ![v3571.toNat, 0, 1280, 0]
def k0_off158 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3575 : Index := Scalar.indexCast v3370
  let c0_2300 : Index := 0#32
  let c1280_2301 : Index := 1280#32
  ![v3575.toNat, 0, 1280]
def k0_off159 (k0_t1 : Fin k0_t1_loop.trips) : Fin 4 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3591 : Index := Scalar.indexCast v3370
  let c1_2309 : Index := 1#32
  let c1280_2310 : Index := 1280#32
  let c0_2311 : Index := 0#32
  ![v3591.toNat, 1, 1280, 0]
def k0_off160 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3595 : Index := Scalar.indexCast v3370
  let c1_2313 : Index := 1#32
  let c1280_2314 : Index := 1280#32
  ![v3595.toNat, 1, 1280]
def k0_off161 (k0_t1 : Fin k0_t1_loop.trips) : Fin 4 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3611 : Index := Scalar.indexCast v3370
  let c0_2322 : Index := 0#32
  let c1536_2323 : Index := 1536#32
  let c0_2324 : Index := 0#32
  ![v3611.toNat, 0, 1536, 0]
def k0_off162 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3615 : Index := Scalar.indexCast v3370
  let c0_2326 : Index := 0#32
  let c1536_2327 : Index := 1536#32
  ![v3615.toNat, 0, 1536]
def k0_off163 (k0_t1 : Fin k0_t1_loop.trips) : Fin 4 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3631 : Index := Scalar.indexCast v3370
  let c1_2335 : Index := 1#32
  let c1536_2336 : Index := 1536#32
  let c0_2337 : Index := 0#32
  ![v3631.toNat, 1, 1536, 0]
def k0_off164 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3635 : Index := Scalar.indexCast v3370
  let c1_2339 : Index := 1#32
  let c1536_2340 : Index := 1536#32
  ![v3635.toNat, 1, 1536]
def k0_off165 (k0_t1 : Fin k0_t1_loop.trips) : Fin 4 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3651 : Index := Scalar.indexCast v3370
  let c0_2348 : Index := 0#32
  let c1792_2349 : Index := 1792#32
  let c0_2350 : Index := 0#32
  ![v3651.toNat, 0, 1792, 0]
def k0_off166 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3655 : Index := Scalar.indexCast v3370
  let c0_2352 : Index := 0#32
  let c1792_2353 : Index := 1792#32
  ![v3655.toNat, 0, 1792]
def k0_off167 (k0_t1 : Fin k0_t1_loop.trips) : Fin 4 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3671 : Index := Scalar.indexCast v3370
  let c1_2361 : Index := 1#32
  let c1792_2362 : Index := 1792#32
  let c0_2363 : Index := 0#32
  ![v3671.toNat, 1, 1792, 0]
def k0_off168 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c1_i32_2161 : BitVec 32 := 1#32
  let v3369 : BitVec 32 := Scalar.addi v3330 c1_i32_2161
  let c8_i32_2162 : BitVec 32 := 8#32
  let v3370 : BitVec 32 := Scalar.remsi v3369 c8_i32_2162
  let v3675 : Index := Scalar.indexCast v3370
  let c1_2365 : Index := 1#32
  let c1792_2366 : Index := 1792#32
  ![v3675.toNat, 1, 1792]
def k0_off169 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3732 : Index := Scalar.indexCast v3719
  let c0_2412 : Index := 0#32
  let c0_2413 : Index := 0#32
  ![v3732.toNat, 0, 0]
def k0_off170 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3743 : Index := Scalar.indexCast v3719
  let c0_2417 : Index := 0#32
  let c128_2418 : Index := 128#32
  ![v3743.toNat, 0, 128]
def k0_off171 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3754 : Index := Scalar.indexCast v3719
  let c0_2422 : Index := 0#32
  let c256_2423 : Index := 256#32
  ![v3754.toNat, 0, 256]
def k0_off172 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3765 : Index := Scalar.indexCast v3719
  let c0_2427 : Index := 0#32
  let c384_2428 : Index := 384#32
  ![v3765.toNat, 0, 384]
def k0_off173 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3776 : Index := Scalar.indexCast v3719
  let c0_2432 : Index := 0#32
  let c512_2433 : Index := 512#32
  ![v3776.toNat, 0, 512]
def k0_off174 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3787 : Index := Scalar.indexCast v3719
  let c0_2437 : Index := 0#32
  let c640_2438 : Index := 640#32
  ![v3787.toNat, 0, 640]
def k0_off175 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3798 : Index := Scalar.indexCast v3719
  let c0_2442 : Index := 0#32
  let c768_2443 : Index := 768#32
  ![v3798.toNat, 0, 768]
def k0_off176 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3809 : Index := Scalar.indexCast v3719
  let c0_2447 : Index := 0#32
  let c896_2448 : Index := 896#32
  ![v3809.toNat, 0, 896]
def k0_off177 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3820 : Index := Scalar.indexCast v3719
  let c0_2452 : Index := 0#32
  let c1024_2453 : Index := 1024#32
  ![v3820.toNat, 0, 1024]
def k0_off178 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3831 : Index := Scalar.indexCast v3719
  let c0_2457 : Index := 0#32
  let c1152_2458 : Index := 1152#32
  ![v3831.toNat, 0, 1152]
def k0_off179 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3842 : Index := Scalar.indexCast v3719
  let c0_2462 : Index := 0#32
  let c1280_2463 : Index := 1280#32
  ![v3842.toNat, 0, 1280]
def k0_off180 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3853 : Index := Scalar.indexCast v3719
  let c0_2467 : Index := 0#32
  let c1408_2468 : Index := 1408#32
  ![v3853.toNat, 0, 1408]
def k0_off181 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3864 : Index := Scalar.indexCast v3719
  let c0_2472 : Index := 0#32
  let c1536_2473 : Index := 1536#32
  ![v3864.toNat, 0, 1536]
def k0_off182 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3875 : Index := Scalar.indexCast v3719
  let c0_2477 : Index := 0#32
  let c1664_2478 : Index := 1664#32
  ![v3875.toNat, 0, 1664]
def k0_off183 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3886 : Index := Scalar.indexCast v3719
  let c0_2482 : Index := 0#32
  let c1792_2483 : Index := 1792#32
  ![v3886.toNat, 0, 1792]
def k0_off184 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3897 : Index := Scalar.indexCast v3719
  let c0_2487 : Index := 0#32
  let c1920_2488 : Index := 1920#32
  ![v3897.toNat, 0, 1920]
def k0_off185 (k0_t1 : Fin k0_t1_loop.trips) : Fin 4 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3907 : Index := Scalar.indexCast v3719
  let c0_2492 : Index := 0#32
  let c0_2493 : Index := 0#32
  let c0_2494 : Index := 0#32
  ![v3907.toNat, 0, 0, 0]
def k0_off186 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3931 : Index := Scalar.indexCast v3719
  let c1_2516 : Index := 1#32
  let c0_2517 : Index := 0#32
  ![v3931.toNat, 1, 0]
def k0_off187 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3942 : Index := Scalar.indexCast v3719
  let c1_2521 : Index := 1#32
  let c128_2522 : Index := 128#32
  ![v3942.toNat, 1, 128]
def k0_off188 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3953 : Index := Scalar.indexCast v3719
  let c1_2526 : Index := 1#32
  let c256_2527 : Index := 256#32
  ![v3953.toNat, 1, 256]
def k0_off189 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3964 : Index := Scalar.indexCast v3719
  let c1_2531 : Index := 1#32
  let c384_2532 : Index := 384#32
  ![v3964.toNat, 1, 384]
def k0_off190 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3975 : Index := Scalar.indexCast v3719
  let c1_2536 : Index := 1#32
  let c512_2537 : Index := 512#32
  ![v3975.toNat, 1, 512]
def k0_off191 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3986 : Index := Scalar.indexCast v3719
  let c1_2541 : Index := 1#32
  let c640_2542 : Index := 640#32
  ![v3986.toNat, 1, 640]
def k0_off192 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v3997 : Index := Scalar.indexCast v3719
  let c1_2546 : Index := 1#32
  let c768_2547 : Index := 768#32
  ![v3997.toNat, 1, 768]
def k0_off193 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v4008 : Index := Scalar.indexCast v3719
  let c1_2551 : Index := 1#32
  let c896_2552 : Index := 896#32
  ![v4008.toNat, 1, 896]
def k0_off194 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v4019 : Index := Scalar.indexCast v3719
  let c1_2556 : Index := 1#32
  let c1024_2557 : Index := 1024#32
  ![v4019.toNat, 1, 1024]
def k0_off195 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v4030 : Index := Scalar.indexCast v3719
  let c1_2561 : Index := 1#32
  let c1152_2562 : Index := 1152#32
  ![v4030.toNat, 1, 1152]
def k0_off196 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v4041 : Index := Scalar.indexCast v3719
  let c1_2566 : Index := 1#32
  let c1280_2567 : Index := 1280#32
  ![v4041.toNat, 1, 1280]
def k0_off197 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v4052 : Index := Scalar.indexCast v3719
  let c1_2571 : Index := 1#32
  let c1408_2572 : Index := 1408#32
  ![v4052.toNat, 1, 1408]
def k0_off198 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v4063 : Index := Scalar.indexCast v3719
  let c1_2576 : Index := 1#32
  let c1536_2577 : Index := 1536#32
  ![v4063.toNat, 1, 1536]
def k0_off199 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v4074 : Index := Scalar.indexCast v3719
  let c1_2581 : Index := 1#32
  let c1664_2582 : Index := 1664#32
  ![v4074.toNat, 1, 1664]
def k0_off200 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v4085 : Index := Scalar.indexCast v3719
  let c1_2586 : Index := 1#32
  let c1792_2587 : Index := 1792#32
  ![v4085.toNat, 1, 1792]
def k0_off201 (k0_t1 : Fin k0_t1_loop.trips) : Fin 3 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v4096 : Index := Scalar.indexCast v3719
  let c1_2591 : Index := 1#32
  let c1920_2592 : Index := 1920#32
  ![v4096.toNat, 1, 1920]
def k0_off202 (k0_t1 : Fin k0_t1_loop.trips) : Fin 4 → Nat :=
  let c2_i32_2130 : BitVec 32 := 2#32
  let c0_i32_1655 : BitVec 32 := 0#32
  let c0_i32_532 : BitVec 32 := 0#32
  let c1_i32_533 : BitVec 32 := 1#32
  let arg31 : BitVec 32 := Scf.iv c0_i32_532 c1_i32_533 k0_t1
  let c1_i32_1654 : BitVec 32 := 1#32
  let v2539 : BitVec 32 := Scalar.muli arg31 c1_i32_1654
  let v2540 : BitVec 32 := Scalar.addi c0_i32_1655 v2539
  let v3329 : BitVec 32 := Scalar.muli c2_i32_2130 v2540
  let c1_i32_2131 : BitVec 32 := 1#32
  let v3330 : BitVec 32 := Scalar.addi v3329 c1_i32_2131
  let c8_i32_2397 : BitVec 32 := 8#32
  let v3719 : BitVec 32 := Scalar.remsi v3330 c8_i32_2397
  let v4106 : Index := Scalar.indexCast v3719
  let c1_2596 : Index := 1#32
  let c0_2597 : Index := 0#32
  let c0_2598 : Index := 0#32
  ![v4106.toNat, 1, 0, 0]
def k0_mult26 : BitVec 32 :=
  let c63488_i32 : BitVec 32 := 63488#32
  c63488_i32
def k0_mult27 : BitVec 32 :=
  let c61440_i32 : BitVec 32 := 61440#32
  c61440_i32
def k0_off203 (c30_i32_789 : BitVec 32) : Fin 3 → Nat :=
  let c8_i32_790 : BitVec 32 := 8#32
  let v1153 : BitVec 32 := Scalar.remsi c30_i32_789 c8_i32_790
  let v1166 : Index := Scalar.indexCast v1153
  let c0_805 : Index := 0#32
  let c0_806 : Index := 0#32
  ![v1166.toNat, 0, 0]
def k0_off204 (c30_i32_789 : BitVec 32) : Fin 3 → Nat :=
  let c8_i32_790 : BitVec 32 := 8#32
  let v1153 : BitVec 32 := Scalar.remsi c30_i32_789 c8_i32_790
  let v1177 : Index := Scalar.indexCast v1153
  let c0_809 : Index := 0#32
  let c128_810 : Index := 128#32
  ![v1177.toNat, 0, 128]
def k0_off205 (c30_i32_789 : BitVec 32) : Fin 3 → Nat :=
  let c8_i32_790 : BitVec 32 := 8#32
  let v1153 : BitVec 32 := Scalar.remsi c30_i32_789 c8_i32_790
  let v1188 : Index := Scalar.indexCast v1153
  let c0_814 : Index := 0#32
  let c256_815 : Index := 256#32
  ![v1188.toNat, 0, 256]
def k0_off206 (c30_i32_789 : BitVec 32) : Fin 3 → Nat :=
  let c8_i32_790 : BitVec 32 := 8#32
  let v1153 : BitVec 32 := Scalar.remsi c30_i32_789 c8_i32_790
  let v1199 : Index := Scalar.indexCast v1153
  let c0_818 : Index := 0#32
  let c384_819 : Index := 384#32
  ![v1199.toNat, 0, 384]
def k0_off207 (c30_i32_789 : BitVec 32) : Fin 3 → Nat :=
  let c8_i32_790 : BitVec 32 := 8#32
  let v1153 : BitVec 32 := Scalar.remsi c30_i32_789 c8_i32_790
  let v1210 : Index := Scalar.indexCast v1153
  let c0_823 : Index := 0#32
  let c512_824 : Index := 512#32
  ![v1210.toNat, 0, 512]
def k0_off208 (c30_i32_789 : BitVec 32) : Fin 3 → Nat :=
  let c8_i32_790 : BitVec 32 := 8#32
  let v1153 : BitVec 32 := Scalar.remsi c30_i32_789 c8_i32_790
  let v1221 : Index := Scalar.indexCast v1153
  let c0_827 : Index := 0#32
  let c640_828 : Index := 640#32
  ![v1221.toNat, 0, 640]
def k0_off209 (c30_i32_789 : BitVec 32) : Fin 3 → Nat :=
  let c8_i32_790 : BitVec 32 := 8#32
  let v1153 : BitVec 32 := Scalar.remsi c30_i32_789 c8_i32_790
  let v1232 : Index := Scalar.indexCast v1153
  let c0_832 : Index := 0#32
  let c768_833 : Index := 768#32
  ![v1232.toNat, 0, 768]
def k0_off210 (c30_i32_789 : BitVec 32) : Fin 3 → Nat :=
  let c8_i32_790 : BitVec 32 := 8#32
  let v1153 : BitVec 32 := Scalar.remsi c30_i32_789 c8_i32_790
  let v1243 : Index := Scalar.indexCast v1153
  let c0_836 : Index := 0#32
  let c896_837 : Index := 896#32
  ![v1243.toNat, 0, 896]
def k0_off211 (c30_i32_789 : BitVec 32) : Fin 3 → Nat :=
  let c8_i32_790 : BitVec 32 := 8#32
  let v1153 : BitVec 32 := Scalar.remsi c30_i32_789 c8_i32_790
  let v1254 : Index := Scalar.indexCast v1153
  let c0_841 : Index := 0#32
  let c1024_842 : Index := 1024#32
  ![v1254.toNat, 0, 1024]
def k0_off212 (c30_i32_789 : BitVec 32) : Fin 3 → Nat :=
  let c8_i32_790 : BitVec 32 := 8#32
  let v1153 : BitVec 32 := Scalar.remsi c30_i32_789 c8_i32_790
  let v1265 : Index := Scalar.indexCast v1153
  let c0_845 : Index := 0#32
  let c1152_846 : Index := 1152#32
  ![v1265.toNat, 0, 1152]
def k0_off213 (c30_i32_789 : BitVec 32) : Fin 3 → Nat :=
  let c8_i32_790 : BitVec 32 := 8#32
  let v1153 : BitVec 32 := Scalar.remsi c30_i32_789 c8_i32_790
  let v1276 : Index := Scalar.indexCast v1153
  let c0_850 : Index := 0#32
  let c1280_851 : Index := 1280#32
  ![v1276.toNat, 0, 1280]
def k0_off214 (c30_i32_789 : BitVec 32) : Fin 3 → Nat :=
  let c8_i32_790 : BitVec 32 := 8#32
  let v1153 : BitVec 32 := Scalar.remsi c30_i32_789 c8_i32_790
  let v1287 : Index := Scalar.indexCast v1153
  let c0_854 : Index := 0#32
  let c1408_855 : Index := 1408#32
  ![v1287.toNat, 0, 1408]
def k0_off215 (c30_i32_789 : BitVec 32) : Fin 3 → Nat :=
  let c8_i32_790 : BitVec 32 := 8#32
  let v1153 : BitVec 32 := Scalar.remsi c30_i32_789 c8_i32_790
  let v1298 : Index := Scalar.indexCast v1153
  let c0_859 : Index := 0#32
  let c1536_860 : Index := 1536#32
  ![v1298.toNat, 0, 1536]
def k0_off216 (c30_i32_789 : BitVec 32) : Fin 3 → Nat :=
  let c8_i32_790 : BitVec 32 := 8#32
  let v1153 : BitVec 32 := Scalar.remsi c30_i32_789 c8_i32_790
  let v1309 : Index := Scalar.indexCast v1153
  let c0_863 : Index := 0#32
  let c1664_864 : Index := 1664#32
  ![v1309.toNat, 0, 1664]
def k0_off217 (c30_i32_789 : BitVec 32) : Fin 3 → Nat :=
  let c8_i32_790 : BitVec 32 := 8#32
  let v1153 : BitVec 32 := Scalar.remsi c30_i32_789 c8_i32_790
  let v1320 : Index := Scalar.indexCast v1153
  let c0_868 : Index := 0#32
  let c1792_869 : Index := 1792#32
  ![v1320.toNat, 0, 1792]
def k0_off218 (c30_i32_789 : BitVec 32) : Fin 3 → Nat :=
  let c8_i32_790 : BitVec 32 := 8#32
  let v1153 : BitVec 32 := Scalar.remsi c30_i32_789 c8_i32_790
  let v1331 : Index := Scalar.indexCast v1153
  let c0_872 : Index := 0#32
  let c1920_873 : Index := 1920#32
  ![v1331.toNat, 0, 1920]
def k0_off219 (c30_i32_789 : BitVec 32) : Fin 4 → Nat :=
  let c8_i32_790 : BitVec 32 := 8#32
  let v1153 : BitVec 32 := Scalar.remsi c30_i32_789 c8_i32_790
  let v1341 : Index := Scalar.indexCast v1153
  let c0_877 : Index := 0#32
  let c0_878 : Index := 0#32
  let c0_879 : Index := 0#32
  ![v1341.toNat, 0, 0, 0]
def k0_off220 (c30_i32_789 : BitVec 32) : Fin 3 → Nat :=
  let c8_i32_790 : BitVec 32 := 8#32
  let v1153 : BitVec 32 := Scalar.remsi c30_i32_789 c8_i32_790
  let v1365 : Index := Scalar.indexCast v1153
  let c1_901 : Index := 1#32
  let c0_902 : Index := 0#32
  ![v1365.toNat, 1, 0]
def k0_off221 (c30_i32_789 : BitVec 32) : Fin 3 → Nat :=
  let c8_i32_790 : BitVec 32 := 8#32
  let v1153 : BitVec 32 := Scalar.remsi c30_i32_789 c8_i32_790
  let v1376 : Index := Scalar.indexCast v1153
  let c1_906 : Index := 1#32
  let c128_907 : Index := 128#32
  ![v1376.toNat, 1, 128]
def k0_off222 (c30_i32_789 : BitVec 32) : Fin 3 → Nat :=
  let c8_i32_790 : BitVec 32 := 8#32
  let v1153 : BitVec 32 := Scalar.remsi c30_i32_789 c8_i32_790
  let v1387 : Index := Scalar.indexCast v1153
  let c1_911 : Index := 1#32
  let c256_912 : Index := 256#32
  ![v1387.toNat, 1, 256]
def k0_off223 (c30_i32_789 : BitVec 32) : Fin 3 → Nat :=
  let c8_i32_790 : BitVec 32 := 8#32
  let v1153 : BitVec 32 := Scalar.remsi c30_i32_789 c8_i32_790
  let v1398 : Index := Scalar.indexCast v1153
  let c1_916 : Index := 1#32
  let c384_917 : Index := 384#32
  ![v1398.toNat, 1, 384]
def k0_off224 (c30_i32_789 : BitVec 32) : Fin 3 → Nat :=
  let c8_i32_790 : BitVec 32 := 8#32
  let v1153 : BitVec 32 := Scalar.remsi c30_i32_789 c8_i32_790
  let v1409 : Index := Scalar.indexCast v1153
  let c1_921 : Index := 1#32
  let c512_922 : Index := 512#32
  ![v1409.toNat, 1, 512]
def k0_off225 (c30_i32_789 : BitVec 32) : Fin 3 → Nat :=
  let c8_i32_790 : BitVec 32 := 8#32
  let v1153 : BitVec 32 := Scalar.remsi c30_i32_789 c8_i32_790
  let v1420 : Index := Scalar.indexCast v1153
  let c1_926 : Index := 1#32
  let c640_927 : Index := 640#32
  ![v1420.toNat, 1, 640]
def k0_off226 (c30_i32_789 : BitVec 32) : Fin 3 → Nat :=
  let c8_i32_790 : BitVec 32 := 8#32
  let v1153 : BitVec 32 := Scalar.remsi c30_i32_789 c8_i32_790
  let v1431 : Index := Scalar.indexCast v1153
  let c1_931 : Index := 1#32
  let c768_932 : Index := 768#32
  ![v1431.toNat, 1, 768]
def k0_off227 (c30_i32_789 : BitVec 32) : Fin 3 → Nat :=
  let c8_i32_790 : BitVec 32 := 8#32
  let v1153 : BitVec 32 := Scalar.remsi c30_i32_789 c8_i32_790
  let v1442 : Index := Scalar.indexCast v1153
  let c1_936 : Index := 1#32
  let c896_937 : Index := 896#32
  ![v1442.toNat, 1, 896]
def k0_off228 (c30_i32_789 : BitVec 32) : Fin 3 → Nat :=
  let c8_i32_790 : BitVec 32 := 8#32
  let v1153 : BitVec 32 := Scalar.remsi c30_i32_789 c8_i32_790
  let v1453 : Index := Scalar.indexCast v1153
  let c1_941 : Index := 1#32
  let c1024_942 : Index := 1024#32
  ![v1453.toNat, 1, 1024]
def k0_off229 (c30_i32_789 : BitVec 32) : Fin 3 → Nat :=
  let c8_i32_790 : BitVec 32 := 8#32
  let v1153 : BitVec 32 := Scalar.remsi c30_i32_789 c8_i32_790
  let v1464 : Index := Scalar.indexCast v1153
  let c1_946 : Index := 1#32
  let c1152_947 : Index := 1152#32
  ![v1464.toNat, 1, 1152]
def k0_off230 (c30_i32_789 : BitVec 32) : Fin 3 → Nat :=
  let c8_i32_790 : BitVec 32 := 8#32
  let v1153 : BitVec 32 := Scalar.remsi c30_i32_789 c8_i32_790
  let v1475 : Index := Scalar.indexCast v1153
  let c1_951 : Index := 1#32
  let c1280_952 : Index := 1280#32
  ![v1475.toNat, 1, 1280]
def k0_off231 (c30_i32_789 : BitVec 32) : Fin 3 → Nat :=
  let c8_i32_790 : BitVec 32 := 8#32
  let v1153 : BitVec 32 := Scalar.remsi c30_i32_789 c8_i32_790
  let v1486 : Index := Scalar.indexCast v1153
  let c1_956 : Index := 1#32
  let c1408_957 : Index := 1408#32
  ![v1486.toNat, 1, 1408]
def k0_off232 (c30_i32_789 : BitVec 32) : Fin 3 → Nat :=
  let c8_i32_790 : BitVec 32 := 8#32
  let v1153 : BitVec 32 := Scalar.remsi c30_i32_789 c8_i32_790
  let v1497 : Index := Scalar.indexCast v1153
  let c1_961 : Index := 1#32
  let c1536_962 : Index := 1536#32
  ![v1497.toNat, 1, 1536]
def k0_off233 (c30_i32_789 : BitVec 32) : Fin 3 → Nat :=
  let c8_i32_790 : BitVec 32 := 8#32
  let v1153 : BitVec 32 := Scalar.remsi c30_i32_789 c8_i32_790
  let v1508 : Index := Scalar.indexCast v1153
  let c1_966 : Index := 1#32
  let c1664_967 : Index := 1664#32
  ![v1508.toNat, 1, 1664]
def k0_off234 (c30_i32_789 : BitVec 32) : Fin 3 → Nat :=
  let c8_i32_790 : BitVec 32 := 8#32
  let v1153 : BitVec 32 := Scalar.remsi c30_i32_789 c8_i32_790
  let v1519 : Index := Scalar.indexCast v1153
  let c1_971 : Index := 1#32
  let c1792_972 : Index := 1792#32
  ![v1519.toNat, 1, 1792]
def k0_off235 (c30_i32_789 : BitVec 32) : Fin 3 → Nat :=
  let c8_i32_790 : BitVec 32 := 8#32
  let v1153 : BitVec 32 := Scalar.remsi c30_i32_789 c8_i32_790
  let v1530 : Index := Scalar.indexCast v1153
  let c1_976 : Index := 1#32
  let c1920_977 : Index := 1920#32
  ![v1530.toNat, 1, 1920]
def k0_off236 (c30_i32_789 : BitVec 32) : Fin 4 → Nat :=
  let c8_i32_790 : BitVec 32 := 8#32
  let v1153 : BitVec 32 := Scalar.remsi c30_i32_789 c8_i32_790
  let v1540 : Index := Scalar.indexCast v1153
  let c1_981 : Index := 1#32
  let c0_982 : Index := 0#32
  let c0_983 : Index := 0#32
  ![v1540.toNat, 1, 0, 0]
def k0_mult28 : BitVec 32 :=
  let c63488_i32_993 : BitVec 32 := 63488#32
  c63488_i32_993
-- ==== KernelIdeal.lean ====
variable {F : FTy → Type} [FloatOps F] [Named F]
def κ : String → Option EReal := fun
  | "scale" => some (((1 / 16) * (Real.log 2)⁻¹ : ℝ) : EReal)
  | _ => none
-- ==== ReferenceIdeal.lean ====
abbrev S4x1x32x256 : Shape := ⟨4, ![4, 1, 32, 256]⟩
abbrev S4x1x2x256 : Shape := ⟨4, ![4, 1, 2, 256]⟩
abbrev S65536x2x256 : Shape := ⟨3, ![65536, 2, 256]⟩
abbrev S65536x2 : Shape := ⟨2, ![65536, 2]⟩
abbrev S4x2x16x256 : Shape := ⟨4, ![4, 2, 16, 256]⟩
abbrev S2x4x16x256 : Shape := ⟨4, ![2, 4, 16, 256]⟩
abbrev S2x64x256 : Shape := ⟨3, ![2, 64, 256]⟩
abbrev S4x2x1x256 : Shape := ⟨4, ![4, 2, 1, 256]⟩
abbrev S2x65536x256 : Shape := ⟨3, ![2, 65536, 256]⟩
abbrev S2x65536 : Shape := ⟨2, ![2, 65536]⟩
abbrev S4x8192 : Shape := ⟨2, ![4, 8192]⟩
abbrev S2x64x65536 : Shape := ⟨3, ![2, 64, 65536]⟩
abbrev S2x1x65536 : Shape := ⟨3, ![2, 1, 65536]⟩
abbrev S2x64 : Shape := ⟨2, ![2, 64]⟩
abbrev S2x64x1 : Shape := ⟨3, ![2, 64, 1]⟩

abbrev nBuf : Space → Nat
  | .hbm => 23
  | .vmem => 8
  | .smem => 0
  | _ => 0

abbrev bufTy : (tb : Table) → Fin (tcTables nBuf tb) → BufTy
  | .hbm, ⟨0, _⟩ => ⟨S4x1x32x256, .bf16⟩
  | .hbm, ⟨1, _⟩ => ⟨S4x1x2x256, .bf16⟩
  | .hbm, ⟨2, _⟩ => ⟨S4x1x2x256, .bf16⟩
  | .hbm, ⟨3, _⟩ => ⟨S65536x2x256, .fp8e4m3⟩
  | .hbm, ⟨4, _⟩ => ⟨S65536x2, .f32⟩
  | .hbm, ⟨5, _⟩ => ⟨S65536x2x256, .fp8e4m3⟩
  | .hbm, ⟨6, _⟩ => ⟨S65536x2, .f32⟩
  | .hbm, ⟨7, _⟩ => ⟨S4x2x16x256, .bf16⟩
  | .hbm, ⟨8, _⟩ => ⟨S2x4x16x256, .bf16⟩
  | .hbm, ⟨9, _⟩ => ⟨S2x64x256, .bf16⟩
  | .hbm, ⟨10, _⟩ => ⟨S4x2x1x256, .bf16⟩
  | .hbm, ⟨11, _⟩ => ⟨S4x2x16x256, .bf16⟩
  | .hbm, ⟨12, _⟩ => ⟨S2x4x16x256, .bf16⟩
  | .hbm, ⟨13, _⟩ => ⟨S2x64x256, .bf16⟩
  | .hbm, ⟨14, _⟩ => ⟨S4x2x1x256, .bf16⟩
  | .hbm, ⟨15, _⟩ => ⟨S4x2x16x256, .bf16⟩
  | .hbm, ⟨16, _⟩ => ⟨S2x4x16x256, .bf16⟩
  | .hbm, ⟨17, _⟩ => ⟨S2x64x256, .bf16⟩
  | .hbm, ⟨18, _⟩ => ⟨S2x65536x256, .fp8e4m3⟩
  | .hbm, ⟨19, _⟩ => ⟨S2x65536, .f32⟩
  | .hbm, ⟨20, _⟩ => ⟨S2x65536x256, .fp8e4m3⟩
  | .hbm, ⟨21, _⟩ => ⟨S2x65536, .f32⟩
  | .hbm, ⟨22, _⟩ => ⟨S4x8192, .bf16⟩
  | .local _ .vmem, ⟨0, _⟩ => ⟨S2x64x256, .bf16⟩
  | .local _ .vmem, ⟨1, _⟩ => ⟨S2x64x256, .bf16⟩
  | .local _ .vmem, ⟨2, _⟩ => ⟨S2x64x256, .bf16⟩
  | .local _ .vmem, ⟨3, _⟩ => ⟨S2x65536x256, .fp8e4m3⟩
  | .local _ .vmem, ⟨4, _⟩ => ⟨S2x65536, .f32⟩
  | .local _ .vmem, ⟨5, _⟩ => ⟨S2x65536x256, .fp8e4m3⟩
  | .local _ .vmem, ⟨6, _⟩ => ⟨S2x65536, .f32⟩
  | .local _ .vmem, ⟨7, _⟩ => ⟨S4x8192, .bf16⟩
  | _, _ => ⟨S4x1x32x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x64x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x65536x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x65536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x65536x256 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x65536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kern.Prog.lean ====
/- The kernel of this proof as a structured program: the printed straight-line sequence of memory
   operations, written with one definition per tile, stage and head, each in continuation-passing
   form. The modules `Eq` show that the printed programs are these. Everything is stated for any
   signature, so that one set of run lemmas serves both printed programs. -/
module

public import Idealize.ShloMosaic.Lib.Affine
public import Idealize.ShloMosaic.Lib.Decide
public import Idealize.ShloMosaic.Lib.Exec
public import Idealize.ShloMosaic.Lib.VecWindow

@[expose] public section

noncomputable section

namespace Cascade

open Idealize.ShloMosaic Idealize.SL.Sem

theorem bind3 {E : Type → Type} {α β γ δ : Type} (p : Prog E α) (f : α → Prog E β) (g : β → Prog E γ) (h : γ → Prog E δ) :
    Prog.bind (Prog.bind (Prog.bind p f) g) h = Prog.bind p (fun a => Prog.bind (Prog.bind (f a) g) h) := by
  induction p with
  | ret a => rfl
  | op e c ih => exact congrArg (Prog.op e) (funext ih)

/-! ## Shapes -/

abbrev S_ : Shape := ⟨0, ![]⟩
abbrev S1 : Shape := ⟨1, ![1]⟩
abbrev S3 : Shape := ⟨1, ![3]⟩
abbrev S8 : Shape := ⟨1, ![8]⟩
abbrev S16 : Shape := ⟨1, ![16]⟩
abbrev S64 : Shape := ⟨1, ![64]⟩
abbrev S16x1 : Shape := ⟨2, ![16, 1]⟩
abbrev S64x1 : Shape := ⟨2, ![64, 1]⟩
abbrev S1x128 : Shape := ⟨2, ![1, 128]⟩
abbrev S1x256 : Shape := ⟨2, ![1, 256]⟩
abbrev S2x256 : Shape := ⟨2, ![2, 256]⟩
abbrev S4x128 : Shape := ⟨2, ![4, 128]⟩
abbrev S16x128 : Shape := ⟨2, ![16, 128]⟩
abbrev S16x256 : Shape := ⟨2, ![16, 256]⟩
abbrev S64x128 : Shape := ⟨2, ![64, 128]⟩
abbrev S64x256 : Shape := ⟨2, ![64, 256]⟩
abbrev S64x2048 : Shape := ⟨2, ![64, 2048]⟩
abbrev S256x256 : Shape := ⟨2, ![256, 256]⟩
abbrev S2048x256 : Shape := ⟨2, ![2048, 256]⟩
abbrev S2x2048 : Shape := ⟨2, ![2, 2048]⟩
abbrev S2x65536 : Shape := ⟨2, ![2, 65536]⟩
abbrev S4x8192 : Shape := ⟨2, ![4, 8192]⟩
abbrev S1x1x128 : Shape := ⟨3, ![1, 1, 128]⟩
abbrev S1x1x256 : Shape := ⟨3, ![1, 1, 256]⟩
abbrev S1x2x256 : Shape := ⟨3, ![1, 2, 256]⟩
abbrev S1x16x128 : Shape := ⟨3, ![1, 16, 128]⟩
abbrev S1x16x256 : Shape := ⟨3, ![1, 16, 256]⟩
abbrev S1x64x128 : Shape := ⟨3, ![1, 64, 128]⟩
abbrev S1x64x256 : Shape := ⟨3, ![1, 64, 256]⟩
abbrev S1x2x2048 : Shape := ⟨3, ![1, 2, 2048]⟩
abbrev S2x64x128 : Shape := ⟨3, ![2, 64, 128]⟩
abbrev S2x64x256 : Shape := ⟨3, ![2, 64, 256]⟩
abbrev S2x64x2048 : Shape := ⟨3, ![2, 64, 2048]⟩
abbrev S2x2048x256 : Shape := ⟨3, ![2, 2048, 256]⟩
abbrev S2x65536x256 : Shape := ⟨3, ![2, 65536, 256]⟩
abbrev S4x2x256 : Shape := ⟨3, ![4, 2, 256]⟩
abbrev S4x32x256 : Shape := ⟨3, ![4, 32, 256]⟩
abbrev S8x2x2048 : Shape := ⟨3, ![8, 2, 2048]⟩
abbrev S1x1x4x128 : Shape := ⟨4, ![1, 1, 4, 128]⟩
abbrev S1x1x16x128 : Shape := ⟨4, ![1, 1, 16, 128]⟩
abbrev S1x1x64x128 : Shape := ⟨4, ![1, 1, 64, 128]⟩
abbrev S1x1x256x256 : Shape := ⟨4, ![1, 1, 256, 256]⟩
abbrev S1x1x2048x256 : Shape := ⟨4, ![1, 1, 2048, 256]⟩
abbrev S1x2x2048x256 : Shape := ⟨4, ![1, 2, 2048, 256]⟩
abbrev S2x2x64x128 : Shape := ⟨4, ![2, 2, 64, 128]⟩
abbrev S8x2x2048x256 : Shape := ⟨4, ![8, 2, 2048, 256]⟩

/-- Keys and queries: contract the last axis of both. -/
def dotNT : DotDims S64x256 S256x256 S64x256 where
  lhsContracting := [1]
  rhsContracting := [1]
  lhsNonContracting := [0]
  rhsNonContracting := [0]
  lhsBatch := []
  rhsBatch := []
  wf := by decide

/-- Weights and values: the plain matrix product. -/
def dotNN : DotDims S64x2048 S2048x256 S64x256 where
  lhsContracting := [1]
  rhsContracting := [0]
  lhsNonContracting := [0]
  rhsNonContracting := [1]
  lhsBatch := []
  rhsBatch := []
  wf := by decide

/-! ## The pure values between the memory operations -/

/-- The constant that turns a score into base-2 units: a word at the machine's floats, a real over the reals. -/
class Scl (F : FTy → Type) where
  scl : F .f32

section Pay
variable {F : FTy → Type} [FloatOps F] [Scl F]

/-- One tile of scaled scores, in base-2 units: queries times 256 keys, each column by its key's
   scale times the constant. -/
def scorePay (q : Vec F S1x64x256 .bf16) (k : Vec F S1x1x256x256 .fp8e4m3) (ks : Vec F S1x1x256 .f32) : FVec F S64x256 .f32 :=
  mulf (matmul dotNT none (shapeCast S64x256 q) (shapeCast S256x256 k) (constant S64x256 .f32 0x00000000#32))
    (broadcastTo S64x256 (mulf (shapeCast S1x256 ks) (broadcast S1x256 (Scl.scl))))

/-- The larger of a tile's two lane halves. -/
def pairMax (t : FVec F S64x256 .f32) : FVec F S64x128 .f32 :=
  maximumf (extractStridedSlice S64x128 ![0, 0] t) (extractStridedSlice S64x128 ![0, 128] t)

/-- A row's maximum in every lane. -/
def rowMax (x : FVec F S64x128 .f32) : FVec F S64x128 .f32 :=
  broadcastTo S64x128 (shapeCast S64x1 (shapeCast S64x1 (multiReduction .maximumf [1] S64 x 0xFF800000#32 (by decide) (.inl rfl) rfl)))

/-- A row's sum in every lane. -/
def rowSum (x : FVec F S64x128 .f32) : FVec F S64x128 .f32 :=
  broadcastTo S64x128 (shapeCast S64x1 (shapeCast S64x1 (multiReduction .add [1] S64 x 0x00000000#32 (by decide) (.inl rfl) rfl)))

theorem cat2_ok : Shape.Concatenates [S64x128, S64x128] S64x256 1 := by decide
theorem cat16_ok : Shape.Concatenates [S64x128, S64x128, S64x128, S64x128, S64x128, S64x128, S64x128, S64x128,
    S64x128, S64x128, S64x128, S64x128, S64x128, S64x128, S64x128, S64x128] S64x2048 1 := by decide

/-- Two copies side by side. -/
def wide {φ : FTy} (x : FVec F S64x128 φ) : FVec F S64x256 φ := concatenate S64x256 1 [⟨S64x128, x⟩, ⟨S64x128, x⟩] cat2_ok

/-- The running maximum after a chunk. -/
def mNew (old : FVec F S64x128 .f32) (mx : FVec F S64x128 .f32) : FVec F S64x128 .f32 := maximumf old (rowMax mx)
/-- The factor by which the running sums shrink. -/
def aNew (old new : FVec F S64x128 .f32) : FVec F S64x128 .f32 := exp2 (subf old new)
/-- The unnormalised weights of one block of 128 tokens. -/
def pPay (s : Vec F S1x64x128 .f32) (m : FVec F S64x128 .f32) : FVec F S64x128 .f32 := exp2 (subf (shapeCast S64x128 s) m)
/-- … times the values' scales, rounded for the product. -/
def psPay (p : FVec F S64x128 .f32) (vs : Vec F S1x1x128 .f32) : FVec F S64x128 .bf16 :=
  truncf .bf16 (mulf p (broadcastTo S64x128 (shapeCast S1x128 vs) (by decide))) (by decide)
/-- Sixteen blocks of weights side by side. -/
def cat16 (p : Fin 16 → FVec F S64x128 .bf16) : FVec F S64x2048 .bf16 :=
  concatenate S64x2048 1 [⟨S64x128, p 0⟩, ⟨S64x128, p 1⟩, ⟨S64x128, p 2⟩, ⟨S64x128, p 3⟩, ⟨S64x128, p 4⟩, ⟨S64x128, p 5⟩,
    ⟨S64x128, p 6⟩, ⟨S64x128, p 7⟩, ⟨S64x128, p 8⟩, ⟨S64x128, p 9⟩, ⟨S64x128, p 10⟩, ⟨S64x128, p 11⟩, ⟨S64x128, p 12⟩,
    ⟨S64x128, p 13⟩, ⟨S64x128, p 14⟩, ⟨S64x128, p 15⟩] cat16_ok
/-- The accumulator after a chunk. -/
def accPay (acc : Vec F S1x64x256 .f32) (alpha : FVec F S64x128 .f32) (ps : FVec F S64x2048 .bf16) (v : Vec F S1x1x2048x256 .fp8e4m3) :
    FVec F S64x256 .f32 :=
  addf (mulf (shapeCast S64x256 acc) (wide alpha))
    (matmul dotNN none ps (shapeCast S2048x256 v) (constant S64x256 .f32 0x00000000#32))

/-- Row `h` of a sequence's new token. -/
def newRow (h : Nat) (hh : h < 2) (kn : Vec F S1x2x256 .bf16) : FVec F S1x256 .f32 :=
  extractStridedSlice S1x256 ![h, 0] (extf .f32 (shapeCast S2x256 kn) (by decide)) (by revert hh; revert h; decide)
/-- The new token's scores against 16 queries. -/
def snPay (h : Nat) (hh : h < 2) (q : Vec F S1x16x256 .bf16) (kn : Vec F S1x2x256 .bf16) : FVec F S16x128 .f32 :=
  let s : FVec F S16x256 .f32 := mulf (extf .f32 (shapeCast S16x256 q) (by decide)) (broadcastTo S16x256 (newRow h hh kn) (by decide))
  mulf (broadcastTo S16x128 (shapeCast S16x1 (shapeCast S16x1 (multiReduction .add [1] S16
      (addf (extractStridedSlice S16x128 ![0, 0] s) (extractStridedSlice S16x128 ![0, 128] s)) 0x00000000#32 (by decide) (.inl rfl) rfl))))
    (broadcast S16x128 (Scl.scl))

/-- The final merge, per head: the prefix's shrink factor, the new token's weight, and one over the sum. -/
def fM (m sn : FVec F S64x128 .f32) : FVec F S64x128 .f32 := maximumf m sn
def fInv (l m sn : FVec F S64x128 .f32) : FVec F S64x128 .f32 :=
  divf (broadcast S64x128 (Scalar.ofBits .f32 0x3F800000#32))
    (addf (rowSum (mulf l (exp2 (subf m (fM m sn))))) (exp2 (subf sn (fM m sn))))
def fP (l m sn : FVec F S64x128 .f32) : FVec F S64x256 .f32 :=
  wide (extf .f32 (truncf .bf16 (mulf (exp2 (subf sn (fM m sn))) (fInv l m sn)) (by decide) : FVec F S64x128 .bf16) (by decide))
def fO (acc : Vec F S1x64x256 .f32) (l m sn : FVec F S64x128 .f32) : FVec F S64x256 .f32 :=
  mulf (shapeCast S64x256 acc) (wide (mulf (exp2 (subf m (fM m sn))) (fInv l m sn)))
/-- One sequence's 16 rows of the result of head `h`. -/
def fRow (h : Nat) (hh : h < 2) (b : Nat) (hb : b < 4) (o p : FVec F S64x256 .f32) (vn : Vec F S1x2x256 .bf16) : FVec F S16x256 .f32 :=
  addf (extractStridedSlice S16x256 ![16 * b, 0] o (by revert hb; revert b; decide))
    (mulf (extractStridedSlice S16x256 ![16 * b, 0] p (by revert hb; revert b; decide)) (broadcastTo S16x256 (newRow h hh vn) (by decide)))
def half0 (x : FVec F S16x256 .f32) : FVec F S16x128 .f32 := extractStridedSlice S16x128 ![0, 0] x
def half1 (x : FVec F S16x256 .f32) : FVec F S16x128 .f32 := extractStridedSlice S16x128 ![0, 128] x

end Pay

/-! ## Slots and rows of a chunk -/

theorem inb_kslot {n : Nat} (h : n < 8) : ∀ a, (![n, 0, 0, 0] : Fin 4 → Nat) a + S1x2x2048x256.size a ≤ S8x2x2048x256.size a := by
  revert h; revert n; decide
theorem inb_sslot {n : Nat} (h : n < 8) : ∀ a, (![n, 0, 0] : Fin 3 → Nat) a + S1x2x2048.size a ≤ S8x2x2048.size a := by
  revert h; revert n; decide
theorem inb_cell {n : Nat} (h : n < 8) : ∀ a, (![n] : Fin 1 → Nat) a + S1.size a ≤ S8.size a := by
  revert h; revert n; decide
theorem inb_cell3 {n : Nat} (h : n < 3) : ∀ a, (![n] : Fin 1 → Nat) a + S1.size a ≤ S3.size a := by
  revert h; revert n; decide
theorem inb_krow {c : Nat} (h : c < 32) : ∀ a, (![0, 2048 * c, 0] : Fin 3 → Nat) a + S2x2048x256.size a ≤ S2x65536x256.size a := by
  intro a; fin_cases a <;> simp <;> omega
theorem inb_srow {c : Nat} (h : c < 32) : ∀ a, (![0, 2048 * c] : Fin 2 → Nat) a + S2x2048.size a ≤ S2x65536.size a := by
  intro a; fin_cases a <;> simp <;> omega
theorem words_kslot' : ∀ n : Fin 8, (Rect.unit (s := S8x2x2048x256) ![n.val, 0, 0, 0] S1x2x2048x256.size (inb_kslot n.isLt)).WholeWords (EltTy.packing .fp8e4m3) := by
  decide +kernel
theorem words_krow' : ∀ n : Fin 32, (Rect.unit (s := S2x65536x256) ![0, 2048 * n.val, 0] S2x2048x256.size (inb_krow n.isLt)).WholeWords (EltTy.packing .fp8e4m3) := by
  decide +kernel
theorem words_kslot {n : Nat} (h : n < 8) : (Rect.unit (s := S8x2x2048x256) ![n, 0, 0, 0] S1x2x2048x256.size (inb_kslot h)).WholeWords (EltTy.packing .fp8e4m3) :=
  words_kslot' ⟨n, h⟩
theorem words_krow {c : Nat} (h : c < 32) : (Rect.unit (s := S2x65536x256) ![0, 2048 * c, 0] S2x2048x256.size (inb_krow h)).WholeWords (EltTy.packing .fp8e4m3) :=
  words_krow' ⟨c, h⟩
theorem slot_lt (c : Nat) : c % 8 < 8 := Nat.mod_lt _ (by decide)

theorem sq_cell : S1.Squeezes S_ := by decide
theorem sq_kslot : S1x2x2048x256.Squeezes S2x2048x256 := by decide
theorem sq_sslot : S1x2x2048.Squeezes S2x2048 := by decide

/-! ## The buffers -/

/-- The kernel's operands and scratch buffers, and its semaphores. -/
structure Bufs (sig : RefSig) where
  x : Memref sig .tc .hbm S4x32x256 .bf16
  kn : Memref sig .tc .hbm S4x2x256 .bf16
  vn : Memref sig .tc .hbm S4x2x256 .bf16
  kh : Memref sig .tc .hbm S2x65536x256 .fp8e4m3
  ksh : Memref sig .tc .hbm S2x65536 .f32
  vh : Memref sig .tc .hbm S2x65536x256 .fp8e4m3
  vsh : Memref sig .tc .hbm S2x65536 .f32
  out : Memref sig .tc .hbm S4x8192 .bf16
  xb : Memref sig .tc .vmem S4x32x256 .bf16
  knb : Memref sig .tc .vmem S4x2x256 .bf16
  vnb : Memref sig .tc .vmem S4x2x256 .bf16
  kb : Memref sig .tc .vmem S8x2x2048x256 .fp8e4m3
  ksb : Memref sig .tc .vmem S8x2x2048 .f32
  vb : Memref sig .tc .vmem S8x2x2048x256 .fp8e4m3
  vsb : Memref sig .tc .vmem S8x2x2048 .f32
  q : Memref sig .tc .vmem S2x64x256 .bf16
  sn : Memref sig .tc .vmem S2x64x128 .f32
  s0 : Memref sig .tc .vmem S2x64x2048 .f32
  s1 : Memref sig .tc .vmem S2x64x2048 .f32
  m : Memref sig .tc .vmem S2x2x64x128 .f32
  al : Memref sig .tc .vmem S2x2x64x128 .f32
  l : Memref sig .tc .vmem S2x64x128 .f32
  acc : Memref sig .tc .vmem S2x64x256 .f32
  o : Memref sig .tc .vmem S2x2x64x128 .f32
  ob : Memref sig .tc .vmem S4x8192 .bf16
  ck : DmaSems sig S8
  cks : DmaSems sig S8
  cv : DmaSems sig S8
  cvs : DmaSems sig S8
  csm : DmaSems sig S3
  co : DmaSems sig S_

/-- Each of them a whole buffer. -/
structure Bufs.Whole {sig : RefSig} (A : Bufs sig) : Prop where
  x : A.x.IsWhole
  kn : A.kn.IsWhole
  vn : A.vn.IsWhole
  kh : A.kh.IsWhole
  ksh : A.ksh.IsWhole
  vh : A.vh.IsWhole
  vsh : A.vsh.IsWhole
  out : A.out.IsWhole
  xb : A.xb.IsWhole
  knb : A.knb.IsWhole
  vnb : A.vnb.IsWhole
  kb : A.kb.IsWhole
  ksb : A.ksb.IsWhole
  vb : A.vb.IsWhole
  vsb : A.vsb.IsWhole
  q : A.q.IsWhole
  sn : A.sn.IsWhole
  s0 : A.s0.IsWhole
  s1 : A.s1.IsWhole
  m : A.m.IsWhole
  al : A.al.IsWhole
  l : A.l.IsWhole
  acc : A.acc.IsWhole
  o : A.o.IsWhole
  ob : A.ob.IsWhole

section Views
variable {sig : RefSig}

/-- Slot `n` of a ring of chunks. -/
abbrev kSlot (m : Memref sig .tc .vmem S8x2x2048x256 .fp8e4m3) (n : Nat) (h : n < 8) : Memref sig .tc .vmem S2x2048x256 .fp8e4m3 :=
  (m.slice (Rect.unit (s := S8x2x2048x256) ![n, 0, 0, 0] S1x2x2048x256.size (inb_kslot h)) (fun _ => rfl)).squeeze S2x2048x256 sq_kslot
abbrev sSlot (m : Memref sig .tc .vmem S8x2x2048 .f32) (n : Nat) (h : n < 8) : Memref sig .tc .vmem S2x2048 .f32 :=
  (m.slice (Rect.unit (s := S8x2x2048) ![n, 0, 0] S1x2x2048.size (inb_sslot h)) (fun _ => rfl)).squeeze S2x2048 sq_sslot
/-- A chunk's rows in the whole array. -/
abbrev kRows (m : Memref sig .tc .hbm S2x65536x256 .fp8e4m3) (c : Nat) (h : c < 32) : Memref sig .tc .hbm S2x2048x256 .fp8e4m3 :=
  m.slice (Rect.unit (s := S2x65536x256) ![0, 2048 * c, 0] S2x2048x256.size (inb_krow h)) (fun _ => rfl)
abbrev sRows (m : Memref sig .tc .hbm S2x65536 .f32) (c : Nat) (h : c < 32) : Memref sig .tc .hbm S2x2048 .f32 :=
  m.slice (Rect.unit (s := S2x65536) ![0, 2048 * c] S2x2048.size (inb_srow h)) (fun _ => rfl)
/-- A slot's semaphore. -/
abbrev cell (s : DmaSems sig S8) (n : Nat) (h : n < 8) : DmaSem sig :=
  ((s.slice (Rect.unit (s := S8) ![n] S1.size (inb_cell h))).squeeze S_ sq_cell).sem
abbrev cell3 (s : DmaSems sig S3) (n : Nat) (h : n < 3) : DmaSem sig :=
  ((s.slice (Rect.unit (s := S3) ![n] S1.size (inb_cell3 h))).squeeze S_ sq_cell).sem
end Views

/-! ## The program -/

section Program
variable {F : FTy → Type} [FloatOps F] [Scl F] {nD : Nat} {τ : Topo} {sig : RefSig} {Λ : Labels}

local notation "P" => Prog (TpuEff nD τ sig (Elt F) Λ (Proc.tc : Proc τ)) PUnit

/-- A value nothing reads. -/
def dummy : FVec F S64x128 .f32 := broadcast S64x128 (Scalar.ofBits .f32 0x00000000#32)

/-- A plain load of a box of a scratch buffer. -/
abbrev ldB {s : Shape} {e : EltTy} (m : Memref sig .tc .vmem s e) (off : Fin s.rank → Nat) (sz : Fin s.rank → Nat)
    (inb : ∀ a, off a + sz a ≤ s.size a) (h : 0 < (⟨s.rank, sz⟩ : Shape).numel) (k : Vec F ⟨s.rank, sz⟩ e → P) : P :=
  .op (.load m (Rect.unit (s := s) off sz inb).toLoadRect (View.loadsAt_vmem h)) k

/-- A store of a box of 32-bit floats; the kernel reads the box first and drops what it read. -/
abbrev stB {s : Shape} (m : Memref sig .tc .vmem s .f32) (off : Fin s.rank → Nat) (sz : Fin s.rank → Nat)
    (inb : ∀ a, off a + sz a ≤ s.size a) (h : 0 < (⟨s.rank, sz⟩ : Shape).numel) (w : Vec F ⟨s.rank, sz⟩ .f32) (k : P) : P :=
  .op (.load m (Rect.unit (s := s) off sz inb).toLoadRect (View.loadsAt_vmem h)) fun _ =>
  .op (.store m (Rect.unit (s := s) off sz inb) w Finset.univ (View.stores_vmem_bits_univ h rfl) (.inl rfl)) fun _ => k

/-! ### Copies in and their waits -/

/-- Start the copy of chunk `c` of the keys (or values) into its slot. -/
def startK (h : Memref sig .tc .hbm S2x65536x256 .fp8e4m3) (hh : h.IsWhole) (b : Memref sig .tc .vmem S8x2x2048x256 .fp8e4m3) (hb : b.IsWhole)
    (s : DmaSems sig S8) (c : Nat) (hc : c < 32) (k : P) : P :=
  .op (.enqueueDma (kRows h c hc) (.here (kSlot b (c % 8) (slot_lt c))) (.dma (cell s (c % 8) (slot_lt c)))
    (hh.wordExact_slice rfl _ (words_krow hc)) ((hb.wordExact_slice rfl _ (words_kslot (slot_lt c))).reshape _ _) ⟨Or.inl rfl, trivial⟩) fun _ => k
/-- … and of its scales. -/
def startS (h : Memref sig .tc .hbm S2x65536 .f32) (b : Memref sig .tc .vmem S8x2x2048 .f32)
    (s : DmaSems sig S8) (c : Nat) (hc : c < 32) (k : P) : P :=
  .op (.enqueueDma (sRows h c hc) (.here (sSlot b (c % 8) (slot_lt c))) (.dma (cell s (c % 8) (slot_lt c)))
    (View.wordExact_bits rfl) ((View.wordExact_bits rfl).reshape _ _) ⟨Or.inl rfl, trivial⟩) fun _ => k
/-- Wait for them. -/
def waitK (h : Memref sig .tc .hbm S2x65536x256 .fp8e4m3) (hh : h.IsWhole) (b : Memref sig .tc .vmem S8x2x2048x256 .fp8e4m3) (hb : b.IsWhole)
    (s : DmaSems sig S8) (c : Nat) (hc : c < 32) (k : P) : P :=
  .op (.waitDma2 (cell s (c % 8) (slot_lt c)) (kRows h c hc) (kSlot b (c % 8) (slot_lt c))
    (hh.wordExact_slice rfl _ (words_krow hc)) ((hb.wordExact_slice rfl _ (words_kslot (slot_lt c))).reshape _ _)) fun _ => k
def waitS (h : Memref sig .tc .hbm S2x65536 .f32) (b : Memref sig .tc .vmem S8x2x2048 .f32)
    (s : DmaSems sig S8) (c : Nat) (hc : c < 32) (k : P) : P :=
  .op (.waitDma2 (cell s (c % 8) (slot_lt c)) (sRows h c hc) (sSlot b (c % 8) (slot_lt c))
    (View.wordExact_bits rfl) ((View.wordExact_bits rfl).reshape _ _)) fun _ => k

/-! ### Scores of one chunk -/

theorem inb_q {h : Nat} (hh : h < 2) : ∀ a, (![h, 0, 0] : Fin 3 → Nat) a + S1x64x256.size a ≤ S2x64x256.size a := by
  revert hh; revert h; decide
theorem inb_kt {n h j : Nat} (hn : n < 8) (hh : h < 2) (hj : j < 8) :
    ∀ a, (![n, h, 256 * j, 0] : Fin 4 → Nat) a + S1x1x256x256.size a ≤ S8x2x2048x256.size a := by
  intro a; fin_cases a <;> simp <;> omega
theorem inb_kst {n h j : Nat} (hn : n < 8) (hh : h < 2) (hj : j < 8) :
    ∀ a, (![n, h, 256 * j] : Fin 3 → Nat) a + S1x1x256.size a ≤ S8x2x2048.size a := by
  intro a; fin_cases a <;> simp <;> omega
theorem inb_st {h j : Nat} (hh : h < 2) (hj : j < 8) : ∀ a, (![h, 0, 256 * j] : Fin 3 → Nat) a + S1x64x256.size a ≤ S2x64x2048.size a := by
  intro a; fin_cases a <;> simp <;> omega
theorem inb_m {p h : Nat} (hp : p < 2) (hh : h < 2) : ∀ a, (![p, h, 0, 0] : Fin 4 → Nat) a + S1x1x64x128.size a ≤ S2x2x64x128.size a := by
  intro a; fin_cases a <;> simp <;> omega
theorem inb_l {h : Nat} (hh : h < 2) : ∀ a, (![h, 0, 0] : Fin 3 → Nat) a + S1x64x128.size a ≤ S2x64x128.size a := by
  revert hh; revert h; decide
theorem inb_sb {h j : Nat} (hh : h < 2) (hj : j < 16) : ∀ a, (![h, 0, 128 * j] : Fin 3 → Nat) a + S1x64x128.size a ≤ S2x64x2048.size a := by
  intro a; fin_cases a <;> simp <;> omega
theorem inb_vst {n h j : Nat} (hn : n < 8) (hh : h < 2) (hj : j < 16) :
    ∀ a, (![n, h, 128 * j] : Fin 3 → Nat) a + S1x1x128.size a ≤ S8x2x2048.size a := by
  intro a; fin_cases a <;> simp <;> omega
theorem inb_vt {n h : Nat} (hn : n < 8) (hh : h < 2) :
    ∀ a, (![n, h, 0, 0] : Fin 4 → Nat) a + S1x1x2048x256.size a ≤ S8x2x2048x256.size a := by
  intro a; fin_cases a <;> simp <;> omega

/-- One head's scores against 256 keys, written to the score buffer. -/
def tile (A : Bufs sig) (sb : Memref sig .tc .vmem S2x64x2048 .f32) (n : Nat) (hn : n < 8) (h : Nat) (hh : h < 2) (j : Nat) (hj : j < 8)
    (k : FVec F S64x256 .f32 → P) : P :=
  ldB A.q ![h, 0, 0] S1x64x256.size (inb_q hh) (by decide) fun q =>
  ldB A.kb ![n, h, 256 * j, 0] S1x1x256x256.size (inb_kt hn hh hj) (by decide) fun kk =>
  ldB A.ksb ![n, h, 256 * j] S1x1x256.size (inb_kst hn hh hj) (by decide) fun ks =>
  stB sb ![h, 0, 256 * j] S1x64x256.size (inb_st hh hj) (by decide) (shapeCast S1x64x256 (scorePay q kk ks) (by decide)) (k (scorePay q kk ks))

/-- The tiles `0 … n` of both heads, and the running lane-pair maxima. -/
def tiles (A : Bufs sig) (sb : Memref sig .tc .vmem S2x64x2048 .f32) (s : Nat) (hs : s < 8) :
    (j : Nat) → j < 8 → (FVec F S64x128 .f32 → FVec F S64x128 .f32 → P) → P
  | 0, hj, k => tile A sb s hs 0 (by decide) 0 hj fun t0 => tile A sb s hs 1 (by decide) 0 hj fun t1 => k (pairMax t0) (pairMax t1)
  | j + 1, hj, k => tiles A sb s hs j (by omega) fun m0 m1 =>
      tile A sb s hs 0 (by decide) (j + 1) hj fun t0 => tile A sb s hs 1 (by decide) (j + 1) hj fun t1 =>
        k (maximumf m0 (pairMax t0)) (maximumf m1 (pairMax t1))

/-- One head's new running maximum, and the factor the old sums shrink by. -/
def newMax (A : Bufs sig) (p p' : Nat) (hp : p < 2) (hp' : p' < 2) (h : Nat) (hh : h < 2) (mx : FVec F S64x128 .f32) (k : P) : P :=
  ldB A.m ![p', h, 0, 0] S1x1x64x128.size (inb_m hp' hh) (by decide) fun old =>
  stB A.m ![p, h, 0, 0] S1x1x64x128.size (inb_m hp hh) (by decide)
    (shapeCast S1x1x64x128 (mNew (shapeCast S64x128 old) mx) (by decide)) <|
  stB A.al ![p, h, 0, 0] S1x1x64x128.size (inb_m hp hh) (by decide)
    (shapeCast S1x1x64x128 (aNew (shapeCast S64x128 old) (mNew (shapeCast S64x128 old) mx)) (by decide)) k

/-- A chunk's scores, in slot `n`, into the buffers of parity `p`. -/
def scores (A : Bufs sig) (sb : Memref sig .tc .vmem S2x64x2048 .f32) (n : Nat) (hn : n < 8) (p p' : Nat) (hp : p < 2) (hp' : p' < 2) (k : P) : P :=
  tiles A sb n hn 7 (by decide) fun m0 m1 =>
    newMax A p p' hp hp' 0 (by decide) m0 (newMax A p p' hp hp' 1 (by decide) m1 k)

/-! ### Weights and values of one chunk -/

/-- Blocks `0 … j` of weights: the running sum and the rounded weights, block by block. -/
def blocks (A : Bufs sig) (sb : Memref sig .tc .vmem S2x64x2048 .f32) (n : Nat) (hn : n < 8) (h : Nat) (hh : h < 2)
    (m l0 : FVec F S64x128 .f32) :
    (j : Nat) → j < 16 → (FVec F S64x128 .f32 → (Nat → FVec F S64x128 .bf16) → P) → P
  | 0, hj, k =>
      ldB sb ![h, 0, 128 * 0] S1x64x128.size (inb_sb hh hj) (by decide) fun s =>
      ldB A.vsb ![n, h, 128 * 0] S1x1x128.size (inb_vst hn hh hj) (by decide) fun vs =>
      k (addf l0 (pPay s m)) (fun _ => psPay (pPay s m) vs)
  | j + 1, hj, k => blocks A sb n hn h hh m l0 j (by omega) fun l ps =>
      ldB sb ![h, 0, 128 * (j + 1)] S1x64x128.size (inb_sb hh hj) (by decide) fun s =>
      ldB A.vsb ![n, h, 128 * (j + 1)] S1x1x128.size (inb_vst hn hh hj) (by decide) fun vs =>
      k (addf l (pPay s m)) (fun i => Nat.rec (psPay (pPay s m) vs) (fun _ _ => ps i) (j + 1 - i))

/-- One head's sums and accumulator carried over a chunk's values, in slot `n`. -/
def weighHead (A : Bufs sig) (sb : Memref sig .tc .vmem S2x64x2048 .f32) (n : Nat) (hn : n < 8) (p : Nat) (hp : p < 2) (h : Nat) (hh : h < 2)
    (k : P) : P :=
  ldB A.m ![p, h, 0, 0] S1x1x64x128.size (inb_m hp hh) (by decide) fun m =>
  ldB A.al ![p, h, 0, 0] S1x1x64x128.size (inb_m hp hh) (by decide) fun al =>
  ldB A.l ![h, 0, 0] S1x64x128.size (inb_l hh) (by decide) fun l =>
  blocks A sb n hn h hh (shapeCast S64x128 m) (mulf (shapeCast S64x128 l) (shapeCast S64x128 al)) 15 (by decide) fun l' ps =>
  stB A.l ![h, 0, 0] S1x64x128.size (inb_l hh) (by decide) (shapeCast S1x64x128 l' (by decide)) <|
  ldB A.vb ![n, h, 0, 0] S1x1x2048x256.size (inb_vt hn hh) (by decide) fun v =>
  ldB A.acc ![h, 0, 0] S1x64x256.size (inb_q hh) (by decide) fun acc =>
  stB A.acc ![h, 0, 0] S1x64x256.size (inb_q hh) (by decide)
    (shapeCast S1x64x256 (accPay acc (shapeCast S64x128 al) (cat16 fun i => ps i.val) v) (by decide)) k

def weigh (A : Bufs sig) (sb : Memref sig .tc .vmem S2x64x2048 .f32) (n : Nat) (hn : n < 8) (p : Nat) (hp : p < 2) (k : P) : P :=
  weighHead A sb n hn p hp 0 (by decide) (weighHead A sb n hn p hp 1 (by decide) k)

/-! ### One stage -/

/-- Chunk `c + 8`'s keys, if there are so many. -/
def startK8 (A : Bufs sig) (hA : A.Whole) (c : Nat) (k : P) : P :=
  if hc : c + 8 < 32 then startK A.kh hA.kh A.kb hA.kb A.ck (c + 8) hc (startS A.ksh A.ksb A.cks (c + 8) hc k) else k
/-- Chunk `c + 7`'s values, from the second stage on, if there are so many. -/
def startV7 (A : Bufs sig) (hA : A.Whole) (c : Nat) (k : P) : P :=
  if hc : 0 < c ∧ c + 7 < 32 then startK A.vh hA.vh A.vb hA.vb A.cv (c + 7) hc.2 (startS A.vsh A.vsb A.cvs (c + 7) hc.2 k) else k

/-- Stage `c` of the pipeline, `c + 1 < 32`: scores of chunk `c + 1` into parity `p'`, weights and values of chunk `c` of parity `p`. -/
def stage (A : Bufs sig) (hA : A.Whole) (s s' : Memref sig .tc .vmem S2x64x2048 .f32) (p p' : Nat) (hp : p < 2) (hp' : p' < 2)
    (c : Nat) (hc : c + 1 < 32) (k : P) : P :=
  waitK A.kh hA.kh A.kb hA.kb A.ck (c + 1) hc <| waitS A.ksh A.ksb A.cks (c + 1) hc <|
  waitK A.vh hA.vh A.vb hA.vb A.cv c (by omega) <| waitS A.vsh A.vsb A.cvs c (by omega) <|
  startK8 A hA c <| startV7 A hA c <|
  scores A s' ((c + 1) % 8) (slot_lt _) p' p hp' hp <|
  weigh A s (c % 8) (slot_lt _) p hp k

/-- A trip of the loop: two stages. -/
def trip (A : Bufs sig) (hA : A.Whole) (i : Nat) (hi : i < 15) : P :=
  stage A hA A.s0 A.s1 0 1 (by decide) (by decide) (2 * i) (by omega) <|
  stage A hA A.s1 A.s0 1 0 (by decide) (by decide) (2 * i + 1) (by omega) <| .ret ⟨⟩

/-- The last stage: nothing left to score. -/
def lastStage (A : Bufs sig) (hA : A.Whole) (k : P) : P :=
  waitK A.vh hA.vh A.vb hA.vb A.cv 31 (by decide) <| waitS A.vsh A.vsb A.cvs 31 (by decide) <|
  weigh A A.s1 (31 % 8) (slot_lt _) 1 (by decide) k

/-! ### Before the loop -/

def startW {s : Shape} (h : Memref sig .tc .hbm s .bf16) (hh : h.IsWhole) (b : Memref sig .tc .vmem s .bf16) (hb : b.IsWhole) (c : DmaSem sig)
    (k : P) : P :=
  .op (.enqueueDma h (.here b) (.dma c) hh.wordExact hb.wordExact ⟨Or.inl rfl, trivial⟩) fun _ => k
def waitW {s : Shape} (h : Memref sig .tc .hbm s .bf16) (hh : h.IsWhole) (b : Memref sig .tc .vmem s .bf16) (hb : b.IsWhole) (c : DmaSem sig)
    (k : P) : P :=
  .op (.waitDma2 c h b hh.wordExact hb.wordExact) fun _ => k

/-- Start all four copies of chunk `c`. -/
def start4 (A : Bufs sig) (hA : A.Whole) (c : Nat) (hc : c < 32) (k : P) : P :=
  startK A.kh hA.kh A.kb hA.kb A.ck c hc <| startS A.ksh A.ksb A.cks c hc <|
  startK A.vh hA.vh A.vb hA.vb A.cv c hc <| startS A.vsh A.vsb A.cvs c hc k

theorem inb_x {b h : Nat} (hb : b < 4) (hh : h < 2) : ∀ a, (![b, 16 * h, 0] : Fin 3 → Nat) a + S1x16x256.size a ≤ S4x32x256.size a := by
  intro a; fin_cases a <;> simp <;> omega
theorem inb_qb {b h : Nat} (hb : b < 4) (hh : h < 2) : ∀ a, (![h, 16 * b, 0] : Fin 3 → Nat) a + S1x16x256.size a ≤ S2x64x256.size a := by
  intro a; fin_cases a <;> simp <;> omega
theorem inb_sn {b h : Nat} (hb : b < 4) (hh : h < 2) : ∀ a, (![h, 16 * b, 0] : Fin 3 → Nat) a + S1x16x128.size a ≤ S2x64x128.size a := by
  intro a; fin_cases a <;> simp <;> omega
theorem inb_kn {b : Nat} (hb : b < 4) : ∀ a, (![b, 0, 0] : Fin 3 → Nat) a + S1x2x256.size a ≤ S4x2x256.size a := by
  intro a; fin_cases a <;> simp <;> omega
theorem inb_o {b h f : Nat} (hb : b < 4) (hh : h < 2) (hf : f < 2) :
    ∀ a, (![h, f, 16 * b, 0] : Fin 4 → Nat) a + S1x1x16x128.size a ≤ S2x2x64x128.size a := by
  intro a; fin_cases a <;> simp <;> omega
theorem inb_ob {n : Nat} (hn : n < 64) : ∀ a, (![0, 128 * n] : Fin 2 → Nat) a + S4x128.size a ≤ S4x8192.size a := by
  intro a; fin_cases a <;> simp <;> omega
theorem inb_og {h f g : Nat} (hh : h < 2) (hf : f < 2) (hg : g < 16) :
    ∀ a, S1x1x4x128.size a = 0 ∨ (![h, f, g, 0] : Fin 4 → Nat) a + (![1, 1, 16, 1] : Fin 4 → Nat) a * (S1x1x4x128.size a - 1) < S2x2x64x128.size a := by
  intro a; right; fin_cases a <;> simp <;> omega
theorem packed_q : ∀ (h : Fin 2) (b : Fin 4), (Rect.unit (s := S2x64x256) ![h.val, 16 * b.val, 0] S1x16x256.size (inb_qb b.isLt h.isLt)).PackedRows (EltTy.packing .bf16) := by
  decide +kernel
theorem packed_ob : ∀ n : Fin 64, (Rect.unit (s := S4x8192) ![0, 128 * n.val] S4x128.size (inb_ob n.isLt)).PackedRows (EltTy.packing .bf16) := by
  decide +kernel

/-- Head `h` of sequence `b`: its 16 queries, and their scores against the new token. -/
def prep (A : Bufs sig) (hA : A.Whole) (h b : Nat) (hh : h < 2) (hb : b < 4) (k : P) : P :=
  ldB A.xb ![b, 16 * h, 0] S1x16x256.size (inb_x hb hh) (by decide) fun x =>
  ldB A.q ![h, 16 * b, 0] S1x16x256.size (inb_qb hb hh) (by decide) fun _ =>
  .op (.store A.q (Rect.unit (s := S2x64x256) ![h, 16 * b, 0] S1x16x256.size (inb_qb hb hh))
      (shapeCast S1x16x256 (shapeCast S16x256 x : FVec F S16x256 .bf16) (by decide)) Finset.univ
      (View.stores_vmem (show 0 < S1x16x256.numel by decide) (hA.q.storeExact_slice rfl _ (packed_q ⟨h, hh⟩ ⟨b, hb⟩)) (fun _ => rfl)) (.inl rfl)) fun _ =>
  ldB A.knb ![b, 0, 0] S1x2x256.size (inb_kn hb) (by decide) fun kn =>
  stB A.sn ![h, 16 * b, 0] S1x16x128.size (inb_sn hb hh) (by decide) (shapeCast S1x16x128 (snPay h hh x kn) (by decide)) k

/-- Clear head `h`'s running maximum, sums and accumulator. -/
def clear (A : Bufs sig) (h : Nat) (hh : h < 2) (k : P) : P :=
  stB A.m ![1, h, 0, 0] S1x1x64x128.size (inb_m (by decide) hh) (by decide)
    (shapeCast S1x1x64x128 (broadcast S64x128 (Scalar.ofBits .f32 0xFF800000#32) : FVec F S64x128 .f32) (by decide)) <|
  stB A.l ![h, 0, 0] S1x64x128.size (inb_l hh) (by decide)
    (shapeCast S1x64x128 (broadcast S64x128 (Scalar.ofBits .f32 0x00000000#32) : FVec F S64x128 .f32) (by decide)) <|
  stB A.acc ![h, 0, 0] S1x64x256.size (inb_q hh) (by decide)
    (shapeCast S1x64x256 (wide (broadcast S64x128 (Scalar.ofBits .f32 0x00000000#32) : FVec F S64x128 .f32)) (by decide)) k

def pre (A : Bufs sig) (hA : A.Whole) (k : P) : P :=
  startW A.x hA.x A.xb hA.xb (cell3 A.csm 0 (by decide)) <|
  startW A.kn hA.kn A.knb hA.knb (cell3 A.csm 1 (by decide)) <|
  startW A.vn hA.vn A.vnb hA.vnb (cell3 A.csm 2 (by decide)) <|
  start4 A hA 0 (by decide) <| start4 A hA 1 (by decide) <| start4 A hA 2 (by decide) <| start4 A hA 3 (by decide) <|
  start4 A hA 4 (by decide) <| start4 A hA 5 (by decide) <| start4 A hA 6 (by decide) <| start4 A hA 7 (by decide) <|
  waitW A.x hA.x A.xb hA.xb (cell3 A.csm 0 (by decide)) <|
  waitW A.kn hA.kn A.knb hA.knb (cell3 A.csm 1 (by decide)) <|
  waitW A.vn hA.vn A.vnb hA.vnb (cell3 A.csm 2 (by decide)) <|
  prep A hA 0 0 (by decide) (by decide) <| prep A hA 0 1 (by decide) (by decide) <|
  prep A hA 0 2 (by decide) (by decide) <| prep A hA 0 3 (by decide) (by decide) <|
  prep A hA 1 0 (by decide) (by decide) <| prep A hA 1 1 (by decide) (by decide) <|
  prep A hA 1 2 (by decide) (by decide) <| prep A hA 1 3 (by decide) (by decide) <|
  clear A 0 (by decide) <| clear A 1 (by decide) <|
  waitK A.kh hA.kh A.kb hA.kb A.ck 0 (by decide) <| waitS A.ksh A.ksb A.cks 0 (by decide) <|
  scores A A.s0 (0 % 8) (slot_lt _) 0 1 (by decide) (by decide) k

/-! ### After the loop -/

/-- Sequence `b`'s rows of head `h`'s result, in two halves. -/
def mergeRow (A : Bufs sig) (h b : Nat) (hh : h < 2) (hb : b < 4) (o p : FVec F S64x256 .f32) (k : P) : P :=
  ldB A.vnb ![b, 0, 0] S1x2x256.size (inb_kn hb) (by decide) fun vn =>
  stB A.o ![h, 0, 16 * b, 0] S1x1x16x128.size (inb_o hb hh (by decide)) (by decide)
    (shapeCast S1x1x16x128 (half0 (fRow h hh b hb o p vn)) (by decide)) <|
  stB A.o ![h, 1, 16 * b, 0] S1x1x16x128.size (inb_o hb hh (by decide)) (by decide)
    (shapeCast S1x1x16x128 (half1 (fRow h hh b hb o p vn)) (by decide)) k

/-- One half of query head `g`'s result for the four sequences: a strided read, and a block of the output. -/
def scat (A : Bufs sig) (hA : A.Whole) (h g f : Nat) (hh : h < 2) (hg : g < 16) (hf : f < 2) (k : P) : P :=
  .op (.load A.o (⟨![h, f, g, 0], S1x1x4x128.size, ![1, 1, 16, 1], inb_og hh hf hg⟩ : LoadRect S2x2x64x128) (View.loadsAt_vmem (show 0 < S1x1x4x128.numel by decide)))
    fun (r : Vec F S1x1x4x128 .f32) =>
  ldB A.ob ![0, 128 * (32 * h + 2 * g + f)] S4x128.size (inb_ob (by omega)) (by decide) fun _ =>
  .op (.store A.ob (Rect.unit (s := S4x8192) ![0, 128 * (32 * h + 2 * g + f)] S4x128.size (inb_ob (by omega)))
      (shapeCast S4x128 (truncf .bf16 (shapeCast S4x128 r : FVec F S4x128 .f32) (by decide) : FVec F S4x128 .bf16) (by decide)) Finset.univ
      (View.stores_vmem (show 0 < S4x128.numel by decide) (hA.ob.storeExact_slice rfl _ (packed_ob ⟨32 * h + 2 * g + f, by omega⟩)) (fun _ => rfl)) (.inl rfl)) fun _ => k

/-- Query heads `0 … n - 1`. -/
def scats (A : Bufs sig) (hA : A.Whole) (h : Nat) (hh : h < 2) : (n : Nat) → n ≤ 16 → P → P
  | 0, _, k => k
  | n + 1, hn, k => scats A hA h hh n (by omega) <|
      scat A hA h n 0 hh (by omega) (by decide) <| scat A hA h n 1 hh (by omega) (by decide) k

/-- One head's merge with the new token, normalised, and written to the output buffer. -/
def merge (A : Bufs sig) (hA : A.Whole) (h : Nat) (hh : h < 2) (k : P) : P :=
  ldB A.m ![1, h, 0, 0] S1x1x64x128.size (inb_m (by decide) hh) (by decide) fun m =>
  ldB A.sn ![h, 0, 0] S1x64x128.size (inb_l hh) (by decide) fun sn =>
  ldB A.l ![h, 0, 0] S1x64x128.size (inb_l hh) (by decide) fun l =>
  ldB A.acc ![h, 0, 0] S1x64x256.size (inb_q hh) (by decide) fun acc =>
  mergeRow A h 0 hh (by decide) (fO acc (shapeCast S64x128 l) (shapeCast S64x128 m) (shapeCast S64x128 sn)) (fP (shapeCast S64x128 l) (shapeCast S64x128 m) (shapeCast S64x128 sn)) <|
  mergeRow A h 1 hh (by decide) (fO acc (shapeCast S64x128 l) (shapeCast S64x128 m) (shapeCast S64x128 sn)) (fP (shapeCast S64x128 l) (shapeCast S64x128 m) (shapeCast S64x128 sn)) <|
  mergeRow A h 2 hh (by decide) (fO acc (shapeCast S64x128 l) (shapeCast S64x128 m) (shapeCast S64x128 sn)) (fP (shapeCast S64x128 l) (shapeCast S64x128 m) (shapeCast S64x128 sn)) <|
  mergeRow A h 3 hh (by decide) (fO acc (shapeCast S64x128 l) (shapeCast S64x128 m) (shapeCast S64x128 sn)) (fP (shapeCast S64x128 l) (shapeCast S64x128 m) (shapeCast S64x128 sn)) <|
  scats A hA h hh 16 (by decide) k

/-- The result's copy out. -/
def copyOut (A : Bufs sig) (hA : A.Whole) (k : P) : P :=
  .op (.enqueueDma A.ob (.here A.out) (.dma A.co.sem) hA.ob.wordExact hA.out.wordExact ⟨Or.inl rfl, trivial⟩) fun _ =>
  .op (.waitDma2 A.co.sem A.ob A.out hA.ob.wordExact hA.out.wordExact) fun _ => k

def post (A : Bufs sig) (hA : A.Whole) : P :=
  stage A hA A.s0 A.s1 0 1 (by decide) (by decide) 30 (by decide) <|
  lastStage A hA <|
  merge A hA 0 (by decide) <| merge A hA 1 (by decide) <|
  copyOut A hA <| .ret ⟨⟩

end Program

end Cascade
-- ==== Proof.Kern.EqKernel.lean ====
/- The printed program is the structured one: by definitional unfolding, the loop's body trip by trip. -/
module

public import proofs.«01_k».proof.Proof.Kern.Prog
public import proofs.«01_k».proof.Proof.Gen.Kernel.Skeleton
public import Idealize.ShloMosaic.Lib.Tactic

@[expose] public section

set_option maxRecDepth 65536
set_option Elab.async false

noncomputable section

namespace Cert.Kernel.Gen

open Idealize.ShloMosaic Idealize.SL.Sem Cert.Kernel

variable {F : FTy → Type} [FloatOps F] [Facts₀] [Facts]

/-- The constant as its word. -/
scoped instance : Cascade.Scl F := ⟨Scalar.ofBits .f32 0x3DB8AA3B#32⟩

set_option maxHeartbeats 0 in
theorem trip_eq (arg0 : Memref sig .tc .hbm S4x32x256 .bf16) (harg0 : arg0.IsWhole) (arg1 : Memref sig .tc .hbm S4x2x256 .bf16) (harg1 : arg1.IsWhole) (arg2 : Memref sig .tc .hbm S4x2x256 .bf16) (harg2 : arg2.IsWhole) (arg3 : Memref sig .tc .hbm S2x65536x256 .fp8e4m3) (harg3 : arg3.IsWhole) (arg4 : Memref sig .tc .hbm S2x65536 .f32) (harg4 : arg4.IsWhole) (arg5 : Memref sig .tc .hbm S2x65536x256 .fp8e4m3) (harg5 : arg5.IsWhole) (arg6 : Memref sig .tc .hbm S2x65536 .f32) (harg6 : arg6.IsWhole) (arg7 : Memref sig .tc .hbm S4x8192 .bf16) (harg7 : arg7.IsWhole) (arg8 : Memref sig .tc .vmem S4x32x256 .bf16) (harg8 : arg8.IsWhole) (arg9 : Memref sig .tc .vmem S4x2x256 .bf16) (harg9 : arg9.IsWhole) (arg10 : Memref sig .tc .vmem S4x2x256 .bf16) (harg10 : arg10.IsWhole) (arg11 : Memref sig .tc .vmem S8x2x2048x256 .fp8e4m3) (harg11 : arg11.IsWhole) (arg12 : Memref sig .tc .vmem S8x2x2048 .f32) (harg12 : arg12.IsWhole) (arg13 : Memref sig .tc .vmem S8x2x2048x256 .fp8e4m3) (harg13 : arg13.IsWhole) (arg14 : Memref sig .tc .vmem S8x2x2048 .f32) (harg14 : arg14.IsWhole) (arg15 : Memref sig .tc .vmem S2x64x256 .bf16) (harg15 : arg15.IsWhole) (arg16 : Memref sig .tc .vmem S2x64x128 .f32) (harg16 : arg16.IsWhole) (arg17 : Memref sig .tc .vmem S2x64x2048 .f32) (harg17 : arg17.IsWhole) (arg18 : Memref sig .tc .vmem S2x64x2048 .f32) (harg18 : arg18.IsWhole) (arg19 : Memref sig .tc .vmem S2x2x64x128 .f32) (harg19 : arg19.IsWhole) (arg20 : Memref sig .tc .vmem S2x2x64x128 .f32) (harg20 : arg20.IsWhole) (arg21 : Memref sig .tc .vmem S2x64x128 .f32) (harg21 : arg21.IsWhole) (arg22 : Memref sig .tc .vmem S2x64x256 .f32) (harg22 : arg22.IsWhole) (arg23 : Memref sig .tc .vmem S2x2x64x128 .f32) (harg23 : arg23.IsWhole) (arg24 : Memref sig .tc .vmem S4x8192 .bf16) (harg24 : arg24.IsWhole) (arg25 : DmaSems sig S8) (arg26 : DmaSems sig S8) (arg27 : DmaSems sig S8) (arg28 : DmaSems sig S8) (arg29 : DmaSems sig S3) (arg30 : DmaSems sig S_)
    (v748 : FVec F S64x128 .f32) (v750 : FVec F S64x128 .f32) (v755 : FVec F S64x128 .f32) :
    (n : Nat) → (hn : n < 15) → k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v748 v750 v755 ⟨n, hn⟩ ⟨⟩ =
      Cascade.trip (Λ := Λ₀) ⟨arg0, arg1, arg2, arg3, arg4, arg5, arg6, arg7, arg8, arg9, arg10, arg11, arg12, arg13, arg14, arg15, arg16, arg17, arg18, arg19, arg20, arg21, arg22, arg23, arg24, arg25, arg26, arg27, arg28, arg29, arg30⟩ ⟨harg0, harg1, harg2, harg3, harg4, harg5, harg6, harg7, harg8, harg9, harg10, harg11, harg12, harg13, harg14, harg15, harg16, harg17, harg18, harg19, harg20, harg21, harg22, harg23, harg24⟩ n hn
  | 0, _ => by sl_kernel_rfl
  | 1, _ => by sl_kernel_rfl
  | 2, _ => by sl_kernel_rfl
  | 3, _ => by sl_kernel_rfl
  | 4, _ => by sl_kernel_rfl
  | 5, _ => by sl_kernel_rfl
  | 6, _ => by sl_kernel_rfl
  | 7, _ => by sl_kernel_rfl
  | 8, _ => by sl_kernel_rfl
  | 9, _ => by sl_kernel_rfl
  | 10, _ => by sl_kernel_rfl
  | 11, _ => by sl_kernel_rfl
  | 12, _ => by sl_kernel_rfl
  | 13, _ => by sl_kernel_rfl
  | 14, _ => by sl_kernel_rfl
  | n + 15, h => absurd h (by omega)

/-- The loop, over the structured trips. -/
def loopS (A : Cascade.Bufs sig) (hA : A.Whole) : Prog (TpuEff nD τ sig (Elt F) Λ₀ .tc) PUnit :=
  Scf.Loop.for k0_t1_loop k0_t1_ok ⟨⟩ fun i _ => Cascade.trip A hA i.val i.isLt

/-- The printed parts after the loop. -/
def rest2 (arg0 : Memref sig .tc .hbm S4x32x256 .bf16) (harg0 : arg0.IsWhole) (arg1 : Memref sig .tc .hbm S4x2x256 .bf16) (harg1 : arg1.IsWhole) (arg2 : Memref sig .tc .hbm S4x2x256 .bf16) (harg2 : arg2.IsWhole) (arg3 : Memref sig .tc .hbm S2x65536x256 .fp8e4m3) (harg3 : arg3.IsWhole) (arg4 : Memref sig .tc .hbm S2x65536 .f32) (harg4 : arg4.IsWhole) (arg5 : Memref sig .tc .hbm S2x65536x256 .fp8e4m3) (harg5 : arg5.IsWhole) (arg6 : Memref sig .tc .hbm S2x65536 .f32) (harg6 : arg6.IsWhole) (arg7 : Memref sig .tc .hbm S4x8192 .bf16) (harg7 : arg7.IsWhole) (arg8 : Memref sig .tc .vmem S4x32x256 .bf16) (harg8 : arg8.IsWhole) (arg9 : Memref sig .tc .vmem S4x2x256 .bf16) (harg9 : arg9.IsWhole) (arg10 : Memref sig .tc .vmem S4x2x256 .bf16) (harg10 : arg10.IsWhole) (arg11 : Memref sig .tc .vmem S8x2x2048x256 .fp8e4m3) (harg11 : arg11.IsWhole) (arg12 : Memref sig .tc .vmem S8x2x2048 .f32) (harg12 : arg12.IsWhole) (arg13 : Memref sig .tc .vmem S8x2x2048x256 .fp8e4m3) (harg13 : arg13.IsWhole) (arg14 : Memref sig .tc .vmem S8x2x2048 .f32) (harg14 : arg14.IsWhole) (arg15 : Memref sig .tc .vmem S2x64x256 .bf16) (harg15 : arg15.IsWhole) (arg16 : Memref sig .tc .vmem S2x64x128 .f32) (harg16 : arg16.IsWhole) (arg17 : Memref sig .tc .vmem S2x64x2048 .f32) (harg17 : arg17.IsWhole) (arg18 : Memref sig .tc .vmem S2x64x2048 .f32) (harg18 : arg18.IsWhole) (arg19 : Memref sig .tc .vmem S2x2x64x128 .f32) (harg19 : arg19.IsWhole) (arg20 : Memref sig .tc .vmem S2x2x64x128 .f32) (harg20 : arg20.IsWhole) (arg21 : Memref sig .tc .vmem S2x64x128 .f32) (harg21 : arg21.IsWhole) (arg22 : Memref sig .tc .vmem S2x64x256 .f32) (harg22 : arg22.IsWhole) (arg23 : Memref sig .tc .vmem S2x2x64x128 .f32) (harg23 : arg23.IsWhole) (arg24 : Memref sig .tc .vmem S4x8192 .bf16) (harg24 : arg24.IsWhole) (arg25 : DmaSems sig S8) (arg26 : DmaSems sig S8) (arg27 : DmaSems sig S8) (arg28 : DmaSems sig S8) (arg29 : DmaSems sig S3) (arg30 : DmaSems sig S_) :
    Prog (TpuEff nD τ sig (Elt F) Λ₀ .tc) (Σ' (v2103 : FVec F S4x128 .bf16), Vec F S4x128 .bf16) := do
  let ⟨v804, v810, v812⟩ : Σ' (v804 : BitVec 32) (v810 : FVec F S64x256 .f32), Vec F S1x1x256 .f32 ← k0_part68 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30
  let ⟨v823, v842, v844, v847⟩ : Σ' (v823 : FVec F S64x128 .f32) (v842 : FVec F S64x128 .f32) (v844 : FVec F S64x256 .bf16), FVec F S256x256 .fp8e4m3 ← k0_part69 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v804 v810 v812
  let ⟨v862, v882⟩ : Σ' (v862 : FVec F S64x128 .f32), FVec F S64x128 .f32 ← k0_part70 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v804 v823 v842 v844 v847
  let ⟨v902, v915, v918⟩ : Σ' (v902 : FVec F S64x128 .f32) (v915 : FVec F S64x256 .f32), FVec F S1x64x256 .f32 ← k0_part71 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v804 v862
  let ⟨v922, v942, v948, v953⟩ : Σ' (v922 : FVec F S64x128 .f32) (v942 : FVec F S64x128 .f32) (v948 : FVec F S64x256 .f32), FVec F S1x256 .f32 ← k0_part72 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v804 v882 v902 v915 v918
  let ⟨v962, v982, v988⟩ : Σ' (v962 : FVec F S64x128 .f32) (v982 : FVec F S64x128 .f32), FVec F S64x256 .f32 ← k0_part73 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v804 v922 v942 v948 v953
  let ⟨v1002, v1022, v1024⟩ : Σ' (v1002 : FVec F S64x128 .f32) (v1022 : FVec F S64x128 .f32), FVec F S64x256 .bf16 ← k0_part74 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v804 v962 v982 v988
  let ⟨v1042, v1055, v1059⟩ : Σ' (v1042 : FVec F S64x128 .f32) (v1055 : FVec F S64x256 .f32), FVec F S64x128 .f32 ← k0_part75 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v804 v1002 v1024
  let ⟨v1062, v1082, v1095⟩ : Σ' (v1062 : FVec F S64x128 .f32) (v1082 : FVec F S64x128 .f32), FVec F S64x256 .f32 ← k0_part76 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v804 v1022 v1042 v1055 v1059
  let ⟨v1122, v1124, v1129⟩ : Σ' (v1122 : FVec F S64x128 .f32) (v1124 : FVec F S64x128 .f32), FVec F S64x128 .f32 ← k0_part77 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v804 v1062 v1082 v1095
  let ⟨v1153, v1155, v1157⟩ : Σ' (v1153 : BitVec 32) (v1155 : FVec F S64x128 .f32), FVec F S64x128 .f32 ← k0_part78 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1122 v1124 v1129
  let ⟨v1171, v1182, v1187, v1193, v1196⟩ : Σ' (v1171 : FVec F S64x128 .bf16) (v1182 : FVec F S64x128 .bf16) (v1187 : FVec F S64x128 .f32) (v1193 : FVec F S64x128 .bf16), FVec F S64x128 .f32 ← k0_part79 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1153 v1155 v1157
  let ⟨v1204, v1215, v1226, v1231, v1237⟩ : Σ' (v1204 : FVec F S64x128 .bf16) (v1215 : FVec F S64x128 .bf16) (v1226 : FVec F S64x128 .bf16) (v1231 : FVec F S64x128 .f32), FVec F S64x128 .bf16 ← k0_part80 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1153 v1155 v1187 v1196
  let ⟨v1248, v1259, v1270, v1274, v1275, v1279⟩ : Σ' (v1248 : FVec F S64x128 .bf16) (v1259 : FVec F S64x128 .bf16) (v1270 : FVec F S64x128 .bf16) (v1274 : FVec F S64x128 .f32) (v1275 : FVec F S64x128 .f32), FVec F S64x128 .f32 ← k0_part81 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1153 v1155 v1231
  let ⟨v1281, v1292, v1303, v1314, v1318, v1319⟩ : Σ' (v1281 : FVec F S64x128 .bf16) (v1292 : FVec F S64x128 .bf16) (v1303 : FVec F S64x128 .bf16) (v1314 : FVec F S64x128 .bf16) (v1318 : FVec F S64x128 .f32), FVec F S64x128 .f32 ← k0_part82 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1153 v1155 v1274 v1275 v1279
  let v1354 : FVec F S64x128 .f32 ← k0_part83 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1153 v1155 v1157 v1171 v1182 v1193 v1204 v1215 v1226 v1237 v1248 v1259 v1270 v1281 v1292 v1303 v1314 v1318 v1319
  let ⟨v1356, v1370, v1381, v1386, v1392⟩ : Σ' (v1356 : FVec F S64x128 .f32) (v1370 : FVec F S64x128 .bf16) (v1381 : FVec F S64x128 .bf16) (v1386 : FVec F S64x128 .f32), FVec F S64x128 .bf16 ← k0_part84 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1153 v1354
  let ⟨v1403, v1414, v1425, v1429, v1430, v1433⟩ : Σ' (v1403 : FVec F S64x128 .bf16) (v1414 : FVec F S64x128 .bf16) (v1425 : FVec F S64x128 .bf16) (v1429 : FVec F S64x128 .f32) (v1430 : FVec F S64x128 .f32), FVec F S1x128 .f32 ← k0_part85 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1153 v1354 v1386
  let ⟨v1436, v1447, v1458, v1469, v1473, v1474⟩ : Σ' (v1436 : FVec F S64x128 .bf16) (v1447 : FVec F S64x128 .bf16) (v1458 : FVec F S64x128 .bf16) (v1469 : FVec F S64x128 .bf16) (v1473 : FVec F S64x128 .f32), FVec F S64x128 .f32 ← k0_part86 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1153 v1354 v1429 v1430 v1433
  let ⟨v1480, v1491, v1502, v1507, v1513, v1515⟩ : Σ' (v1480 : FVec F S64x128 .bf16) (v1491 : FVec F S64x128 .bf16) (v1502 : FVec F S64x128 .bf16) (v1507 : FVec F S64x128 .f32) (v1513 : FVec F S64x128 .bf16), FVec F S64x128 .f32 ← k0_part87 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1153 v1354 v1473 v1474
  let ⟨c31_i32_991, c8_i32_992⟩ : Σ' (c31_i32_991 : BitVec 32), BitVec 32 ← k0_part88 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1153 v1354 v1356 v1370 v1381 v1392 v1403 v1414 v1425 v1436 v1447 v1458 v1469 v1480 v1491 v1502 v1507 v1513 v1515
  let ⟨v1564, v1566, v1568, v1576, v1582⟩ : Σ' (v1564 : BitVec 32) (v1566 : FVec F S64x128 .f32) (v1568 : FVec F S64x128 .f32) (v1576 : FVec F S64x128 .f32), FVec F S64x128 .bf16 ← k0_part89 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 c31_i32_991 c8_i32_992
  let ⟨v1593, v1604, v1615, v1619, v1620, v1622⟩ : Σ' (v1593 : FVec F S64x128 .bf16) (v1604 : FVec F S64x128 .bf16) (v1615 : FVec F S64x128 .bf16) (v1619 : FVec F S64x128 .f32) (v1620 : FVec F S64x128 .f32), Vec F S1x1x128 .f32 ← k0_part90 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1564 v1566 v1576
  let ⟨v1626, v1637, v1648, v1659, v1663, v1664⟩ : Σ' (v1626 : FVec F S64x128 .bf16) (v1637 : FVec F S64x128 .bf16) (v1648 : FVec F S64x128 .bf16) (v1659 : FVec F S64x128 .bf16) (v1663 : FVec F S64x128 .f32), FVec F S64x128 .f32 ← k0_part91 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1564 v1566 v1619 v1620 v1622
  let ⟨v1670, v1681, v1692, v1697, v1703, v1704⟩ : Σ' (v1670 : FVec F S64x128 .bf16) (v1681 : FVec F S64x128 .bf16) (v1692 : FVec F S64x128 .bf16) (v1697 : FVec F S64x128 .f32) (v1703 : FVec F S64x128 .bf16), Vec F S1x64x128 .f32 ← k0_part92 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1564 v1566 v1663 v1664
  let ⟨v1714, v1725, v1736, v1741, v1747⟩ : Σ' (v1714 : FVec F S64x128 .bf16) (v1725 : FVec F S64x128 .bf16) (v1736 : FVec F S64x128 .bf16) (v1741 : FVec F S64x128 .f32), FVec F S64x128 .bf16 ← k0_part93 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1564 v1566 v1697 v1704
  let ⟨v1765, v1767, v1774, v1775⟩ : Σ' (v1765 : FVec F S64x128 .f32) (v1767 : FVec F S64x128 .f32) (v1774 : FVec F S64x128 .f32), FVec F S64x128 .f32 ← k0_part94 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1564 v1568 v1582 v1593 v1604 v1615 v1626 v1637 v1648 v1659 v1670 v1681 v1692 v1703 v1714 v1725 v1736 v1741 v1747
  let ⟨v1781, v1792, v1803, v1808, v1814, v1818⟩ : Σ' (v1781 : FVec F S64x128 .bf16) (v1792 : FVec F S64x128 .bf16) (v1803 : FVec F S64x128 .bf16) (v1808 : FVec F S64x128 .f32) (v1814 : FVec F S64x128 .bf16), FVec F S64x128 .f32 ← k0_part95 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1564 v1765 v1774 v1775
  let ⟨v1825, v1836, v1847, v1852, v1858⟩ : Σ' (v1825 : FVec F S64x128 .bf16) (v1836 : FVec F S64x128 .bf16) (v1847 : FVec F S64x128 .bf16) (v1852 : FVec F S64x128 .f32), FVec F S64x128 .bf16 ← k0_part96 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1564 v1765 v1808 v1818
  let ⟨v1869, v1880, v1891, v1896, v1901⟩ : Σ' (v1869 : FVec F S64x128 .bf16) (v1880 : FVec F S64x128 .bf16) (v1891 : FVec F S64x128 .bf16) (v1896 : FVec F S64x128 .f32), FVec F S64x128 .f32 ← k0_part97 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1564 v1765 v1852
  let ⟨v1902, v1913, v1924, v1935, v1939, v1940⟩ : Σ' (v1902 : FVec F S64x128 .bf16) (v1913 : FVec F S64x128 .bf16) (v1924 : FVec F S64x128 .bf16) (v1935 : FVec F S64x128 .bf16) (v1939 : FVec F S64x128 .f32), FVec F S64x128 .f32 ← k0_part98 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1564 v1765 v1896 v1901
  let ⟨v1969, v1971, v1975⟩ : Σ' (v1969 : FVec F S64x128 .f32) (v1971 : FVec F S64x128 .f32), FVec F S64 .f32 ← k0_part99 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1564 v1767 v1781 v1792 v1803 v1814 v1825 v1836 v1847 v1858 v1869 v1880 v1891 v1902 v1913 v1924 v1935 v1939 v1940
  let ⟨v1985, v1990, v2012, v2015⟩ : Σ' (v1985 : FVec F S64x256 .f32) (v1990 : FVec F S64x256 .f32) (v2012 : FVec F S16x256 .f32), FVec F S16x256 .f32 ← k0_part100 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1969 v1971 v1975
  let ⟨v2046, v2049⟩ : Σ' (v2046 : FVec F S16x256 .f32), FVec F S16x256 .f32 ← k0_part101 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1985 v1990 v2012 v2015
  k0_part102 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v2046 v2049
  let ⟨v2103, v2104⟩ : Σ' (v2103 : FVec F S4x128 .bf16), Vec F S4x128 .bf16 ← k0_part103 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30
  pure ⟨v2103, v2104⟩

def rest3 (arg0 : Memref sig .tc .hbm S4x32x256 .bf16) (harg0 : arg0.IsWhole) (arg1 : Memref sig .tc .hbm S4x2x256 .bf16) (harg1 : arg1.IsWhole) (arg2 : Memref sig .tc .hbm S4x2x256 .bf16) (harg2 : arg2.IsWhole) (arg3 : Memref sig .tc .hbm S2x65536x256 .fp8e4m3) (harg3 : arg3.IsWhole) (arg4 : Memref sig .tc .hbm S2x65536 .f32) (harg4 : arg4.IsWhole) (arg5 : Memref sig .tc .hbm S2x65536x256 .fp8e4m3) (harg5 : arg5.IsWhole) (arg6 : Memref sig .tc .hbm S2x65536 .f32) (harg6 : arg6.IsWhole) (arg7 : Memref sig .tc .hbm S4x8192 .bf16) (harg7 : arg7.IsWhole) (arg8 : Memref sig .tc .vmem S4x32x256 .bf16) (harg8 : arg8.IsWhole) (arg9 : Memref sig .tc .vmem S4x2x256 .bf16) (harg9 : arg9.IsWhole) (arg10 : Memref sig .tc .vmem S4x2x256 .bf16) (harg10 : arg10.IsWhole) (arg11 : Memref sig .tc .vmem S8x2x2048x256 .fp8e4m3) (harg11 : arg11.IsWhole) (arg12 : Memref sig .tc .vmem S8x2x2048 .f32) (harg12 : arg12.IsWhole) (arg13 : Memref sig .tc .vmem S8x2x2048x256 .fp8e4m3) (harg13 : arg13.IsWhole) (arg14 : Memref sig .tc .vmem S8x2x2048 .f32) (harg14 : arg14.IsWhole) (arg15 : Memref sig .tc .vmem S2x64x256 .bf16) (harg15 : arg15.IsWhole) (arg16 : Memref sig .tc .vmem S2x64x128 .f32) (harg16 : arg16.IsWhole) (arg17 : Memref sig .tc .vmem S2x64x2048 .f32) (harg17 : arg17.IsWhole) (arg18 : Memref sig .tc .vmem S2x64x2048 .f32) (harg18 : arg18.IsWhole) (arg19 : Memref sig .tc .vmem S2x2x64x128 .f32) (harg19 : arg19.IsWhole) (arg20 : Memref sig .tc .vmem S2x2x64x128 .f32) (harg20 : arg20.IsWhole) (arg21 : Memref sig .tc .vmem S2x64x128 .f32) (harg21 : arg21.IsWhole) (arg22 : Memref sig .tc .vmem S2x64x256 .f32) (harg22 : arg22.IsWhole) (arg23 : Memref sig .tc .vmem S2x2x64x128 .f32) (harg23 : arg23.IsWhole) (arg24 : Memref sig .tc .vmem S4x8192 .bf16) (harg24 : arg24.IsWhole) (arg25 : DmaSems sig S8) (arg26 : DmaSems sig S8) (arg27 : DmaSems sig S8) (arg28 : DmaSems sig S8) (arg29 : DmaSems sig S3) (arg30 : DmaSems sig S_) (v2103 : FVec F S4x128 .bf16) (v2104 : Vec F S4x128 .bf16) :
    Prog (TpuEff nD τ sig (Elt F) Λ₀ .tc) PUnit := do
  let v2533 : Vec F S1x1x4x128 .f32 ← k0_part119 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v2103 v2104
  have v2534 : FVec F S4x128 .f32 := shapeCast S4x128 v2533 shapeCasts_S1x1x4x128_S4x128
  have v2535 : FVec F S4x128 .bf16 := truncf .bf16 v2534 bitsLt_bf16_f32
  let c0_1653 : Index := 0#32
  let c8064 : Index := 8064#32
  let v2536 : Vec F S4x128 .bf16 ← Prog.lift (.load arg24 (Rect.unit (s := S4x8192) ![0, 8064] S4x128.size inb_S4x8192_S4x128_0_8064).toLoadRect (View.loadsAt_vmem h_S4x128))
  have v2537 : FVec F S4x128 .bf16 := shapeCast S4x128 v2536 shapeCasts_S4x128_S4x128
  have v2538 : FVec F S4x128 .bf16 := shapeCast S4x128 v2535 shapeCasts_S4x128_S4x128
  Prog.lift (.store arg24 (Rect.unit (s := S4x8192) ![0, 8064] S4x128.size inb_S4x8192_S4x128_0_8064) v2538 Finset.univ (View.stores_vmem h_S4x128 (harg24.storeExact_slice rfl _ packedbf16_S4x8192_S4x128_0_8064) (fun _ => rfl)) (.inl rfl))
  Prog.lift (.enqueueDma arg24 (.here arg7) (.dma arg30.sem) harg24.wordExact harg7.wordExact ⟨Or.inl rfl, trivial⟩)
  Prog.lift (.waitDma2 arg30.sem arg24 arg7 harg24.wordExact harg7.wordExact)
  pure ⟨⟩

/-- The printed program up to its loop; the loop, and the parts after it, as printed. -/
theorem kernel_eq₁ (arg0 : Memref sig .tc .hbm S4x32x256 .bf16) (harg0 : arg0.IsWhole) (arg1 : Memref sig .tc .hbm S4x2x256 .bf16) (harg1 : arg1.IsWhole) (arg2 : Memref sig .tc .hbm S4x2x256 .bf16) (harg2 : arg2.IsWhole) (arg3 : Memref sig .tc .hbm S2x65536x256 .fp8e4m3) (harg3 : arg3.IsWhole) (arg4 : Memref sig .tc .hbm S2x65536 .f32) (harg4 : arg4.IsWhole) (arg5 : Memref sig .tc .hbm S2x65536x256 .fp8e4m3) (harg5 : arg5.IsWhole) (arg6 : Memref sig .tc .hbm S2x65536 .f32) (harg6 : arg6.IsWhole) (arg7 : Memref sig .tc .hbm S4x8192 .bf16) (harg7 : arg7.IsWhole) (arg8 : Memref sig .tc .vmem S4x32x256 .bf16) (harg8 : arg8.IsWhole) (arg9 : Memref sig .tc .vmem S4x2x256 .bf16) (harg9 : arg9.IsWhole) (arg10 : Memref sig .tc .vmem S4x2x256 .bf16) (harg10 : arg10.IsWhole) (arg11 : Memref sig .tc .vmem S8x2x2048x256 .fp8e4m3) (harg11 : arg11.IsWhole) (arg12 : Memref sig .tc .vmem S8x2x2048 .f32) (harg12 : arg12.IsWhole) (arg13 : Memref sig .tc .vmem S8x2x2048x256 .fp8e4m3) (harg13 : arg13.IsWhole) (arg14 : Memref sig .tc .vmem S8x2x2048 .f32) (harg14 : arg14.IsWhole) (arg15 : Memref sig .tc .vmem S2x64x256 .bf16) (harg15 : arg15.IsWhole) (arg16 : Memref sig .tc .vmem S2x64x128 .f32) (harg16 : arg16.IsWhole) (arg17 : Memref sig .tc .vmem S2x64x2048 .f32) (harg17 : arg17.IsWhole) (arg18 : Memref sig .tc .vmem S2x64x2048 .f32) (harg18 : arg18.IsWhole) (arg19 : Memref sig .tc .vmem S2x2x64x128 .f32) (harg19 : arg19.IsWhole) (arg20 : Memref sig .tc .vmem S2x2x64x128 .f32) (harg20 : arg20.IsWhole) (arg21 : Memref sig .tc .vmem S2x64x128 .f32) (harg21 : arg21.IsWhole) (arg22 : Memref sig .tc .vmem S2x64x256 .f32) (harg22 : arg22.IsWhole) (arg23 : Memref sig .tc .vmem S2x2x64x128 .f32) (harg23 : arg23.IsWhole) (arg24 : Memref sig .tc .vmem S4x8192 .bf16) (harg24 : arg24.IsWhole) (arg25 : DmaSems sig S8) (arg26 : DmaSems sig S8) (arg27 : DmaSems sig S8) (arg28 : DmaSems sig S8) (arg29 : DmaSems sig S3) (arg30 : DmaSems sig S_) :
    cc0_cascade_decode (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 = Cascade.pre (Λ := Λ₀) ⟨arg0, arg1, arg2, arg3, arg4, arg5, arg6, arg7, arg8, arg9, arg10, arg11, arg12, arg13, arg14, arg15, arg16, arg17, arg18, arg19, arg20, arg21, arg22, arg23, arg24, arg25, arg26, arg27, arg28, arg29, arg30⟩ ⟨harg0, harg1, harg2, harg3, harg4, harg5, harg6, harg7, harg8, harg9, harg10, harg11, harg12, harg13, harg14, harg15, harg16, harg17, harg18, harg19, harg20, harg21, harg22, harg23, harg24⟩
      (Prog.bind (Prog.bind (Prog.bind (Scf.Loop.for k0_t1_loop k0_t1_ok ⟨⟩ fun i u => k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 (Cascade.dummy) (Cascade.dummy) (Cascade.dummy) i u)
        (fun _ => .ret (⟨⟩ : PUnit))) (fun _ => rest2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30)) (fun r => rest3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 r.1 r.2)) := by
  sl_kernel_rfl

theorem rest_eq (arg0 : Memref sig .tc .hbm S4x32x256 .bf16) (harg0 : arg0.IsWhole) (arg1 : Memref sig .tc .hbm S4x2x256 .bf16) (harg1 : arg1.IsWhole) (arg2 : Memref sig .tc .hbm S4x2x256 .bf16) (harg2 : arg2.IsWhole) (arg3 : Memref sig .tc .hbm S2x65536x256 .fp8e4m3) (harg3 : arg3.IsWhole) (arg4 : Memref sig .tc .hbm S2x65536 .f32) (harg4 : arg4.IsWhole) (arg5 : Memref sig .tc .hbm S2x65536x256 .fp8e4m3) (harg5 : arg5.IsWhole) (arg6 : Memref sig .tc .hbm S2x65536 .f32) (harg6 : arg6.IsWhole) (arg7 : Memref sig .tc .hbm S4x8192 .bf16) (harg7 : arg7.IsWhole) (arg8 : Memref sig .tc .vmem S4x32x256 .bf16) (harg8 : arg8.IsWhole) (arg9 : Memref sig .tc .vmem S4x2x256 .bf16) (harg9 : arg9.IsWhole) (arg10 : Memref sig .tc .vmem S4x2x256 .bf16) (harg10 : arg10.IsWhole) (arg11 : Memref sig .tc .vmem S8x2x2048x256 .fp8e4m3) (harg11 : arg11.IsWhole) (arg12 : Memref sig .tc .vmem S8x2x2048 .f32) (harg12 : arg12.IsWhole) (arg13 : Memref sig .tc .vmem S8x2x2048x256 .fp8e4m3) (harg13 : arg13.IsWhole) (arg14 : Memref sig .tc .vmem S8x2x2048 .f32) (harg14 : arg14.IsWhole) (arg15 : Memref sig .tc .vmem S2x64x256 .bf16) (harg15 : arg15.IsWhole) (arg16 : Memref sig .tc .vmem S2x64x128 .f32) (harg16 : arg16.IsWhole) (arg17 : Memref sig .tc .vmem S2x64x2048 .f32) (harg17 : arg17.IsWhole) (arg18 : Memref sig .tc .vmem S2x64x2048 .f32) (harg18 : arg18.IsWhole) (arg19 : Memref sig .tc .vmem S2x2x64x128 .f32) (harg19 : arg19.IsWhole) (arg20 : Memref sig .tc .vmem S2x2x64x128 .f32) (harg20 : arg20.IsWhole) (arg21 : Memref sig .tc .vmem S2x64x128 .f32) (harg21 : arg21.IsWhole) (arg22 : Memref sig .tc .vmem S2x64x256 .f32) (harg22 : arg22.IsWhole) (arg23 : Memref sig .tc .vmem S2x2x64x128 .f32) (harg23 : arg23.IsWhole) (arg24 : Memref sig .tc .vmem S4x8192 .bf16) (harg24 : arg24.IsWhole) (arg25 : DmaSems sig S8) (arg26 : DmaSems sig S8) (arg27 : DmaSems sig S8) (arg28 : DmaSems sig S8) (arg29 : DmaSems sig S3) (arg30 : DmaSems sig S_) :
    Prog.bind (rest2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30) (fun r => rest3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 r.1 r.2) = Cascade.post (Λ := Λ₀) ⟨arg0, arg1, arg2, arg3, arg4, arg5, arg6, arg7, arg8, arg9, arg10, arg11, arg12, arg13, arg14, arg15, arg16, arg17, arg18, arg19, arg20, arg21, arg22, arg23, arg24, arg25, arg26, arg27, arg28, arg29, arg30⟩ ⟨harg0, harg1, harg2, harg3, harg4, harg5, harg6, harg7, harg8, harg9, harg10, harg11, harg12, harg13, harg14, harg15, harg16, harg17, harg18, harg19, harg20, harg21, harg22, harg23, harg24⟩ := by
  sl_kernel_rfl

theorem kernel_eq (arg0 : Memref sig .tc .hbm S4x32x256 .bf16) (harg0 : arg0.IsWhole) (arg1 : Memref sig .tc .hbm S4x2x256 .bf16) (harg1 : arg1.IsWhole) (arg2 : Memref sig .tc .hbm S4x2x256 .bf16) (harg2 : arg2.IsWhole) (arg3 : Memref sig .tc .hbm S2x65536x256 .fp8e4m3) (harg3 : arg3.IsWhole) (arg4 : Memref sig .tc .hbm S2x65536 .f32) (harg4 : arg4.IsWhole) (arg5 : Memref sig .tc .hbm S2x65536x256 .fp8e4m3) (harg5 : arg5.IsWhole) (arg6 : Memref sig .tc .hbm S2x65536 .f32) (harg6 : arg6.IsWhole) (arg7 : Memref sig .tc .hbm S4x8192 .bf16) (harg7 : arg7.IsWhole) (arg8 : Memref sig .tc .vmem S4x32x256 .bf16) (harg8 : arg8.IsWhole) (arg9 : Memref sig .tc .vmem S4x2x256 .bf16) (harg9 : arg9.IsWhole) (arg10 : Memref sig .tc .vmem S4x2x256 .bf16) (harg10 : arg10.IsWhole) (arg11 : Memref sig .tc .vmem S8x2x2048x256 .fp8e4m3) (harg11 : arg11.IsWhole) (arg12 : Memref sig .tc .vmem S8x2x2048 .f32) (harg12 : arg12.IsWhole) (arg13 : Memref sig .tc .vmem S8x2x2048x256 .fp8e4m3) (harg13 : arg13.IsWhole) (arg14 : Memref sig .tc .vmem S8x2x2048 .f32) (harg14 : arg14.IsWhole) (arg15 : Memref sig .tc .vmem S2x64x256 .bf16) (harg15 : arg15.IsWhole) (arg16 : Memref sig .tc .vmem S2x64x128 .f32) (harg16 : arg16.IsWhole) (arg17 : Memref sig .tc .vmem S2x64x2048 .f32) (harg17 : arg17.IsWhole) (arg18 : Memref sig .tc .vmem S2x64x2048 .f32) (harg18 : arg18.IsWhole) (arg19 : Memref sig .tc .vmem S2x2x64x128 .f32) (harg19 : arg19.IsWhole) (arg20 : Memref sig .tc .vmem S2x2x64x128 .f32) (harg20 : arg20.IsWhole) (arg21 : Memref sig .tc .vmem S2x64x128 .f32) (harg21 : arg21.IsWhole) (arg22 : Memref sig .tc .vmem S2x64x256 .f32) (harg22 : arg22.IsWhole) (arg23 : Memref sig .tc .vmem S2x2x64x128 .f32) (harg23 : arg23.IsWhole) (arg24 : Memref sig .tc .vmem S4x8192 .bf16) (harg24 : arg24.IsWhole) (arg25 : DmaSems sig S8) (arg26 : DmaSems sig S8) (arg27 : DmaSems sig S8) (arg28 : DmaSems sig S8) (arg29 : DmaSems sig S3) (arg30 : DmaSems sig S_) :
    cc0_cascade_decode (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 = Cascade.pre (Λ := Λ₀) ⟨arg0, arg1, arg2, arg3, arg4, arg5, arg6, arg7, arg8, arg9, arg10, arg11, arg12, arg13, arg14, arg15, arg16, arg17, arg18, arg19, arg20, arg21, arg22, arg23, arg24, arg25, arg26, arg27, arg28, arg29, arg30⟩ ⟨harg0, harg1, harg2, harg3, harg4, harg5, harg6, harg7, harg8, harg9, harg10, harg11, harg12, harg13, harg14, harg15, harg16, harg17, harg18, harg19, harg20, harg21, harg22, harg23, harg24⟩
      (Prog.bind (loopS ⟨arg0, arg1, arg2, arg3, arg4, arg5, arg6, arg7, arg8, arg9, arg10, arg11, arg12, arg13, arg14, arg15, arg16, arg17, arg18, arg19, arg20, arg21, arg22, arg23, arg24, arg25, arg26, arg27, arg28, arg29, arg30⟩ ⟨harg0, harg1, harg2, harg3, harg4, harg5, harg6, harg7, harg8, harg9, harg10, harg11, harg12, harg13, harg14, harg15, harg16, harg17, harg18, harg19, harg20, harg21, harg22, harg23, harg24⟩) (fun _ => Cascade.post ⟨arg0, arg1, arg2, arg3, arg4, arg5, arg6, arg7, arg8, arg9, arg10, arg11, arg12, arg13, arg14, arg15, arg16, arg17, arg18, arg19, arg20, arg21, arg22, arg23, arg24, arg25, arg26, arg27, arg28, arg29, arg30⟩ ⟨harg0, harg1, harg2, harg3, harg4, harg5, harg6, harg7, harg8, harg9, harg10, harg11, harg12, harg13, harg14, harg15, harg16, harg17, harg18, harg19, harg20, harg21, harg22, harg23, harg24⟩)) := by
  rw [kernel_eq₁]
  have e : (fun (i : Fin k0_t1_loop.trips) (u : Unit) => k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 (Cascade.dummy) (Cascade.dummy) (Cascade.dummy) i u) =
      fun i _ => Cascade.trip (Λ := Λ₀) ⟨arg0, arg1, arg2, arg3, arg4, arg5, arg6, arg7, arg8, arg9, arg10, arg11, arg12, arg13, arg14, arg15, arg16, arg17, arg18, arg19, arg20, arg21, arg22, arg23, arg24, arg25, arg26, arg27, arg28, arg29, arg30⟩ ⟨harg0, harg1, harg2, harg3, harg4, harg5, harg6, harg7, harg8, harg9, harg10, harg11, harg12, harg13, harg14, harg15, harg16, harg17, harg18, harg19, harg20, harg21, harg22, harg23, harg24⟩ i.val i.isLt := by
    funext i u
    exact trip_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 _ _ _ i.val i.isLt
  rw [e, Cascade.bind3]
  show Cascade.pre (Λ := Λ₀) ⟨arg0, arg1, arg2, arg3, arg4, arg5, arg6, arg7, arg8, arg9, arg10, arg11, arg12, arg13, arg14, arg15, arg16, arg17, arg18, arg19, arg20, arg21, arg22, arg23, arg24, arg25, arg26, arg27, arg28, arg29, arg30⟩ ⟨harg0, harg1, harg2, harg3, harg4, harg5, harg6, harg7, harg8, harg9, harg10, harg11, harg12, harg13, harg14, harg15, harg16, harg17, harg18, harg19, harg20, harg21, harg22, harg23, harg24⟩ (Prog.bind (loopS ⟨arg0, arg1, arg2, arg3, arg4, arg5, arg6, arg7, arg8, arg9, arg10, arg11, arg12, arg13, arg14, arg15, arg16, arg17, arg18, arg19, arg20, arg21, arg22, arg23, arg24, arg25, arg26, arg27, arg28, arg29, arg30⟩ ⟨harg0, harg1, harg2, harg3, harg4, harg5, harg6, harg7, harg8, harg9, harg10, harg11, harg12, harg13, harg14, harg15, harg16, harg17, harg18, harg19, harg20, harg21, harg22, harg23, harg24⟩) (fun _ =>
    Prog.bind (rest2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30) (fun r => rest3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 r.1 r.2))) = _
  rw [rest_eq]

end Cert.Kernel.Gen
-- ==== Proof.Kern.Steps.lean ====
/- Rules for the single memory operations of the structured program: loads, stores and copies, each
   for a memref held by what it reads. -/
module

public import proofs.«01_k».proof.Proof.Kern.Prog
public import Idealize.ShloMosaic.Lib.Pipeline.FrameBody
public import Idealize.ShloMosaic.Lib.Transfers
public import Idealize.ShloMosaic.Lib.ReshapeSlab
public import Idealize.ShloMosaic.Lib.ValueLayout
public import Idealize.ShloMosaic.Lib.Pointwise.Index
public import Idealize.ShloMosaic.Lib.Memref
public import Idealize.ShloMosaic.Lib.Tactic

@[expose] public section

noncomputable section

namespace Cascade

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open VecWindow

section Steps
variable {F : FTy → Type} [FloatOps F] [Scl F] {nD : Nat} {τ : Topo} {sig : RefSig} {Λ : Labels}
variable {Name : Type} [DecidableEq Name] [Infinite Name] {U : Type} [URA U] {Lvl : Type} [Preorder Lvl]

local notation "𝕄" => MT nD τ sig Unit (Elt F) Name U Lvl
local notation "P" => Prog (TpuEff nD τ sig (Elt F) Λ (Proc.tc : Proc τ)) PUnit

/-- The whole set of elements of a memref read as `X`, at share `q`, by device `d`'s TensorCore. -/
abbrev own (d : Dev nD) {sp : Space} {s : Shape} {e : EltTy} (m : Memref sig .tc sp s e) (q : PosShare TreeShare)
    (X : s.Idx → Elt F e) : sProp 𝕄 := owns (Val := Elt F) (d : Thread nD τ) m q X

/-- The program `p` runs to `Q`. -/
abbrev wpc (defs : Defs nD τ sig (Elt F) Λ) (𝒱 : Variants) (d : Dev nD) (bd : Option 𝒱.V) (Q : PUnit → sProp 𝕄) (p : P) : sProp 𝕄 :=
  wp frame (wpE defs 𝒱 (d : Thread nD τ) bd) Set.univ p Q

variable {defs : Defs nD τ sig (Elt F) Λ} {𝒱 : Variants} {d : Dev nD} {bd : Option 𝒱.V} {Q : PUnit → sProp (MT nD τ sig Unit (Elt F) Name U Lvl)}

theorem wp_ldB {s : Shape} {e : EltTy} (m : Memref sig .tc .vmem s e) {off sz : Fin s.rank → Nat}
    {inb : ∀ a, off a + sz a ≤ s.size a} {h : 0 < (⟨s.rank, sz⟩ : Shape).numel} {k : Vec F ⟨s.rank, sz⟩ e → P}
    {q : PosShare TreeShare} {X : s.Idx → Elt F e} :
    (own d m q X : sProp 𝕄) ⊢ iprop((own d m q X -∗ wpc defs 𝒱 d bd Q (k (window X off sz inb))) -∗ wpc defs 𝒱 d bd Q (ldB m off sz inb h k)) := by
  unfold own owns
  iintro ⟨%f, %hf, H⟩ Hk
  iapply (wp_load 𝒱 (d : Thread nD τ) bd Set.univ (m := m) (r := (Rect.unit (s := s) off sz inb).toLoadRect) (m.view.setOn_subset_set _)) $$ H
  iintro H
  rw [View.readAt_unit m.view f inb rfl inb, hf]
  iapply Hk
  iexists f
  isplitr; · ipureintro; exact hf
  iexact H

theorem read_store {s : Shape} {e : EltTy} (m : Memref sig .tc .vmem s e) {off sz : Fin s.rank → Nat}
    (inb : ∀ a, off a + sz a ≤ s.size a) (w : (Rect.unit (s := s) off sz inb).shape.Idx → Elt F e) (f : m.view.ty.Contents (Elt F)) :
    m.view.read (Elt F) ((m.access (Rect.unit (s := s) off sz inb)).write (Elt F) f w Finset.univ) = put (m.view.read (Elt F) f) off sz w := by
  have h := View.read_writes_cons_put m.view f (off := off) inb w [] rfl
  rw [View.writes_nil, View.writes_singleton] at h
  exact h

theorem wp_st {s : Shape} {e : EltTy} (m : Memref sig .tc .vmem s e) {off sz : Fin s.rank → Nat}
    {inb : ∀ a, off a + sz a ≤ s.size a} {w : (Rect.unit (s := s) off sz inb).shape.Idx → Elt F e}
    {hx : (m.access (Rect.unit (s := s) off sz inb)).Stores Finset.univ} {hm} {k : P}
    {X : s.Idx → Elt F e} :
    (own d m fullShare X : sProp 𝕄) ⊢ iprop((own d m fullShare (put X off sz w) -∗ wpc defs 𝒱 d bd Q k)
      -∗ wpc defs 𝒱 d bd Q (.op (.store m (Rect.unit (s := s) off sz inb) w Finset.univ hx hm) fun _ => k)) := by
  unfold own owns
  iintro ⟨%f, %hf, H⟩ Hk
  iapply (wp_store 𝒱 (d : Thread nD τ) bd Set.univ (m := m) (r := Rect.unit (s := s) off sz inb) (S := m.view.set) (f := f)
    ((View.setOn_subset_set _ _).trans (View.set_slice_subset _ _))) $$ H
  iintro H
  iapply Hk
  iexists _
  isplitr
  · ipureintro; rw [← hf]; exact read_store m inb w f
  iexact H

theorem wp_stB {s : Shape} (m : Memref sig .tc .vmem s .f32) {off sz : Fin s.rank → Nat}
    {inb : ∀ a, off a + sz a ≤ s.size a} {h : 0 < (⟨s.rank, sz⟩ : Shape).numel} {w : Vec F ⟨s.rank, sz⟩ .f32} {k : P}
    {X : s.Idx → Elt F .f32} :
    (own d m fullShare X : sProp 𝕄) ⊢ iprop((own d m fullShare (put X off sz w) -∗ wpc defs 𝒱 d bd Q k)
      -∗ wpc defs 𝒱 d bd Q (stB m off sz inb h w k)) := by
  iintro H Hk
  iapply (wp_ldB m (h := h)) $$ H
  iintro H
  iapply (wp_st m) $$ H
  iexact Hk

/-! ### Slots -/

/-- A slot's memref, the unit axis put back. -/
theorem read_kSlot (b : Memref sig .tc .vmem S8x2x2048x256 .fp8e4m3) (n : Nat) (hn : n < 8) (f : b.view.ty.Contents (Elt F)) (i : S2x2048x256.Idx) :
    (kSlot b n hn).view.read (Elt F) f i = b.view.read (Elt F) f (ix4 (⟨n, hn⟩ : Fin 8) (i 0 : Fin 2) (i 1 : Fin 2048) (i 2 : Fin 256)) := by
  have hi : Shape.reshapeEquiv sq_kslot.numel_eq i = (ix4 (0 : Fin 1) (i 0 : Fin 2) (i 1 : Fin 2048) (i 2 : Fin 256) : S1x2x2048x256.Idx) :=
    Shape.reshapeEquiv_eq_of_rowMajor _ (by
      rw [Shape.rowMajor_val_four, Shape.rowMajor_val_three]
      show (((0 * 2 + (i 0).val) * 2048 + (i 1).val) * 256 + (i 2).val) = ((i 0).val * 2048 + (i 1).val) * 256 + (i 2).val
      simp only [Nat.zero_mul, Nat.zero_add])
  show b.view.read (Elt F) f ((Rect.unit (s := S8x2x2048x256) ![n, 0, 0, 0] S1x2x2048x256.size (inb_kslot hn)).emb (Shape.reshapeEquiv sq_kslot.numel_eq i)) = _
  rw [hi]
  congr 1
  funext a; apply Fin.ext
  fin_cases a <;> simp [Rect.emb, Rect.unit, ix4, ix3]

theorem read_sSlot (b : Memref sig .tc .vmem S8x2x2048 .f32) (n : Nat) (hn : n < 8) (f : b.view.ty.Contents (Elt F)) (i : S2x2048.Idx) :
    (sSlot b n hn).view.read (Elt F) f i = b.view.read (Elt F) f (ix3 (⟨n, hn⟩ : Fin 8) (i 0 : Fin 2) (i 1 : Fin 2048)) := by
  have hi : Shape.reshapeEquiv sq_sslot.numel_eq i = (ix3 (0 : Fin 1) (i 0 : Fin 2) (i 1 : Fin 2048) : S1x2x2048.Idx) :=
    Shape.reshapeEquiv_eq_of_rowMajor _ (by
      rw [Shape.rowMajor_val_three, Shape.rowMajor_val_two]
      show ((0 * 2 + (i 0).val) * 2048 + (i 1).val) = (i 0).val * 2048 + (i 1).val
      simp only [Nat.zero_mul, Nat.zero_add])
  show b.view.read (Elt F) f ((Rect.unit (s := S8x2x2048) ![n, 0, 0] S1x2x2048.size (inb_sslot hn)).emb (Shape.reshapeEquiv sq_sslot.numel_eq i)) = _
  rw [hi]
  congr 1
  funext a; apply Fin.ext
  fin_cases a <;> simp [Rect.emb, Rect.unit, ix3, ix2]

/-- Head `h`'s tokens `t … t + w - 1` of a chunk, as a load gives them. -/
def boxK (X : S2x2048x256.Idx → Elt F .fp8e4m3) (h : Fin 2) (t w : Nat) (ht : t + w ≤ 2048) : Vec F ⟨4, ![1, 1, w, 256]⟩ .fp8e4m3 :=
  fun i => X (ix3 h (⟨t + (i 2).val, by have h2 := (i 2).isLt; simp at h2; omega⟩ : Fin 2048) (i 3 : Fin 256))
def boxS (X : S2x2048.Idx → Elt F .f32) (h : Fin 2) (t w : Nat) (ht : t + w ≤ 2048) : Vec F ⟨3, ![1, 1, w]⟩ .f32 :=
  fun i => X (ix2 h (⟨t + (i 2).val, by have h2 := (i 2).isLt; simp at h2; omega⟩ : Fin 2048))

/-- A load through a box of a slot. -/
theorem wp_ldSlotK (b : Memref sig .tc .vmem S8x2x2048x256 .fp8e4m3) {n h t w : Nat} {hn : n < 8}
    {inb : ∀ a, (![n, h, t, 0] : Fin 4 → Nat) a + (![1, 1, w, 256] : Fin 4 → Nat) a ≤ S8x2x2048x256.size a}
    {hp : 0 < (⟨4, ![1, 1, w, 256]⟩ : Shape).numel} {k : Vec F ⟨4, ![1, 1, w, 256]⟩ .fp8e4m3 → P}
    {q : PosShare TreeShare} {X : S2x2048x256.Idx → Elt F .fp8e4m3} (hw : 0 < w) (hh : h < 2) (ht : t + w ≤ 2048) :
    (own d (kSlot b n hn) q X : sProp 𝕄) ⊢ iprop((own d (kSlot b n hn) q X -∗
        wpc defs 𝒱 d bd Q (k (boxK X ⟨h, hh⟩ t w ht)))
      -∗ wpc defs 𝒱 d bd Q (ldB b ![n, h, t, 0] ![1, 1, w, 256] inb hp k)) := by
  unfold own owns
  iintro ⟨%f, %hf, H⟩ Hk
  iapply (wp_load 𝒱 (d : Thread nD τ) bd Set.univ (m := b) (r := (Rect.unit (s := S8x2x2048x256) ![n, h, t, 0] ![1, 1, w, 256] inb).toLoadRect)
    (S := (kSlot b n hn).view.set) (f := f) (by
      rw [View.set_reshape]
      refine Memref.setOn_subset_hull b _ _ (fun _ => rfl) fun a => ?_
      fin_cases a <;> simp [Rect.unit] <;> omega)) $$ H
  iintro H
  rw [View.readAt_unit b.view f inb rfl inb]
  have e : window (b.view.read (Elt F) f) ![n, h, t, 0] ![1, 1, w, 256] inb
      = boxK X ⟨h, hh⟩ t w ht := by
    funext i
    unfold boxK
    rw [← hf, read_kSlot]
    show b.view.read (Elt F) f _ = _
    congr 1
    have h0 := (i 0).isLt
    have h1 := (i 1).isLt
    simp at h0 h1
    funext a; apply Fin.ext
    fin_cases a <;> simp [Rect.emb, Rect.unit, ix4, ix3, h0, h1]
  rw [e]
  iapply Hk
  iexists f
  isplitr; · ipureintro; exact hf
  iexact H

theorem wp_ldSlotS (b : Memref sig .tc .vmem S8x2x2048 .f32) {n h t w : Nat} {hn : n < 8}
    {inb : ∀ a, (![n, h, t] : Fin 3 → Nat) a + (![1, 1, w] : Fin 3 → Nat) a ≤ S8x2x2048.size a}
    {hp : 0 < (⟨3, ![1, 1, w]⟩ : Shape).numel} {k : Vec F ⟨3, ![1, 1, w]⟩ .f32 → P}
    {q : PosShare TreeShare} {X : S2x2048.Idx → Elt F .f32} (hw : 0 < w) (hh : h < 2) (ht : t + w ≤ 2048) :
    (own d (sSlot b n hn) q X : sProp 𝕄) ⊢ iprop((own d (sSlot b n hn) q X -∗
        wpc defs 𝒱 d bd Q (k (boxS X ⟨h, hh⟩ t w ht)))
      -∗ wpc defs 𝒱 d bd Q (ldB b ![n, h, t] ![1, 1, w] inb hp k)) := by
  unfold own owns
  iintro ⟨%f, %hf, H⟩ Hk
  iapply (wp_load 𝒱 (d : Thread nD τ) bd Set.univ (m := b) (r := (Rect.unit (s := S8x2x2048) ![n, h, t] ![1, 1, w] inb).toLoadRect)
    (S := (sSlot b n hn).view.set) (f := f) (by
      rw [View.set_reshape]
      refine Memref.setOn_subset_hull b _ _ (fun _ => rfl) fun a => ?_
      fin_cases a <;> simp [Rect.unit] <;> omega)) $$ H
  iintro H
  rw [View.readAt_unit b.view f inb rfl inb]
  have e : window (b.view.read (Elt F) f) ![n, h, t] ![1, 1, w] inb
      = boxS X ⟨h, hh⟩ t w ht := by
    funext i
    unfold boxS
    rw [← hf, read_sSlot]
    show b.view.read (Elt F) f _ = _
    congr 1
    have h0 := (i 0).isLt
    have h1 := (i 1).isLt
    simp at h0 h1
    funext a; apply Fin.ext
    fin_cases a <;> simp [Rect.emb, Rect.unit, ix3, ix2, h0, h1]
  rw [e]
  iapply Hk
  iexists f
  isplitr; · ipureintro; exact hf
  iexact H

end Steps

end Cascade
-- ==== Proof.Kern.Tiling.lean ====
/- A buffer cut into boxes of one size: what it holds, box by box, and a load and a store of a box. -/
module

public import proofs.«01_k».proof.Proof.Kern.Steps

@[expose] public section

noncomputable section

namespace Cascade

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open VecWindow

/-- A shape cut into boxes of sizes `sz`, box `t` at offsets `off t`; `of y` is the box index `y` lies in. -/
structure Tiling (s : Shape) (T : Type) where
  sz : Fin s.rank → ℕ
  off : T → Fin s.rank → ℕ
  of : s.Idx → T
  inb : ∀ t a, off t a + sz a ≤ s.size a
  spec : ∀ t (y : s.Idx), (∀ a, off t a ≤ (y a).val ∧ (y a).val < off t a + sz a) ↔ of y = t

namespace Tiling
variable {s : Shape} {T : Type} [DecidableEq T] {α : Type} (t : Tiling s T)

/-- The contents whose box `x` is `g x`. -/
def asm (g : T → (⟨s.rank, t.sz⟩ : Shape).Idx → α) : s.Idx → α :=
  fun y => g (t.of y) (Rect.unitLocal (s := s) (off := t.off (t.of y)) (size := t.sz) y ((t.spec _ y).2 rfl))

theorem asm_of (g : T → (⟨s.rank, t.sz⟩ : Shape).Idx → α) (x : T) (y : s.Idx)
    (h : ∀ a, t.off x a ≤ (y a).val ∧ (y a).val < t.off x a + t.sz a) :
    t.asm g y = g x (Rect.unitLocal (s := s) (off := t.off x) (size := t.sz) y h) := by
  have e := (t.spec x y).1 h
  subst e
  rfl

theorem put_asm (g : T → (⟨s.rank, t.sz⟩ : Shape).Idx → α) (x : T) (w : (⟨s.rank, t.sz⟩ : Shape).Idx → α) :
    put (t.asm g) (t.off x) t.sz w = t.asm (Function.update g x w) := by
  funext y
  unfold put
  by_cases h : ∀ a, t.off x a ≤ (y a).val ∧ (y a).val < t.off x a + t.sz a
  · rw [dif_pos h, t.asm_of _ x y h, Function.update_self]
  · rw [dif_neg h]
    have e : t.of y ≠ x := fun e => h ((t.spec x y).2 e)
    unfold asm
    rw [Function.update_of_ne e]

theorem window_asm (g : T → (⟨s.rank, t.sz⟩ : Shape).Idx → α) (x : T) (inb) :
    window (t.asm g) (t.off x) t.sz inb = g x := by
  funext y
  have h : ∀ a, t.off x a ≤ ((Rect.unit (t.off x) t.sz inb).emb y a).val
      ∧ ((Rect.unit (t.off x) t.sz inb).emb y a).val < t.off x a + t.sz a := fun a => by
    have e : ((Rect.unit (t.off x) t.sz inb).emb y a).val = t.off x a + 1 * (y a).val := rfl
    have := (y a).isLt
    have hs : (Rect.unit (t.off x) t.sz inb).shape.size a = t.sz a := rfl
    omega
  refine (t.asm_of g x _ h).trans (congrArg (g x) (funext fun a => Fin.ext ?_))
  show (t.off x a + 1 * (y a).val) - t.off x a = (y a).val
  omega

/-- Any contents are such. -/
theorem asm_window (X : s.Idx → α) : t.asm (fun x => window X (t.off x) t.sz (t.inb x)) = X := by
  funext y
  unfold asm window
  refine congrArg X (funext fun a => Fin.ext ?_)
  show t.off (t.of y) a + 1 * ((y a).val - t.off (t.of y) a) = (y a).val
  have := ((t.spec _ y).2 rfl) a
  omega

end Tiling

section Rules
variable {F : FTy → Type} [FloatOps F] [Scl F] {nD : Nat} {τ : Topo} {sig : RefSig} {Λ : Labels}
variable {Name : Type} [DecidableEq Name] [Infinite Name] {U : Type} [URA U] {Lvl : Type} [Preorder Lvl]

local notation "𝕄" => MT nD τ sig Unit (Elt F) Name U Lvl
local notation "P" => Prog (TpuEff nD τ sig (Elt F) Λ (Proc.tc : Proc τ)) PUnit

variable {defs : Defs nD τ sig (Elt F) Λ} {𝒱 : Variants} {d : Dev nD} {bd : Option 𝒱.V} {Q : PUnit → sProp (MT nD τ sig Unit (Elt F) Name U Lvl)}
variable {T : Type} [DecidableEq T]

theorem wp_ldT {s : Shape} {e : EltTy} (t : Tiling s T) (x : T) (m : Memref sig .tc .vmem s e)
    {inb : ∀ a, t.off x a + t.sz a ≤ s.size a} {h : 0 < (⟨s.rank, t.sz⟩ : Shape).numel} {k : Vec F ⟨s.rank, t.sz⟩ e → P}
    {q : PosShare TreeShare} {g : T → Vec F ⟨s.rank, t.sz⟩ e} :
    (own d m q (t.asm g) : sProp 𝕄) ⊢ iprop((own d m q (t.asm g) -∗ wpc defs 𝒱 d bd Q (k (g x)))
      -∗ wpc defs 𝒱 d bd Q (ldB m (t.off x) t.sz inb h k)) := by
  rw [← t.window_asm g x inb]
  exact wp_ldB m

theorem wp_stT {s : Shape} (t : Tiling s T) (x : T) (m : Memref sig .tc .vmem s .f32)
    {inb : ∀ a, t.off x a + t.sz a ≤ s.size a} {h : 0 < (⟨s.rank, t.sz⟩ : Shape).numel} {w : Vec F ⟨s.rank, t.sz⟩ .f32} {k : P}
    {g : T → Vec F ⟨s.rank, t.sz⟩ .f32} :
    (own d m fullShare (t.asm g) : sProp 𝕄) ⊢ iprop((own d m fullShare (t.asm (Function.update g x w)) -∗ wpc defs 𝒱 d bd Q k)
      -∗ wpc defs 𝒱 d bd Q (stB m (t.off x) t.sz inb h w k)) := by
  rw [← t.put_asm g x w]
  exact wp_stB m

end Rules

/-! ## The tilings of the scratch buffers -/

/-- By parity and head. -/
abbrev tM : Tiling S2x2x64x128 (Fin 2 × Fin 2) where
  sz := S1x1x64x128.size
  off x := ![x.1.val, x.2.val, 0, 0]
  of y := (y 0, y 1)
  inb x := inb_m x.1.isLt x.2.isLt
  spec x y := by
    obtain ⟨p, h⟩ := x
    have h2 : (y 2).val < 64 := (y 2).isLt
    have h3 : (y 3).val < 128 := (y 3).isLt
    refine Iff.trans ?_ Prod.mk_inj.symm
    constructor
    · intro H
      have H0 := H 0; have H1 := H 1
      simp at H0 H1
      exact ⟨Fin.ext (by omega), Fin.ext (by omega)⟩
    · rintro ⟨rfl, rfl⟩ a
      fin_cases a <;> simp <;> omega
/-- By head. -/
abbrev tL : Tiling S2x64x128 (Fin 2) where
  sz := S1x64x128.size
  off x := ![x.val, 0, 0]
  of y := y 0
  inb x := inb_l x.isLt
  spec x y := by
    have h1 : (y 1).val < 64 := (y 1).isLt
    have h2 : (y 2).val < 128 := (y 2).isLt
    constructor
    · intro H
      have H0 := H 0
      simp at H0
      exact Fin.ext (by omega)
    · rintro rfl a
      fin_cases a <;> simp <;> omega
abbrev tA : Tiling S2x64x256 (Fin 2) where
  sz := S1x64x256.size
  off x := ![x.val, 0, 0]
  of y := y 0
  inb x := inb_q x.isLt
  spec x y := by
    have h1 : (y 1).val < 64 := (y 1).isLt
    have h2 : (y 2).val < 256 := (y 2).isLt
    constructor
    · intro H
      have H0 := H 0
      simp at H0
      exact Fin.ext (by omega)
    · rintro rfl a
      fin_cases a <;> simp <;> omega
/-- By head and 256 tokens. -/
abbrev tS : Tiling S2x64x2048 (Fin 2 × Fin 8) where
  sz := S1x64x256.size
  off x := ![x.1.val, 0, 256 * x.2.val]
  of y := (y 0, ⟨(y 2).val / 256, by have h2 : (y 2).val < 2048 := (y 2).isLt; omega⟩)
  inb x := inb_st x.1.isLt x.2.isLt
  spec x y := by
    obtain ⟨h, j⟩ := x
    have h1 : (y 1).val < 64 := (y 1).isLt
    have h2 : (y 2).val < 2048 := (y 2).isLt
    refine Iff.trans ?_ Prod.mk_inj.symm
    constructor
    · intro H
      have H0 := H 0; have H2 := H 2
      simp at H0 H2
      exact ⟨Fin.ext (by omega), Fin.ext (by simp; omega)⟩
    · rintro ⟨rfl, rfl⟩ a
      fin_cases a <;> simp <;> omega
/-- By head and sequence. -/
abbrev tQ : Tiling S2x64x256 (Fin 2 × Fin 4) where
  sz := S1x16x256.size
  off x := ![x.1.val, 16 * x.2.val, 0]
  of y := (y 0, ⟨(y 1).val / 16, by have h2 : (y 1).val < 64 := (y 1).isLt; omega⟩)
  inb x := inb_qb x.2.isLt x.1.isLt
  spec x y := by
    obtain ⟨h, j⟩ := x
    have h1 : (y 1).val < 64 := (y 1).isLt
    have h2 : (y 2).val < 256 := (y 2).isLt
    refine Iff.trans ?_ Prod.mk_inj.symm
    constructor
    · intro H
      have H0 := H 0; have H1 := H 1
      simp at H0 H1
      exact ⟨Fin.ext (by omega), Fin.ext (by simp; omega)⟩
    · rintro ⟨rfl, rfl⟩ a
      fin_cases a <;> simp <;> omega
abbrev tN : Tiling S2x64x128 (Fin 2 × Fin 4) where
  sz := S1x16x128.size
  off x := ![x.1.val, 16 * x.2.val, 0]
  of y := (y 0, ⟨(y 1).val / 16, by have h2 : (y 1).val < 64 := (y 1).isLt; omega⟩)
  inb x := inb_sn x.2.isLt x.1.isLt
  spec x y := by
    obtain ⟨h, j⟩ := x
    have h1 : (y 1).val < 64 := (y 1).isLt
    have h2 : (y 2).val < 128 := (y 2).isLt
    refine Iff.trans ?_ Prod.mk_inj.symm
    constructor
    · intro H
      have H0 := H 0; have H1 := H 1
      simp at H0 H1
      exact ⟨Fin.ext (by omega), Fin.ext (by simp; omega)⟩
    · rintro ⟨rfl, rfl⟩ a
      fin_cases a <;> simp <;> omega
/-- By head, half and sequence. -/
abbrev tO : Tiling S2x2x64x128 (Fin 2 × Fin 2 × Fin 4) where
  sz := S1x1x16x128.size
  off x := ![x.1.val, x.2.1.val, 16 * x.2.2.val, 0]
  of y := (y 0, y 1, ⟨(y 2).val / 16, by have h2 : (y 2).val < 64 := (y 2).isLt; omega⟩)
  inb x := inb_o x.2.2.isLt x.1.isLt x.2.1.isLt
  spec x y := by
    obtain ⟨h, f, b⟩ := x
    have h2 : (y 2).val < 64 := (y 2).isLt
    have h3 : (y 3).val < 128 := (y 3).isLt
    refine Iff.trans ?_ (Prod.mk_inj.trans (and_congr_right' Prod.mk_inj)).symm
    constructor
    · intro H
      have H0 := H 0; have H1 := H 1; have H2 := H 2
      simp at H0 H1 H2
      exact ⟨Fin.ext (by omega), Fin.ext (by omega), Fin.ext (by simp; omega)⟩
    · rintro ⟨rfl, rfl, rfl⟩ a
      fin_cases a <;> simp <;> omega
/-- By 128 columns of the result. -/
abbrev tB : Tiling S4x8192 (Fin 64) where
  sz := S4x128.size
  off x := ![0, 128 * x.val]
  of y := ⟨(y 1).val / 128, by have h2 : (y 1).val < 8192 := (y 1).isLt; omega⟩
  inb x := inb_ob x.isLt
  spec x y := by
    have h0 : (y 0).val < 4 := (y 0).isLt
    have h1 : (y 1).val < 8192 := (y 1).isLt
    constructor
    · intro H
      have H1 := H 1
      simp at H1
      exact Fin.ext (by simp; omega)
    · rintro rfl a
      fin_cases a <;> simp <;> omega

end Cascade
-- ==== Proof.Kern.Copy.lean ====
/- The copies of chunks into the rings, and their waits: a slot of a ring is free, has a copy in
   flight, or holds a chunk. -/
module

public import proofs.«01_k».proof.Proof.Kern.Steps

@[expose] public section

noncomputable section

namespace Cascade

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open VecWindow Transfers

section Copy
variable {F : FTy → Type} [FloatOps F] [Scl F] {nD : Nat} {τ : Topo} {sig : RefSig} {Λ : Labels}

local notation "𝕄" => MT nD τ sig Unit (Elt F) ℕ (Pipeline.UD sig nD τ) ℕ
local notation "P" => Prog (TpuEff nD τ sig (Elt F) Λ (Proc.tc : Proc τ)) PUnit

/-- What is held of a copy in flight. -/
abbrev flight (d : Dev nD) (sm : DmaSem sig) (N : ℕ) (D : sProp 𝕄) : sProp 𝕄 :=
  Flight (countersEmb (U := Pipeline.UD sig nD τ)) (d : Thread nD τ) (SemLoc.dma sm) () N D

/-- A semaphore at zero. -/
abbrev sem0 (d : Dev nD) (sm : DmaSem sig) : sProp 𝕄 := semVal ((d : Thread nD τ), SemLoc.dma sm) 0

/-- Nothing is owed; whatever has been waited for. -/
abbrev ow (d : Dev nD) : sProp 𝕄 := iprop(∃ W, owes (d : Thread nD τ) 0 W)

variable {defs : Defs nD τ sig (Elt F) Λ} {𝒱 : Variants} {d : Dev nD} {bd : Option 𝒱.V} {Q : PUnit → sProp (MT nD τ sig Unit (Elt F) ℕ (Pipeline.UD sig nD τ) ℕ)}

/-- Something held aside of a copy in flight may be counted to what it delivers. -/
theorem flight_frame {sm : DmaSem sig} {N : ℕ} {D R : sProp 𝕄} : iprop(flight d sm N D ∗ R) ⊢ flight d sm N iprop(D ∗ R) := by
  unfold flight Flight
  iintro ⟨⟨⟨%R', HR, %hcap, %hpeek⟩, Hcred⟩, HF⟩
  isplitl [HR HF]
  · iexists iprop(R' ∗ R)
    isplitl [HR HF]; · isplitl [HR] <;> iassumption
    isplit
    · ipureintro
      intro K
      refine BIBase.Entails.trans ?_ (hcap K)
      iintro ⟨⟨HR, HF⟩, HK⟩
      isplitl [HR]; · iexact HR
      iintro ⟨Hv, HD⟩
      iapply HK
      isplitl [Hv]; · iexact Hv
      isplitl [HD] <;> iassumption
    · ipureintro
      intro K
      refine BIBase.Entails.trans ?_ (hpeek K)
      iintro ⟨⟨HR, HF⟩, HK⟩
      isplitl [HR]; · iexact HR
      iintro HR
      iapply HK
      isplitl [HR] <;> iassumption
  · iexact Hcred

theorem flight_mono {sm : DmaSem sig} {N : ℕ} {D D' : sProp 𝕄} (h : D ⊢ D') : flight d sm N D ⊢ flight d sm N D' :=
  Flight_mono _ _ h

/-- A copy from a whole memref to a whole memref. -/
theorem wp_copy {sp sp' : Space} {s : Shape} {e : EltTy} (src : Memref sig .tc sp s e) (dst : Memref sig .tc sp' s e) (sm : DmaSem sig)
    {hsrc : src.view.WordExact} {hdst : dst.view.WordExact} {hsem} {k : P} {q : PosShare TreeShare} {X Y : s.Idx → Elt F e} (hs : 0 < s.numel) :
    iprop(sem0 d sm ∗ own d dst fullShare Y ∗ own d src q X)
      ⊢ iprop((flight d sm dst.view.dmaCredit iprop(own d dst fullShare X ∗ own d src q X) -∗ wpc defs 𝒱 d bd Q k)
        -∗ wpc defs 𝒱 d bd Q (.op (.enqueueDma src (.here dst) (.dma sm) hsrc hdst hsem) fun _ => k)) := by
  unfold own owns
  iintro ⟨Hv, ⟨%fd, %hd, Hd⟩, ⟨%fs, %hs', Hs⟩⟩ Hk
  iapply (wp_dmaLocal (countersEmb (U := Pipeline.UD sig nD τ)) 𝒱 (d : Thread nD τ) bd () dst.view.dmaCredit (dst := dst) rfl
    (View.dmaCredit_pos _ hs) (Finset.Subset.refl _)) $$ [Hs Hd Hv]
  · isplitl [Hs]; · iexact Hs
    isplitl [Hd]; · iexact Hd
    iexact Hv
  iintro Hf
  iapply Hk
  iapply (flight_mono (d := d)) $$ Hf
  iintro ⟨Hd, Hs⟩
  isplitl [Hd]
  · iexists (dst.view.write (Elt F) fd (src.view.read (Elt F) fs) Finset.univ)
    isplitr
    · ipureintro
      exact (View.read_write_univ _ _).trans hs'
    iexact Hd
  iexists fs
  isplitr; · ipureintro; exact hs'
  iexact Hs

/-- A wait for a copy in flight. -/
theorem wp_await {sp sp' : Space} {s : Shape} {e : EltTy} (src : Memref sig .tc sp s e) (dst : Memref sig .tc sp' s e) (sm : DmaSem sig)
    {hsrc : src.view.WordExact} {hdst : dst.view.WordExact} {k : P} {D : sProp 𝕄} :
    iprop(flight d sm dst.view.dmaCredit D ∗ ow d)
      ⊢ iprop((iprop(D ∗ sem0 d sm ∗ ow d) -∗ wpc defs 𝒱 d bd Q k)
        -∗ wpc defs 𝒱 d bd Q (.op (.waitDma2 sm src dst hsrc hdst) fun _ => k)) := by
  iintro ⟨Hf, ⟨%W, HO⟩⟩ Hk
  iapply (wp_waitLocal (countersEmb (U := Pipeline.UD sig nD τ)) 𝒱 (d : Thread nD τ) bd () (dstw := dst) rfl) $$ [Hf HO]
  · isplitl [Hf] <;> iassumption
  iintro ⟨HD, Hv, HO⟩
  iapply Hk
  isplitl [HD]; · iexact HD
  isplitl [Hv]; · iexact Hv
  iexists _; iexact HO

/-- A copy out of a slice of a memref the rest of which is kept: the delivery hands back the whole source. -/
theorem wp_copySlice {sp sp' : Space} {s₀ : Shape} {e : EltTy} (m : Memref sig .tc sp s₀ e) (r : Rect s₀) (hr : ∀ a, r.stride a = 1)
    (dst : Memref sig .tc sp' r.shape e) (sm : DmaSem sig)
    {hsrc : (m.slice r hr).view.WordExact} {hdst : dst.view.WordExact} {hsem} {k : P} {q : PosShare TreeShare} {X : s₀.Idx → Elt F e}
    {Y : r.shape.Idx → Elt F e} (hs : 0 < r.shape.numel) :
    iprop(sem0 d sm ∗ own d dst fullShare Y ∗ own d m q X)
      ⊢ iprop((flight d sm dst.view.dmaCredit iprop(own d dst fullShare (fun i => X (r.emb i)) ∗ own d m q X) -∗ wpc defs 𝒱 d bd Q k)
        -∗ wpc defs 𝒱 d bd Q (.op (.enqueueDma (m.slice r hr) (.here dst) (.dma sm) hsrc hdst hsem) fun _ => k)) := by
  iintro ⟨Hv, Hd, Hs⟩ Hk
  ihave Hs' := (owns_slice_split (d : Thread nD τ) m q r hr X) $$ Hs
  icases Hs' with ⟨Hs, ⟨%f, %hf, Hr⟩⟩
  iapply (wp_copy (m.slice r hr) dst sm hs) $$ [Hv Hd Hs]
  · isplitl [Hv]; · iexact Hv
    isplitl [Hd]; · iexact Hd
    iexact Hs
  iintro Hf
  iapply Hk
  ihave Hf' := flight_frame $$ [Hf Hr]
  · isplitl [Hf]; · iexact Hf
    iexact Hr
  iapply (flight_mono (d := d)) $$ Hf'
  iintro ⟨⟨Hd, Hs⟩, Hr⟩
  isplitl [Hd]; · iexact Hd
  ihave H := (owns_slice_join (d : Thread nD τ) m q r hr (fun i => X (r.emb i)) f) $$ [Hs Hr]
  · isplitl [Hs]; · iexact Hs
    iexact Hr
  have e : r.overlay (m.view.read (Elt F) f) (fun i => X (r.emb i)) = X := by
    rw [hf]; funext j
    by_cases hj : j ∈ r.set
    · obtain ⟨i, rfl⟩ := r.exists_idx_of_mem hj
      exact Rect.overlay_emb r X _ i
    · rw [Rect.overlay_of_not_mem _ _ _ hj]
  rw [e]
  iexact H

/-! ### A ring -/

/-- Chunk `c` of an array of keys or values, and of its scales. -/
def chunkK (X : S2x65536x256.Idx → Elt F .fp8e4m3) (c : ℕ) : S2x2048x256.Idx → Elt F .fp8e4m3 :=
  fun i => X (ix3 (i 0 : Fin 2) (Fin.ofNat 65536 (2048 * c + (i 1).val)) (i 2 : Fin 256))
def chunkS (X : S2x65536.Idx → Elt F .f32) (c : ℕ) : S2x2048.Idx → Elt F .f32 :=
  fun i => X (ix2 (i 0 : Fin 2) (Fin.ofNat 65536 (2048 * c + (i 1).val)))

theorem chunkK_eq (X : S2x65536x256.Idx → Elt F .fp8e4m3) {c : ℕ} (hc : c < 32) :
    (fun i => X ((Rect.unit (s := S2x65536x256) ![0, 2048 * c, 0] S2x2048x256.size (inb_krow hc)).emb i)) = chunkK X c := by
  funext i
  unfold chunkK
  congr 1
  have h1 : (i 1).val < 2048 := (i 1).isLt
  funext a; apply Fin.ext
  fin_cases a <;> simp [Rect.emb, Rect.unit, ix3]
  omega
theorem chunkS_eq (X : S2x65536.Idx → Elt F .f32) {c : ℕ} (hc : c < 32) :
    (fun i => X ((Rect.unit (s := S2x65536) ![0, 2048 * c] S2x2048.size (inb_srow hc)).emb i)) = chunkS X c := by
  funext i
  unfold chunkS
  congr 1
  have h1 : (i 1).val < 2048 := (i 1).isLt
  funext a; apply Fin.ext
  fin_cases a <;> simp [Rect.emb, Rect.unit, ix2]
  omega

/-- An array of keys or values with its scales, the ring they are copied to, and its semaphores. -/
structure Rg (sig : RefSig) where
  h : Memref sig .tc .hbm S2x65536x256 .fp8e4m3
  sh : Memref sig .tc .hbm S2x65536 .f32
  b : Memref sig .tc .vmem S8x2x2048x256 .fp8e4m3
  sb : Memref sig .tc .vmem S8x2x2048 .f32
  s : DmaSems sig S8
  ss : DmaSems sig S8
  hh : h.IsWhole
  hb : b.IsWhole

/-- The share of the source a slot's copies read at. -/
abbrev tok (c : ℕ) : PosShare TreeShare := shareTokN fullShare (c % 8)

variable (d) (R : Rg sig) (X : S2x65536x256.Idx → Elt F .fp8e4m3) (Y : S2x65536.Idx → Elt F .f32)

/-- Chunk `c`'s slot holds nothing of interest and no copy into it is in flight. -/
def free (c : ℕ) : sProp 𝕄 :=
  iprop((sem0 d (cell R.s (c % 8) (slot_lt c)) ∗ (∃ Z, own d (kSlot R.b (c % 8) (slot_lt c)) fullShare Z) ∗ own d R.h (tok c) X)
    ∗ (sem0 d (cell R.ss (c % 8) (slot_lt c)) ∗ (∃ Z, own d (sSlot R.sb (c % 8) (slot_lt c)) fullShare Z) ∗ own d R.sh (tok c) Y))
/-- Its copies are in flight. -/
def fly' (c : ℕ) : sProp 𝕄 :=
  iprop(flight d (cell R.s (c % 8) (slot_lt c)) (kSlot R.b (c % 8) (slot_lt c)).view.dmaCredit
      iprop(own d (kSlot R.b (c % 8) (slot_lt c)) fullShare (chunkK X c) ∗ own d R.h (tok c) X)
    ∗ flight d (cell R.ss (c % 8) (slot_lt c)) (sSlot R.sb (c % 8) (slot_lt c)).view.dmaCredit
      iprop(own d (sSlot R.sb (c % 8) (slot_lt c)) fullShare (chunkS Y c) ∗ own d R.sh (tok c) Y))
/-- The same, of a chunk there is; of a number past the last chunk, the slot is free. -/
def fly (c : ℕ) : sProp 𝕄 := if c < 32 then fly' d R X Y c else free d R X Y c
/-- Its chunk has landed: the slot's two memrefs, and the rest. -/
def rest (c : ℕ) : sProp 𝕄 :=
  iprop((sem0 d (cell R.s (c % 8) (slot_lt c)) ∗ own d R.h (tok c) X) ∗ (sem0 d (cell R.ss (c % 8) (slot_lt c)) ∗ own d R.sh (tok c) Y))
abbrev slotK (c : ℕ) : sProp 𝕄 := own d (kSlot R.b (c % 8) (slot_lt c)) fullShare (chunkK X c)
abbrev slotS (c : ℕ) : sProp 𝕄 := own d (sSlot R.sb (c % 8) (slot_lt c)) fullShare (chunkS Y c)

variable {d R X Y}

theorem free_of_land (c : ℕ) : iprop(slotK d R X c ∗ slotS d R Y c ∗ rest d R X Y c) ⊢ (free d R X Y c : sProp 𝕄) := by
  unfold rest free
  iintro ⟨Hk, Hs, ⟨⟨H1, H2⟩, ⟨H3, H4⟩⟩⟩
  isplitl [Hk H1 H2]
  · isplitl [H1]; · iexact H1
    isplitl [Hk]; · iexists _; iexact Hk
    iexact H2
  · isplitl [H3]; · iexact H3
    isplitl [Hs]; · iexists _; iexact Hs
    iexact H4

/-- The slot of chunk `n` and of chunk `c`, if they are the same slot. -/
theorem free_congr {c c' : ℕ} (h : c % 8 = c' % 8) : (free d R X Y c : sProp 𝕄) = free d R X Y c' := by
  have : ∀ n n' (hn : n < 8) (hn' : n' < 8), n = n' →
      (iprop((sem0 d (cell R.s n hn) ∗ (∃ Z, own d (kSlot R.b n hn) fullShare Z) ∗ own d R.h (shareTokN fullShare n) X)
        ∗ (sem0 d (cell R.ss n hn) ∗ (∃ Z, own d (sSlot R.sb n hn) fullShare Z) ∗ own d R.sh (shareTokN fullShare n) Y)) : sProp 𝕄)
      = iprop((sem0 d (cell R.s n' hn') ∗ (∃ Z, own d (kSlot R.b n' hn') fullShare Z) ∗ own d R.h (shareTokN fullShare n') X)
        ∗ (sem0 d (cell R.ss n' hn') ∗ (∃ Z, own d (sSlot R.sb n' hn') fullShare Z) ∗ own d R.sh (shareTokN fullShare n') Y)) := by
    intro n n' hn hn' e; subst e; rfl
  exact this _ _ (slot_lt c) (slot_lt c') h

theorem fly_of_ge {c : ℕ} (h : ¬ c < 32) : (fly d R X Y c : sProp 𝕄) = free d R X Y c := if_neg h

theorem wp_start {c : ℕ} (hc : c < 32) {k : P} :
    (free d R X Y c : sProp 𝕄) ⊢ iprop((fly d R X Y c -∗ wpc defs 𝒱 d bd Q k)
      -∗ wpc defs 𝒱 d bd Q (startK R.h R.hh R.b R.hb R.s c hc (startS R.sh R.sb R.ss c hc k))) := by
  unfold free fly
  rw [if_pos hc]
  unfold fly'
  iintro ⟨⟨Hv, ⟨%Z, Hd⟩, Hs⟩, ⟨Hv', ⟨%Z', Hd'⟩, Hs'⟩⟩ Hk
  iapply (wp_copySlice R.h (Rect.unit (s := S2x65536x256) ![0, 2048 * c, 0] S2x2048x256.size (inb_krow hc)) (fun _ => rfl)
    (kSlot R.b (c % 8) (slot_lt c)) (cell R.s (c % 8) (slot_lt c)) (show 0 < S2x2048x256.numel by decide)) $$ [Hv Hd Hs]
  · isplitl [Hv]; · iexact Hv
    isplitl [Hd]; · iexact Hd
    iexact Hs
  iintro Hf
  iapply (wp_copySlice R.sh (Rect.unit (s := S2x65536) ![0, 2048 * c] S2x2048.size (inb_srow hc)) (fun _ => rfl)
    (sSlot R.sb (c % 8) (slot_lt c)) (cell R.ss (c % 8) (slot_lt c)) (show 0 < S2x2048.numel by decide)) $$ [Hv' Hd' Hs']
  · isplitl [Hv']; · iexact Hv'
    isplitl [Hd']; · iexact Hd'
    iexact Hs'
  iintro Hf'
  rw [chunkK_eq X hc, chunkS_eq Y hc]
  iapply Hk
  isplitl [Hf]; · iexact Hf
  iexact Hf'

theorem wp_land {c : ℕ} (hc : c < 32) {k : P} :
    iprop(fly d R X Y c ∗ ow d) ⊢ iprop((iprop(slotK d R X c ∗ slotS d R Y c ∗ rest d R X Y c ∗ ow d) -∗ wpc defs 𝒱 d bd Q k)
      -∗ wpc defs 𝒱 d bd Q (waitK R.h R.hh R.b R.hb R.s c hc (waitS R.sh R.sb R.ss c hc k))) := by
  unfold fly
  rw [if_pos hc]
  unfold fly' rest
  iintro ⟨⟨Hf, Hf'⟩, HO⟩ Hk
  iapply (wp_await (kRows R.h c hc) (kSlot R.b (c % 8) (slot_lt c)) (cell R.s (c % 8) (slot_lt c))) $$ [Hf HO]
  · isplitl [Hf]; · iexact Hf
    iexact HO
  iintro ⟨⟨Hd, Hs⟩, Hv, HO⟩
  iapply (wp_await (sRows R.sh c hc) (sSlot R.sb (c % 8) (slot_lt c)) (cell R.ss (c % 8) (slot_lt c))) $$ [Hf' HO]
  · isplitl [Hf']; · iexact Hf'
    iexact HO
  iintro ⟨⟨Hd', Hs'⟩, Hv', HO⟩
  iapply Hk
  isplitl [Hd]; · iexact Hd
  isplitl [Hd']; · iexact Hd'
  isplitl [Hv Hs Hv' Hs']
  · isplitl [Hv Hs]
    · isplitl [Hv] <;> iassumption
    · isplitl [Hv'] <;> iassumption
  iexact HO

end Copy

end Cascade
-- ==== Proof.Kern.Model.lean ====
/- What the kernel computes, as a function of its seven operands: the contents of every scratch buffer
   after every chunk, and the result. Written with the same payloads as the program, for any floats. -/
module

public import proofs.«01_k».proof.Proof.Kern.Tiling
public import proofs.«01_k».proof.Proof.Kern.Copy

@[expose] public section

noncomputable section

namespace Cascade

open Idealize.ShloMosaic Idealize.ShloMosaic.TcCoe
open VecWindow

/-- The operands. -/
structure In (F : FTy → Type) where
  x : S4x32x256.Idx → Elt F .bf16
  kn : S4x2x256.Idx → Elt F .bf16
  vn : S4x2x256.Idx → Elt F .bf16
  k : S2x65536x256.Idx → Elt F .fp8e4m3
  ks : S2x65536.Idx → Elt F .f32
  v : S2x65536x256.Idx → Elt F .fp8e4m3
  vs : S2x65536.Idx → Elt F .f32

namespace In
variable {F : FTy → Type} [FloatOps F] [Scl F] (I : In F)

/-! ## Queries and the new token -/

def xW (h : Fin 2) (b : Fin 4) : Vec F S1x16x256 .bf16 := window I.x ![b.val, 16 * h.val, 0] S1x16x256.size (inb_x b.isLt h.isLt)
def knW (b : Fin 4) : Vec F S1x2x256 .bf16 := window I.kn ![b.val, 0, 0] S1x2x256.size (inb_kn b.isLt)
def vnW (b : Fin 4) : Vec F S1x2x256 .bf16 := window I.vn ![b.val, 0, 0] S1x2x256.size (inb_kn b.isLt)
/-- The query buffer, box by box. -/
def qG (x : Fin 2 × Fin 4) : Vec F S1x16x256 .bf16 := shapeCast S1x16x256 (shapeCast S16x256 (I.xW x.1 x.2) : FVec F S16x256 .bf16)
def q : S2x64x256.Idx → Elt F .bf16 := tQ.asm I.qG
/-- The new token's scores, box by box. -/
def snG (x : Fin 2 × Fin 4) : Vec F S1x16x128 .f32 := shapeCast S1x16x128 (snPay x.1.val x.1.isLt (I.xW x.1 x.2) (I.knW x.2))
def sn : S2x64x128.Idx → Elt F .f32 := tN.asm I.snG
def qH (h : Fin 2) : Vec F S1x64x256 .bf16 := window I.q ![h.val, 0, 0] S1x64x256.size (inb_q h.isLt)
def snW (h : Fin 2) : Vec F S1x64x128 .f32 := window I.sn ![h.val, 0, 0] S1x64x128.size (inb_l h.isLt)
def snH (h : Fin 2) : FVec F S64x128 .f32 := shapeCast S64x128 (I.snW h)

/-! ## Scores of a chunk -/

def tileV (c : ℕ) (h : Fin 2) (j : ℕ) (hj : j < 8) : FVec F S64x256 .f32 :=
  scorePay (I.qH h) (boxK (chunkK I.k c) h (256 * j) 256 (by omega)) (boxS (chunkS I.ks c) h (256 * j) 256 (by omega))
def tileG (c : ℕ) (x : Fin 2 × Fin 8) : Vec F S1x64x256 .f32 := shapeCast S1x64x256 (I.tileV c x.1 x.2.val x.2.isLt)
/-- The score buffer of chunk `c`. -/
def sc (c : ℕ) : S2x64x2048.Idx → Elt F .f32 := tS.asm (I.tileG c)
/-- Lane-pair maxima of the tiles `0 … j`. -/
def mx (c : ℕ) (h : Fin 2) : (j : ℕ) → j < 8 → FVec F S64x128 .f32
  | 0, hj => pairMax (I.tileV c h 0 hj)
  | j + 1, hj => maximumf (mx c h j (by omega)) (pairMax (I.tileV c h (j + 1) hj))

/-- The running maximum before chunk `c`. -/
def mst (h : Fin 2) : ℕ → FVec F S64x128 .f32
  | 0 => broadcast S64x128 (Scalar.ofBits .f32 0xFF800000#32)
  | c + 1 => mNew (mst h c) (I.mx c h 7 (by decide))
/-- Chunk `c`'s shrink factor. -/
def ast (h : Fin 2) (c : ℕ) : FVec F S64x128 .f32 := aNew (I.mst h c) (I.mst h (c + 1))

/-! ## Weights and values of a chunk -/

def pV (c : ℕ) (h : Fin 2) (j : ℕ) (hj : j < 16) : FVec F S64x128 .f32 :=
  pPay (window (I.sc c) ![h.val, 0, 128 * j] S1x64x128.size (inb_sb h.isLt hj)) (I.mst h (c + 1))
def psV (c : ℕ) (h : Fin 2) (j : ℕ) (hj : j < 16) : FVec F S64x128 .bf16 :=
  psPay (I.pV c h j hj) (boxS (chunkS I.vs c) h (128 * j) 128 (by omega))
def lsum (c : ℕ) (h : Fin 2) (l0 : FVec F S64x128 .f32) : (j : ℕ) → j < 16 → FVec F S64x128 .f32
  | 0, hj => addf l0 (I.pV c h 0 hj)
  | j + 1, hj => addf (lsum c h l0 j (by omega)) (I.pV c h (j + 1) hj)
def psR (c : ℕ) (h : Fin 2) : (j : ℕ) → j < 16 → ℕ → FVec F S64x128 .bf16
  | 0, hj => fun _ => I.psV c h 0 hj
  | j + 1, hj => fun i => Nat.rec (I.psV c h (j + 1) hj) (fun _ _ => psR c h j (by omega) i) (j + 1 - i)
/-- The running sums before chunk `c`. -/
def lst (h : Fin 2) : ℕ → FVec F S64x128 .f32
  | 0 => broadcast S64x128 (Scalar.ofBits .f32 0x00000000#32)
  | c + 1 => I.lsum c h (mulf (lst h c) (I.ast h c)) 15 (by decide)
/-- The accumulator before chunk `c`. -/
def accst (h : Fin 2) : ℕ → FVec F S64x256 .f32
  | 0 => wide (broadcast S64x128 (Scalar.ofBits .f32 0x00000000#32) : FVec F S64x128 .f32)
  | c + 1 => accPay (shapeCast S1x64x256 (accst h c)) (I.ast h c) (cat16 fun i => I.psR c h 15 (by decide) i.val)
      (boxK (chunkK I.v c) h 0 2048 (by omega))

theorem psR_eq (c : ℕ) (h : Fin 2) : ∀ (j : ℕ) (hj : j < 16) (i : ℕ) (hi : i ≤ j), I.psR c h j hj i = I.psV c h i (by omega)
  | 0, hj, i, hi => by
      obtain rfl : i = 0 := by omega
      rfl
  | j + 1, hj, i, hi => by
      rcases Nat.lt_or_ge j i with h1 | h1
      · obtain rfl : i = j + 1 := by omega
        show Nat.rec (motive := fun _ => FVec F S64x128 .bf16) _ _ (j + 1 - (j + 1)) = _
        rw [Nat.sub_self]
        rfl
      · show Nat.rec (motive := fun _ => FVec F S64x128 .bf16) _ _ (j + 1 - i) = _
        rw [show j + 1 - i = (j - i) + 1 by omega]
        exact psR_eq c h j (by omega) i h1

/-! ## The merge with the new token -/

def fOV (h : Fin 2) : FVec F S64x256 .f32 := fO (shapeCast S1x64x256 (I.accst h 32)) (I.lst h 32) (I.mst h 32) (I.snH h)
def fPV (h : Fin 2) : FVec F S64x256 .f32 := fP (I.lst h 32) (I.mst h 32) (I.snH h)
def rowV (h : Fin 2) (b : Fin 4) : FVec F S16x256 .f32 := fRow h.val h.isLt b.val b.isLt (I.fOV h) (I.fPV h) (I.vnW b)
/-- The buffer of merged rows, box by box: head, half, sequence. -/
def oG (x : Fin 2 × Fin 2 × Fin 4) : Vec F S1x1x16x128 .f32 :=
  if x.2.1 = 0 then shapeCast S1x1x16x128 (half0 (I.rowV x.1 x.2.2)) else shapeCast S1x1x16x128 (half1 (I.rowV x.1 x.2.2))
/-- Query head `g`'s half `f`, of the four sequences. -/
def gat (h f : Fin 2) (g : Fin 16) : Vec F S1x1x4x128 .f32 := fun i => I.oG (h, f, (i 2 : Fin 4)) (ix4 (0 : Fin 1) (0 : Fin 1) g (i 3 : Fin 128))
/-- The result, by 128 columns. -/
def outT (h f : Fin 2) (g : Fin 16) : Vec F S4x128 .bf16 :=
  shapeCast S4x128 (truncf .bf16 (shapeCast S4x128 (I.gat h f g) : FVec F S4x128 .f32) (by decide) : FVec F S4x128 .bf16)
def outG (n : Fin 64) : Vec F S4x128 .bf16 :=
  I.outT ⟨n.val / 32, by omega⟩ ⟨n.val % 2, by omega⟩ ⟨n.val % 32 / 2, by omega⟩
def out : S4x8192.Idx → Elt F .bf16 := tB.asm I.outG

end In
end Cascade
-- ==== Proof.Kern.Run.lean ====
/- The kernel's computation between the copies, run on the buffers: scores of a chunk, weights and values
   of a chunk, and the pipeline's stages. -/
module

public import proofs.«01_k».proof.Proof.Kern.Model

@[expose] public section

noncomputable section

namespace Cascade

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F] [Scl F] {nD : Nat} {τ : Topo} {sig : RefSig} {Λ : Labels}

local notation "𝕄" => MT nD τ sig Unit (Elt F) ℕ (Pipeline.UD sig nD τ) ℕ
local notation "P" => Prog (TpuEff nD τ sig (Elt F) Λ (Proc.tc : Proc τ)) PUnit

variable {defs : Defs nD τ sig (Elt F) Λ} {𝒱 : Variants} {d : Dev nD} {bd : Option 𝒱.V} {Q : PUnit → sProp (MT nD τ sig Unit (Elt F) ℕ (Pipeline.UD sig nD τ) ℕ)}
variable (I : In F) (A : Bufs sig)

/-! ## Scores -/

theorem wp_tile (sb : Memref sig .tc .vmem S2x64x2048 .f32) {n : ℕ} {hn : n < 8} (c : ℕ) {h : ℕ} {hh : h < 2} {j : ℕ} {hj : j < 8}
    {k : FVec F S64x256 .f32 → P} {g : Fin 2 × Fin 8 → Vec F S1x64x256 .f32} :
    iprop(own d A.q fullShare I.q ∗ own d (kSlot A.kb n hn) fullShare (chunkK I.k c) ∗ own d (sSlot A.ksb n hn) fullShare (chunkS I.ks c)
      ∗ own d sb fullShare (tS.asm g)) ⊢ (iprop((iprop(own d A.q fullShare I.q ∗ own d (kSlot A.kb n hn) fullShare (chunkK I.k c)
        ∗ own d (sSlot A.ksb n hn) fullShare (chunkS I.ks c)
        ∗ own d sb fullShare (tS.asm (Function.update g (⟨h, hh⟩, ⟨j, hj⟩) (I.tileG c (⟨h, hh⟩, ⟨j, hj⟩)))))
          -∗ wpc defs 𝒱 d bd Q (k (I.tileV c ⟨h, hh⟩ j hj)))
      -∗ wpc defs 𝒱 d bd Q (tile A sb n hn h hh j hj k)) : sProp 𝕄) := by
  unfold tile
  iintro ⟨Hq, Hk, Hs, Hb⟩ K
  iapply (wp_ldB A.q) $$ Hq
  iintro Hq
  iapply (wp_ldSlotK A.kb (hw := by decide) (hh := hh) (ht := by omega)) $$ Hk
  iintro Hk
  iapply (wp_ldSlotS A.ksb (hw := by decide) (hh := hh) (ht := by omega)) $$ Hs
  iintro Hs
  iapply (wp_stT tS (⟨h, hh⟩, ⟨j, hj⟩) sb) $$ Hb
  iintro Hb
  iapply K
  isplitl [Hq]; · iexact Hq
  isplitl [Hk]; · iexact Hk
  isplitl [Hs]; · iexact Hs
  iexact Hb

/-- The score buffer's boxes after the tiles `0 … j`. -/
def gT (c : ℕ) (g : Fin 2 × Fin 8 → Vec F S1x64x256 .f32) : (j : ℕ) → j < 8 → Fin 2 × Fin 8 → Vec F S1x64x256 .f32
  | 0, hj => Function.update (Function.update g (0, ⟨0, hj⟩) (I.tileG c (0, ⟨0, hj⟩))) (1, ⟨0, hj⟩) (I.tileG c (1, ⟨0, hj⟩))
  | j + 1, hj => Function.update (Function.update (gT c g j (by omega)) (0, ⟨j + 1, hj⟩) (I.tileG c (0, ⟨j + 1, hj⟩))) (1, ⟨j + 1, hj⟩)
      (I.tileG c (1, ⟨j + 1, hj⟩))

theorem gT_eq (c : ℕ) (g : Fin 2 × Fin 8 → Vec F S1x64x256 .f32) : ∀ (j : ℕ) (hj : j < 8) (x : Fin 2 × Fin 8), x.2.val ≤ j →
    gT I c g j hj x = I.tileG c x
  | 0, hj, ⟨h, i⟩, hi => by
      obtain rfl : i = ⟨0, hj⟩ := Fin.ext (by simp at hi ⊢; omega)
      fin_cases h <;> simp [gT, Function.update]
  | j + 1, hj, ⟨h, i⟩, hi => by
      by_cases e : i = ⟨j + 1, hj⟩
      · subst e
        fin_cases h <;> simp [gT, Function.update]
      · unfold gT
        rw [Function.update_of_ne (by simp [e]), Function.update_of_ne (by simp [e])]
        refine gT_eq c g j _ _ ?_
        have : i.val ≠ j + 1 := fun h => e (Fin.ext h)
        simp at hi ⊢; omega

theorem wp_tiles (sb : Memref sig .tc .vmem S2x64x2048 .f32) {n : ℕ} {hn : n < 8} (c : ℕ) {g : Fin 2 × Fin 8 → Vec F S1x64x256 .f32} :
    ∀ {j : ℕ} {hj : j < 8} {k : FVec F S64x128 .f32 → FVec F S64x128 .f32 → P},
    iprop(own d A.q fullShare I.q ∗ own d (kSlot A.kb n hn) fullShare (chunkK I.k c) ∗ own d (sSlot A.ksb n hn) fullShare (chunkS I.ks c)
      ∗ own d sb fullShare (tS.asm g)) ⊢ (iprop((iprop(own d A.q fullShare I.q ∗ own d (kSlot A.kb n hn) fullShare (chunkK I.k c)
        ∗ own d (sSlot A.ksb n hn) fullShare (chunkS I.ks c) ∗ own d sb fullShare (tS.asm (gT I c g j hj)))
          -∗ wpc defs 𝒱 d bd Q (k (I.mx c 0 j hj) (I.mx c 1 j hj)))
      -∗ wpc defs 𝒱 d bd Q (tiles A sb n hn j hj k)) : sProp 𝕄)
  | 0, hj, k => by
      unfold tiles
      iintro H K
      iapply (wp_tile I A sb c) $$ H
      iintro H
      iapply (wp_tile I A sb c) $$ H
      iintro H
      iapply K
      iexact H
  | j + 1, hj, k => by
      unfold tiles
      iintro H K
      iapply (wp_tiles sb c (j := j)) $$ H
      iintro H
      iapply (wp_tile I A sb c) $$ H
      iintro H
      iapply (wp_tile I A sb c) $$ H
      iintro H
      iapply K
      iexact H

theorem wp_newMax {p p' : ℕ} {hp : p < 2} {hp' : p' < 2} {h : ℕ} {hh : h < 2} {c : ℕ} {k : P} {gm ga : Fin 2 × Fin 2 → Vec F S1x1x64x128 .f32}
    (hg : gm (⟨p', hp'⟩, ⟨h, hh⟩) = shapeCast S1x1x64x128 (I.mst ⟨h, hh⟩ c)) :
    iprop(own d A.m fullShare (tM.asm gm) ∗ own d A.al fullShare (tM.asm ga)) ⊢ (iprop((iprop(
        own d A.m fullShare (tM.asm (Function.update gm (⟨p, hp⟩, ⟨h, hh⟩) (shapeCast S1x1x64x128 (I.mst ⟨h, hh⟩ (c + 1)))))
        ∗ own d A.al fullShare (tM.asm (Function.update ga (⟨p, hp⟩, ⟨h, hh⟩) (shapeCast S1x1x64x128 (I.ast ⟨h, hh⟩ c)))))
          -∗ wpc defs 𝒱 d bd Q k)
      -∗ wpc defs 𝒱 d bd Q (newMax A p p' hp hp' h hh (I.mx c ⟨h, hh⟩ 7 (by decide)) k)) : sProp 𝕄) := by
  unfold newMax
  iintro ⟨Hm, Ha⟩ K
  iapply (wp_ldT tM (⟨p', hp'⟩, ⟨h, hh⟩) A.m) $$ Hm
  iintro Hm
  rw [hg, shapeCast_shapeCast]
  iapply (wp_stT tM (⟨p, hp⟩, ⟨h, hh⟩) A.m) $$ Hm
  iintro Hm
  iapply (wp_stT tM (⟨p, hp⟩, ⟨h, hh⟩) A.al) $$ Ha
  iintro Ha
  iapply K
  isplitl [Hm]; · iexact Hm
  iexact Ha

/-- The same of two parities. -/
def IsM (g : Fin 2 × Fin 2 → Vec F S1x1x64x128 .f32) (p : Fin 2) (c : ℕ) : Prop := ∀ h, g (p, h) = shapeCast S1x1x64x128 (I.mst h c)
def IsA (g : Fin 2 × Fin 2 → Vec F S1x1x64x128 .f32) (p : Fin 2) (c : ℕ) : Prop := ∀ h, g (p, h) = shapeCast S1x1x64x128 (I.ast h c)

theorem wp_scores (sb : Memref sig .tc .vmem S2x64x2048 .f32) {c n : ℕ} {hn : n < 8} {p p' : ℕ} {hp : p < 2} {hp' : p' < 2} (hne : p ≠ p') {k : P}
    {Y : S2x64x2048.Idx → Elt F .f32} {gm ga : Fin 2 × Fin 2 → Vec F S1x1x64x128 .f32} (hg : IsM I gm ⟨p', hp'⟩ c) :
    iprop(own d A.q fullShare I.q ∗ own d (kSlot A.kb n hn) fullShare (chunkK I.k c) ∗ own d (sSlot A.ksb n hn) fullShare (chunkS I.ks c)
      ∗ own d sb fullShare Y ∗ own d A.m fullShare (tM.asm gm) ∗ own d A.al fullShare (tM.asm ga))
    ⊢ (iprop((iprop(own d A.q fullShare I.q ∗ own d (kSlot A.kb n hn) fullShare (chunkK I.k c)
        ∗ own d (sSlot A.ksb n hn) fullShare (chunkS I.ks c) ∗ own d sb fullShare (I.sc c)
        ∗ (∃ gm', ⌜IsM I gm' ⟨p, hp⟩ (c + 1) ∧ ∀ h, gm' (⟨p', hp'⟩, h) = gm (⟨p', hp'⟩, h)⌝ ∗ own d A.m fullShare (tM.asm gm'))
        ∗ (∃ ga', ⌜IsA I ga' ⟨p, hp⟩ c ∧ ∀ h, ga' (⟨p', hp'⟩, h) = ga (⟨p', hp'⟩, h)⌝ ∗ own d A.al fullShare (tM.asm ga')))
          -∗ wpc defs 𝒱 d bd Q k)
      -∗ wpc defs 𝒱 d bd Q (scores A sb n hn p p' hp hp' k)) : sProp 𝕄) := by
  unfold scores
  rw [← tS.asm_window Y]
  iintro ⟨Hq, Hk, Hs, Hb, Hm, Ha⟩ K
  iapply (wp_tiles I A sb c) $$ [Hq Hk Hs Hb]
  · isplitl [Hq]; · iexact Hq
    isplitl [Hk]; · iexact Hk
    isplitl [Hs]; · iexact Hs
    iexact Hb
  iintro ⟨Hq, Hk, Hs, Hb⟩
  iapply (wp_newMax I A (c := c) (hg 0)) $$ [Hm Ha]
  · isplitl [Hm]; · iexact Hm
    iexact Ha
  iintro H
  iapply (wp_newMax I A (c := c) (h := 1) (hh := by decide) ((Function.update_of_ne (by simp) _ _).trans (hg 1))) $$ H
  iintro ⟨Hm, Ha⟩
  iapply K
  isplitl [Hq]; · iexact Hq
  isplitl [Hk]; · iexact Hk
  isplitl [Hs]; · iexact Hs
  isplitl [Hb]
  · rw [show I.sc c = tS.asm (gT I c (fun x => window Y (tS.off x) tS.sz (tS.inb x)) 7 (by decide)) from
      congrArg _ (funext fun x => (gT_eq I c _ 7 _ x (by omega)).symm)]
    iexact Hb
  isplitl [Hm]
  · iexists _
    isplitr
    rotate_left
    · iexact Hm
    ipureintro
    constructor
    · intro h
      fin_cases h <;> simp [Function.update]
    · intro h
      rw [Function.update_of_ne (by simp [hne.symm]), Function.update_of_ne (by simp [hne.symm])]
  · iexists _
    isplitr
    rotate_left
    · iexact Ha
    ipureintro
    constructor
    · intro h
      fin_cases h <;> simp [Function.update]
    · intro h
      rw [Function.update_of_ne (by simp [hne.symm]), Function.update_of_ne (by simp [hne.symm])]

/-! ## Weights and values -/

theorem wp_blocks (sb : Memref sig .tc .vmem S2x64x2048 .f32) {n : ℕ} {hn : n < 8} {c : ℕ} {h : ℕ} {hh : h < 2} {l0 : FVec F S64x128 .f32} :
    ∀ {j : ℕ} {hj : j < 16} {k : FVec F S64x128 .f32 → (ℕ → FVec F S64x128 .bf16) → P},
    iprop(own d sb fullShare (I.sc c) ∗ own d (sSlot A.vsb n hn) fullShare (chunkS I.vs c))
    ⊢ (iprop((iprop(own d sb fullShare (I.sc c) ∗ own d (sSlot A.vsb n hn) fullShare (chunkS I.vs c))
          -∗ wpc defs 𝒱 d bd Q (k (I.lsum c ⟨h, hh⟩ l0 j hj) (I.psR c ⟨h, hh⟩ j hj)))
      -∗ wpc defs 𝒱 d bd Q (blocks A sb n hn h hh (I.mst ⟨h, hh⟩ (c + 1)) l0 j hj k)) : sProp 𝕄)
  | 0, hj, k => by
      unfold blocks
      iintro ⟨Hb, Hs⟩ K
      iapply (wp_ldB sb) $$ Hb
      iintro Hb
      iapply (wp_ldSlotS A.vsb (hw := by decide) (hh := hh) (ht := by omega)) $$ Hs
      iintro Hs
      iapply K
      isplitl [Hb]; · iexact Hb
      iexact Hs
  | j + 1, hj, k => by
      unfold blocks
      iintro H K
      iapply (wp_blocks sb (j := j)) $$ H
      iintro ⟨Hb, Hs⟩
      iapply (wp_ldB sb) $$ Hb
      iintro Hb
      iapply (wp_ldSlotS A.vsb (hw := by decide) (hh := hh) (ht := by omega)) $$ Hs
      iintro Hs
      iapply K
      isplitl [Hb]; · iexact Hb
      iexact Hs

/-- The running sums' and the accumulator's boxes, head 0 carried to chunk `c`, head 1 to chunk `c'`. -/
def lG (c c' : ℕ) (h : Fin 2) : Vec F S1x64x128 .f32 := shapeCast S1x64x128 (I.lst h (if h = 0 then c else c'))
def accG (c c' : ℕ) (h : Fin 2) : Vec F S1x64x256 .f32 := shapeCast S1x64x256 (I.accst h (if h = 0 then c else c'))
def lAt (d : Dev nD) (c c' : ℕ) : sProp 𝕄 :=
  iprop(own d A.l fullShare (tL.asm (lG I c c')) ∗ own d A.acc fullShare (tA.asm (accG I c c')))

theorem wp_weighHead (sb : Memref sig .tc .vmem S2x64x2048 .f32) {n : ℕ} {hn : n < 8} {c : ℕ} {p : ℕ} {hp : p < 2} {h : ℕ} {hh : h < 2} {k : P}
    {gm gx : Fin 2 × Fin 2 → Vec F S1x1x64x128 .f32} (hm : IsM I gm ⟨p, hp⟩ (c + 1)) (hx : IsA I gx ⟨p, hp⟩ c)
    {gl : Fin 2 → Vec F S1x64x128 .f32} {ga : Fin 2 → Vec F S1x64x256 .f32}
    (hl : gl ⟨h, hh⟩ = shapeCast S1x64x128 (I.lst ⟨h, hh⟩ c)) (ha : ga ⟨h, hh⟩ = shapeCast S1x64x256 (I.accst ⟨h, hh⟩ c)) :
    iprop(own d A.m fullShare (tM.asm gm) ∗ own d A.al fullShare (tM.asm gx) ∗ own d sb fullShare (I.sc c) ∗ own d (kSlot A.vb n hn) fullShare (chunkK I.v c)
      ∗ own d (sSlot A.vsb n hn) fullShare (chunkS I.vs c) ∗ own d A.l fullShare (tL.asm gl) ∗ own d A.acc fullShare (tA.asm ga))
    ⊢ (iprop((iprop(own d A.m fullShare (tM.asm gm) ∗ own d A.al fullShare (tM.asm gx) ∗ own d sb fullShare (I.sc c) ∗ own d (kSlot A.vb n hn) fullShare (chunkK I.v c)
      ∗ own d (sSlot A.vsb n hn) fullShare (chunkS I.vs c)
      ∗ own d A.l fullShare (tL.asm (Function.update gl ⟨h, hh⟩ (shapeCast S1x64x128 (I.lst ⟨h, hh⟩ (c + 1)))))
      ∗ own d A.acc fullShare (tA.asm (Function.update ga ⟨h, hh⟩ (shapeCast S1x64x256 (I.accst ⟨h, hh⟩ (c + 1))))))
          -∗ wpc defs 𝒱 d bd Q k)
      -∗ wpc defs 𝒱 d bd Q (weighHead A sb n hn p hp h hh k)) : sProp 𝕄) := by
  unfold weighHead
  iintro ⟨Hm, Hx, Hb, Hv, Hs, Hl, Ha⟩ K
  iapply (wp_ldT tM (⟨p, hp⟩, ⟨h, hh⟩) A.m) $$ Hm
  iintro Hm
  iapply (wp_ldT tM (⟨p, hp⟩, ⟨h, hh⟩) A.al) $$ Hx
  iintro Hx
  iapply (wp_ldT tL ⟨h, hh⟩ A.l) $$ Hl
  iintro Hl
  rw [hl, hm ⟨h, hh⟩, hx ⟨h, hh⟩, shapeCast_shapeCast, shapeCast_shapeCast, shapeCast_shapeCast]
  iapply (wp_blocks I A sb) $$ [Hb Hs]
  · isplitl [Hb]; · iexact Hb
    iexact Hs
  iintro ⟨Hb, Hs⟩
  iapply (wp_stT tL ⟨h, hh⟩ A.l) $$ Hl
  iintro Hl
  iapply (wp_ldSlotK A.vb (hw := by decide) (hh := hh) (ht := by omega)) $$ Hv
  iintro Hv
  iapply (wp_ldT tA ⟨h, hh⟩ A.acc) $$ Ha
  iintro Ha
  rw [ha]
  iapply (wp_stT tA ⟨h, hh⟩ A.acc) $$ Ha
  iintro Ha
  iapply K
  isplitl [Hm]; · iexact Hm
  isplitl [Hx]; · iexact Hx
  isplitl [Hb]; · iexact Hb
  isplitl [Hv]; · iexact Hv
  isplitl [Hs]; · iexact Hs
  isplitl [Hl]; · iexact Hl
  iexact Ha

theorem wp_weigh (sb : Memref sig .tc .vmem S2x64x2048 .f32) {n : ℕ} {hn : n < 8} {c : ℕ} {p : ℕ} {hp : p < 2} {k : P}
    {gm gx : Fin 2 × Fin 2 → Vec F S1x1x64x128 .f32} (hm : IsM I gm ⟨p, hp⟩ (c + 1)) (hx : IsA I gx ⟨p, hp⟩ c) :
    iprop(own d A.m fullShare (tM.asm gm) ∗ own d A.al fullShare (tM.asm gx) ∗ own d sb fullShare (I.sc c) ∗ own d (kSlot A.vb n hn) fullShare (chunkK I.v c)
      ∗ own d (sSlot A.vsb n hn) fullShare (chunkS I.vs c) ∗ lAt I A d c c)
    ⊢ (iprop((iprop(own d A.m fullShare (tM.asm gm) ∗ own d A.al fullShare (tM.asm gx) ∗ own d sb fullShare (I.sc c) ∗ own d (kSlot A.vb n hn) fullShare (chunkK I.v c)
      ∗ own d (sSlot A.vsb n hn) fullShare (chunkS I.vs c) ∗ lAt I A d (c + 1) (c + 1))
          -∗ wpc defs 𝒱 d bd Q k)
      -∗ wpc defs 𝒱 d bd Q (weigh A sb n hn p hp k)) : sProp 𝕄) := by
  unfold weigh lAt
  iintro H K
  iapply (wp_weighHead I A sb (c := c) (h := 0) hm hx (gl := lG I c c) (ga := accG I c c) rfl rfl) $$ H
  iintro H
  iapply (wp_weighHead I A sb (c := c) (h := 1) hm hx
    ((Function.update_of_ne (by simp) _ _).trans rfl) ((Function.update_of_ne (by simp) _ _).trans rfl)) $$ H
  rw [show lG I (c + 1) (c + 1) = Function.update (Function.update (lG I c c) ⟨0, by decide⟩ (shapeCast S1x64x128 (I.lst ⟨0, by decide⟩ (c + 1)))) ⟨1, by decide⟩ (shapeCast S1x64x128 (I.lst ⟨1, by decide⟩ (c + 1))) from ?_,
    show accG I (c + 1) (c + 1) = Function.update (Function.update (accG I c c) ⟨0, by decide⟩ (shapeCast S1x64x256 (I.accst ⟨0, by decide⟩ (c + 1)))) ⟨1, by decide⟩ (shapeCast S1x64x256 (I.accst ⟨1, by decide⟩ (c + 1))) from ?_]
  · iintro H
    iapply K
    iexact H
  · funext h
    fin_cases h <;> rfl
  · funext h
    fin_cases h <;> rfl

end Cascade
-- ==== Proof.Kern.Stage.lean ====
/- The pipeline's stages, and the two rings of chunks through them. -/
module

public import proofs.«01_k».proof.Proof.Kern.Run

@[expose] public section

noncomputable section

namespace Cascade

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F] [Scl F] {nD : Nat} {τ : Topo} {sig : RefSig} {Λ : Labels}

local notation "𝕄" => MT nD τ sig Unit (Elt F) ℕ (Pipeline.UD sig nD τ) ℕ
local notation "P" => Prog (TpuEff nD τ sig (Elt F) Λ (Proc.tc : Proc τ)) PUnit

variable {defs : Defs nD τ sig (Elt F) Λ} {𝒱 : Variants} {d : Dev nD} {bd : Option 𝒱.V} {Q : PUnit → sProp (MT nD τ sig Unit (Elt F) ℕ (Pipeline.UD sig nD τ) ℕ)}
variable (I : In F) (A : Bufs sig) (hA : A.Whole)

/-- The ring of keys and the ring of values. -/
abbrev rK : Rg sig := ⟨A.kh, A.ksh, A.kb, A.ksb, A.ck, A.cks, hA.kh, hA.kb⟩
abbrev rV : Rg sig := ⟨A.vh, A.vsh, A.vb, A.vsb, A.cv, A.cvs, hA.vh, hA.vb⟩

variable (d) in
abbrev kFree (c : ℕ) : sProp 𝕄 := free d (rK A hA) I.k I.ks c
variable (d) in
abbrev kFly (c : ℕ) : sProp 𝕄 := fly d (rK A hA) I.k I.ks c
variable (d) in
abbrev vFree (c : ℕ) : sProp 𝕄 := free d (rV A hA) I.v I.vs c
variable (d) in
abbrev vFly (c : ℕ) : sProp 𝕄 := fly d (rV A hA) I.v I.vs c

/-- Six of a family in a row. -/
def six (f : ℕ → sProp 𝕄) (c : ℕ) : sProp 𝕄 := iprop(f c ∗ f (c + 1) ∗ f (c + 2) ∗ f (c + 3) ∗ f (c + 4) ∗ f (c + 5))

theorem six_shift (f : ℕ → sProp 𝕄) (c : ℕ) : iprop(six f c ∗ f (c + 6)) ⊢ (iprop(f c ∗ six f (c + 1)) : sProp 𝕄) := by
  unfold six
  iintro ⟨⟨H0, H1, H2, H3, H4, H5⟩, H6⟩
  isplitl [H0]; · iexact H0
  isplitl [H1]; · iexact H1
  isplitl [H2]; · iexact H2
  isplitl [H3]; · iexact H3
  isplitl [H4]; · iexact H4
  isplitl [H5]; · iexact H5
  iexact H6

theorem wp_startK8 {c : ℕ} {k : P} :
    (kFree d I A hA c : sProp 𝕄) ⊢ iprop((kFly d I A hA (c + 8) -∗ wpc defs 𝒱 d bd Q k) -∗ wpc defs 𝒱 d bd Q (startK8 A hA c k)) := by
  rw [show (kFree d I A hA c : sProp 𝕄) = kFree d I A hA (c + 8) from free_congr (by omega)]
  unfold startK8
  by_cases hc : c + 8 < 32
  · rw [dif_pos hc]
    exact wp_start (R := rK A hA) hc
  · rw [dif_neg hc, show (kFly d I A hA (c + 8) : sProp 𝕄) = kFree d I A hA (c + 8) from fly_of_ge hc]
    iintro H K
    iapply K
    iexact H

/-- The values' slot of chunk `c + 7` as stage `c` finds it: already filled before the first stage, else free. -/
def vNext (d : Dev nD) (c : ℕ) : sProp 𝕄 := if c = 0 then vFly d I A hA 7 else vFree d I A hA (c + 7)

theorem wp_startV7 {c : ℕ} {k : P} :
    (vNext I A hA d c : sProp 𝕄) ⊢ iprop((vFly d I A hA (c + 7) -∗ wpc defs 𝒱 d bd Q k) -∗ wpc defs 𝒱 d bd Q (startV7 A hA c k)) := by
  unfold startV7 vNext
  by_cases h0 : c = 0
  · subst h0
    rw [if_pos rfl, dif_neg (by omega)]
    iintro H K
    iapply K
    iexact H
  rw [if_neg h0]
  by_cases hc : c + 7 < 32
  · rw [dif_pos ⟨by omega, hc⟩]
    exact wp_start (R := rV A hA) hc
  · rw [dif_neg (by omega), show (vFly d I A hA (c + 7) : sProp 𝕄) = vFree d I A hA (c + 7) from fly_of_ge hc]
    iintro H K
    iapply K
    iexact H

/-- Everything held before stage `c`, whose chunk's scores are in `s` and parity `p`. -/
def St (d : Dev nD) (s s' : Memref sig .tc .vmem S2x64x2048 .f32) (p : Fin 2) (c : ℕ) : sProp 𝕄 :=
  iprop(own d A.q fullShare I.q ∗ own d s fullShare (I.sc c) ∗ (∃ Y, own d s' fullShare Y)
    ∗ (∃ gm, ⌜IsM I gm p (c + 1)⌝ ∗ own d A.m fullShare (tM.asm gm)) ∗ (∃ ga, ⌜IsA I ga p c⌝ ∗ own d A.al fullShare (tM.asm ga))
    ∗ lAt I A d c c
    ∗ iprop(kFree d I A hA c ∗ kFly d I A hA (c + 1) ∗ six (kFly d I A hA) (c + 2))
    ∗ iprop(vFly d I A hA c ∗ six (vFly d I A hA) (c + 1) ∗ vNext I A hA d c)
    ∗ ow d)

theorem wp_stage {s s' : Memref sig .tc .vmem S2x64x2048 .f32} {p p' : ℕ} {hp : p < 2} {hp' : p' < 2} (hne : p' ≠ p) {c : ℕ} {hc : c + 1 < 32} {k : P} :
    (St I A hA d s s' ⟨p, hp⟩ c : sProp 𝕄) ⊢ iprop((St I A hA d s' s ⟨p', hp'⟩ (c + 1) -∗ wpc defs 𝒱 d bd Q k)
      -∗ wpc defs 𝒱 d bd Q (stage A hA s s' p p' hp hp' c hc k)) := by
  unfold stage
  rw [show St I A hA d s s' ⟨p, hp⟩ c = iprop(own d A.q fullShare I.q ∗ own d s fullShare (I.sc c) ∗ (∃ Y, own d s' fullShare Y)
    ∗ (∃ gm, ⌜IsM I gm ⟨p, hp⟩ (c + 1)⌝ ∗ own d A.m fullShare (tM.asm gm)) ∗ (∃ ga, ⌜IsA I ga ⟨p, hp⟩ c⌝ ∗ own d A.al fullShare (tM.asm ga))
    ∗ lAt I A d c c
    ∗ iprop(kFree d I A hA c ∗ kFly d I A hA (c + 1) ∗ six (kFly d I A hA) (c + 2))
    ∗ iprop(vFly d I A hA c ∗ six (vFly d I A hA) (c + 1) ∗ vNext I A hA d c)
    ∗ ow d) from rfl]
  iintro H K
  icases H with ⟨Hq, Hb, ⟨%Y, Hb'⟩, ⟨%gm, %hm, Hm⟩, ⟨%ga, %ha, Ha⟩, Hl, ⟨Hk, Hk1, Hk2⟩, ⟨Hv, Hv1, Hv7⟩, HO⟩
  iapply (wp_land (R := rK A hA) (X := I.k) (Y := I.ks) hc) $$ [Hk1 HO]
  · isplitl [Hk1]; · iexact Hk1
    iexact HO
  iintro ⟨Hk1, Hs1, Hr1, HO⟩
  iapply (wp_land (R := rV A hA) (X := I.v) (Y := I.vs) (show c < 32 by omega)) $$ [Hv HO]
  · isplitl [Hv]; · iexact Hv
    iexact HO
  iintro ⟨Hv, Hvs, Hvr, HO⟩
  iapply (wp_startK8 I A hA) $$ Hk
  iintro Hk8
  iapply (wp_startV7 I A hA) $$ Hv7
  iintro Hv7
  iapply (wp_scores I A s' (c := c + 1) hne hm) $$ [Hq Hk1 Hs1 Hb' Hm Ha]
  · isplitl [Hq]; · iexact Hq
    isplitl [Hk1]; · iexact Hk1
    isplitl [Hs1]; · iexact Hs1
    isplitl [Hb']; · iexact Hb'
    isplitl [Hm]; · iexact Hm
    iexact Ha
  iintro ⟨Hq, Hk1, Hs1, Hb', ⟨%gm', %hm', Hm⟩, ⟨%ga', %ha', Ha⟩⟩
  iapply (wp_weigh I A s (c := c) (p := p) (hp := hp) (gm := gm') (gx := ga') (fun h => (hm'.2 h).trans (hm h)) (fun h => (ha'.2 h).trans (ha h))) $$ [Hm Ha Hb Hv Hvs Hl]
  · isplitl [Hm]; · iexact Hm
    isplitl [Ha]; · iexact Ha
    isplitl [Hb]; · iexact Hb
    isplitl [Hv]; · iexact Hv
    isplitl [Hvs]; · iexact Hvs
    iexact Hl
  iintro ⟨Hm, Ha, Hb, Hv, Hvs, Hl⟩
  iapply K
  unfold St
  isplitl [Hq]; · iexact Hq
  isplitl [Hb']; · iexact Hb'
  isplitl [Hb]; · iexists _; iexact Hb
  isplitl [Hm]
  · iexists gm'
    isplitr; · ipureintro; exact hm'.1
    iexact Hm
  isplitl [Ha]
  · iexists ga'
    isplitr; · ipureintro; exact ha'.1
    iexact Ha
  isplitl [Hl]; · iexact Hl
  isplitl [Hk1 Hs1 Hr1 Hk2 Hk8]
  · isplitl [Hk1 Hs1 Hr1]
    · iapply (free_of_land (R := rK A hA) (c + 1))
      isplitl [Hk1]; · iexact Hk1
      isplitl [Hs1]; · iexact Hs1
      iexact Hr1
    · iapply (six_shift (kFly d I A hA) (c + 2))
      isplitl [Hk2]; · iexact Hk2
      iexact Hk8
  isplitl [Hv Hvs Hvr Hv1 Hv7]
  · ihave H := (six_shift (vFly d I A hA) (c + 1)) $$ [Hv1 Hv7]
    · isplitl [Hv1]; · iexact Hv1
      iexact Hv7
    icases H with ⟨H1, H2⟩
    isplitl [H1]; · iexact H1
    isplitl [H2]; · iexact H2
    unfold vNext
    rw [if_neg (by omega), show (vFree d I A hA (c + 1 + 7) : sProp 𝕄) = vFree d I A hA c from free_congr (by omega)]
    iapply (free_of_land (R := rV A hA) c)
    isplitl [Hv]; · iexact Hv
    isplitl [Hvs]; · iexact Hvs
    iexact Hvr
  iexact HO

/-- A trip of the loop. -/
theorem wp_trip {i : ℕ} {hi : i < 15} :
    (St I A hA d A.s0 A.s1 0 (2 * i) : sProp 𝕄) ⊢ iprop((St I A hA d A.s0 A.s1 0 (2 * (i + 1)) -∗ Q ⟨⟩)
      -∗ wpc defs 𝒱 d bd Q (trip A hA i hi)) := by
  unfold trip
  iintro H K
  iapply (wp_stage I A hA (by decide)) $$ H
  iintro H
  iapply (wp_stage I A hA (by decide)) $$ H
  iintro H
  unfold wpc
  rw [wp_ret]
  imodintro
  iapply K
  iexact H

/-- All that the two rings leave at the end. -/
def ends (d : Dev nD) : sProp 𝕄 :=
  iprop((∃ Y, own d A.s0 fullShare Y) ∗ (∃ Y, own d A.s1 fullShare Y) ∗ (∃ Y, own d A.al fullShare Y)
    ∗ iprop(kFree d I A hA 31 ∗ kFree d I A hA 32 ∗ six (kFree d I A hA) 33)
    ∗ iprop(vFree d I A hA 31 ∗ six (vFree d I A hA) 32 ∗ vFree d I A hA 38))

theorem six_of_ge (f g : ℕ → sProp 𝕄) (c : ℕ) (h : ∀ n, c ≤ n → f n = g n) : six f c = six g c := by
  unfold six
  rw [h c (by omega), h (c + 1) (by omega), h (c + 2) (by omega), h (c + 3) (by omega), h (c + 4) (by omega), h (c + 5) (by omega)]

theorem wp_last {s : Memref sig .tc .vmem S2x64x2048 .f32} {p : ℕ} {hp : p < 2} {c : ℕ} (hc : c < 32) {k : P}
    {gm ga : Fin 2 × Fin 2 → Vec F S1x1x64x128 .f32} (hm : IsM I gm ⟨p, hp⟩ (c + 1)) (ha : IsA I ga ⟨p, hp⟩ c) :
    iprop(own d A.m fullShare (tM.asm gm) ∗ own d A.al fullShare (tM.asm ga) ∗ own d s fullShare (I.sc c) ∗ vFly d I A hA c ∗ lAt I A d c c ∗ ow d)
    ⊢ (iprop((iprop(own d A.m fullShare (tM.asm gm) ∗ own d A.al fullShare (tM.asm ga) ∗ own d s fullShare (I.sc c) ∗ vFree d I A hA c
        ∗ lAt I A d (c + 1) (c + 1) ∗ ow d) -∗ wpc defs 𝒱 d bd Q k)
      -∗ wpc defs 𝒱 d bd Q (waitK A.vh hA.vh A.vb hA.vb A.cv c hc <| waitS A.vsh A.vsb A.cvs c hc <| weigh A s (c % 8) (slot_lt c) p hp k)) : sProp 𝕄) := by
  iintro ⟨Hm, Ha, Hb, Hv, Hl, HO⟩ K
  iapply (wp_land (R := rV A hA) (X := I.v) (Y := I.vs) hc) $$ [Hv HO]
  · isplitl [Hv]; · iexact Hv
    iexact HO
  iintro ⟨Hv, Hvs, Hvr, HO⟩
  iapply (wp_weigh I A s (c := c) (p := p) (gm := gm) (gx := ga) hm ha) $$ [Hm Ha Hb Hv Hvs Hl]
  · isplitl [Hm]; · iexact Hm
    isplitl [Ha]; · iexact Ha
    isplitl [Hb]; · iexact Hb
    isplitl [Hv]; · iexact Hv
    isplitl [Hvs]; · iexact Hvs
    iexact Hl
  iintro ⟨Hm, Ha, Hb, Hv, Hvs, Hl⟩
  iapply K
  isplitl [Hm]; · iexact Hm
  isplitl [Ha]; · iexact Ha
  isplitl [Hb]; · iexact Hb
  isplitl [Hv Hvs Hvr]
  · iapply (free_of_land (R := rV A hA) c)
    isplitl [Hv]; · iexact Hv
    isplitl [Hvs]; · iexact Hvs
    iexact Hvr
  isplitl [Hl]; · iexact Hl
  iexact HO

/-- The last two stages. -/
theorem wp_lasts {k : P} :
    (St I A hA d A.s0 A.s1 0 30 : sProp 𝕄) ⊢ iprop((iprop(own d A.q fullShare I.q
        ∗ (∃ gm, ⌜IsM I gm 1 32⌝ ∗ own d A.m fullShare (tM.asm gm)) ∗ lAt I A d 32 32 ∗ ends I A hA d ∗ ow d) -∗ wpc defs 𝒱 d bd Q k)
      -∗ wpc defs 𝒱 d bd Q (stage A hA A.s0 A.s1 0 1 (by decide) (by decide) 30 (by decide) (lastStage A hA k))) := by
  unfold lastStage
  iintro H K
  iapply (wp_stage I A hA (by decide)) $$ H
  iintro H
  unfold St
  icases H with ⟨Hq, Hb, Hb', ⟨%gm, %hm, Hm⟩, ⟨%ga, %ha, Ha⟩, Hl, ⟨Hk, Hk1, Hk2⟩, ⟨Hv, Hv1, Hv7⟩, HO⟩
  iapply (wp_last I A hA (c := 31) _ hm ha) $$ [Hm Ha Hb Hv Hl HO]
  · isplitl [Hm]; · iexact Hm
    isplitl [Ha]; · iexact Ha
    isplitl [Hb]; · iexact Hb
    isplitl [Hv]; · iexact Hv
    isplitl [Hl]; · iexact Hl
    iexact HO
  iintro ⟨Hm, Ha, Hb, Hv, Hl, HO⟩
  iapply K
  isplitl [Hq]; · iexact Hq
  isplitl [Hm]
  · iexists gm
    isplitr; · ipureintro; exact hm
    iexact Hm
  isplitl [Hl]; · iexact Hl
  isplitr [HO]
  · unfold ends
    isplitl [Hb']; · iexact Hb'
    isplitl [Hb]; · iexists _; iexact Hb
    isplitl [Ha]; · iexists _; iexact Ha
    isplitl [Hk Hk1 Hk2]
    · isplitl [Hk]; · iexact Hk
      isplitl [Hk1]
      · rw [show (kFree d I A hA 32 : sProp 𝕄) = kFly d I A hA 32 from (fly_of_ge (by decide)).symm]
        iexact Hk1
      · rw [show (six (kFree d I A hA) 33 : sProp 𝕄) = six (kFly d I A hA) 33 from
          six_of_ge _ _ _ fun n hn => (fly_of_ge (by omega)).symm]
        iexact Hk2
    · isplitl [Hv]; · iexact Hv
      isplitl [Hv1]
      · rw [show (six (vFree d I A hA) 32 : sProp 𝕄) = six (vFly d I A hA) 32 from
          six_of_ge _ _ _ fun n hn => (fly_of_ge (by omega)).symm]
        iexact Hv1
      · iapply (show (vNext I A hA d (30 + 1) : sProp 𝕄) ⊢ vFree d I A hA 38 from .rfl) $$ Hv7

  iexact HO

end Cascade
-- ==== Proof.Kern.Ends.lean ====
/- What comes before the pipeline's loop and after it. -/
module

public import proofs.«01_k».proof.Proof.Kern.Stage

@[expose] public section

noncomputable section

namespace Cascade

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F] [Scl F] {nD : Nat} {τ : Topo} {sig : RefSig} {Λ : Labels}

local notation "𝕄" => MT nD τ sig Unit (Elt F) ℕ (Pipeline.UD sig nD τ) ℕ
local notation "P" => Prog (TpuEff nD τ sig (Elt F) Λ (Proc.tc : Proc τ)) PUnit

variable {defs : Defs nD τ sig (Elt F) Λ} {𝒱 : Variants} {d : Dev nD} {bd : Option 𝒱.V} {Q : PUnit → sProp (MT nD τ sig Unit (Elt F) ℕ (Pipeline.UD sig nD τ) ℕ)}
variable (I : In F) (A : Bufs sig) (hA : A.Whole)

/-- A store of a box of a tiled buffer of any type. -/
theorem wp_storeT {T : Type} [DecidableEq T] {s : Shape} {e : EltTy} (t : Tiling s T) (x : T) (m : Memref sig .tc .vmem s e)
    {inb : ∀ a, t.off x a + t.sz a ≤ s.size a} {w : (Rect.unit (s := s) (t.off x) t.sz inb).shape.Idx → Elt F e}
    {hx : (m.access (Rect.unit (s := s) (t.off x) t.sz inb)).Stores Finset.univ} {hm} {k : P}
    {g : T → Vec F ⟨s.rank, t.sz⟩ e} :
    (own d m fullShare (t.asm g) : sProp 𝕄) ⊢ iprop((own d m fullShare (t.asm (Function.update g x w)) -∗ wpc defs 𝒱 d bd Q k)
      -∗ wpc defs 𝒱 d bd Q (.op (.store m (Rect.unit (s := s) (t.off x) t.sz inb) w Finset.univ hx hm) fun _ => k)) := by
  rw [← t.put_asm g x w]
  exact wp_st m

theorem own_asm {T : Type} [DecidableEq T] {sp : Space} {s : Shape} {e : EltTy} (t : Tiling s T) {m : Memref sig .tc sp s e} {q : PosShare TreeShare}
    {g g' : T → Vec F ⟨s.rank, t.sz⟩ e} (h : ∀ x, g x = g' x) :
    (own d m q (t.asm g) : sProp 𝕄) ⊢ own d m q (t.asm g') := by
  rw [funext h]

theorem wp_prep {h b : ℕ} {hh : h < 2} {hb : b < 4} {k : P} {gq : Fin 2 × Fin 4 → Vec F S1x16x256 .bf16} {gs : Fin 2 × Fin 4 → Vec F S1x16x128 .f32} :
    iprop(own d A.xb fullShare I.x ∗ own d A.knb fullShare I.kn ∗ own d A.q fullShare (tQ.asm gq) ∗ own d A.sn fullShare (tN.asm gs))
    ⊢ (iprop((iprop(own d A.xb fullShare I.x ∗ own d A.knb fullShare I.kn
        ∗ own d A.q fullShare (tQ.asm (Function.update gq (⟨h, hh⟩, ⟨b, hb⟩) (I.qG (⟨h, hh⟩, ⟨b, hb⟩))))
        ∗ own d A.sn fullShare (tN.asm (Function.update gs (⟨h, hh⟩, ⟨b, hb⟩) (I.snG (⟨h, hh⟩, ⟨b, hb⟩)))))
          -∗ wpc defs 𝒱 d bd Q k)
      -∗ wpc defs 𝒱 d bd Q (prep A hA h b hh hb k)) : sProp 𝕄) := by
  unfold prep
  iintro ⟨Hx, Hk, Hq, Hs⟩ K
  iapply (wp_ldB A.xb) $$ Hx
  iintro Hx
  iapply (wp_ldB A.q) $$ Hq
  iintro Hq
  iapply (wp_storeT tQ (⟨h, hh⟩, ⟨b, hb⟩) A.q) $$ Hq
  iintro Hq
  iapply (wp_ldB A.knb) $$ Hk
  iintro Hk
  iapply (wp_stT tN (⟨h, hh⟩, ⟨b, hb⟩) A.sn) $$ Hs
  iintro Hs
  iapply K
  isplitl [Hx]; · iexact Hx
  isplitl [Hk]; · iexact Hk
  isplitl [Hq]; · iexact Hq
  iexact Hs

theorem wp_clear {h : ℕ} {hh : h < 2} {k : P} {gm : Fin 2 × Fin 2 → Vec F S1x1x64x128 .f32}
    {gl : Fin 2 → Vec F S1x64x128 .f32} {ga : Fin 2 → Vec F S1x64x256 .f32} :
    iprop(own d A.m fullShare (tM.asm gm) ∗ own d A.l fullShare (tL.asm gl) ∗ own d A.acc fullShare (tA.asm ga))
    ⊢ (iprop((iprop(own d A.m fullShare (tM.asm (Function.update gm (1, ⟨h, hh⟩) (shapeCast S1x1x64x128 (I.mst ⟨h, hh⟩ 0))))
        ∗ own d A.l fullShare (tL.asm (Function.update gl ⟨h, hh⟩ (shapeCast S1x64x128 (I.lst ⟨h, hh⟩ 0))))
        ∗ own d A.acc fullShare (tA.asm (Function.update ga ⟨h, hh⟩ (shapeCast S1x64x256 (I.accst ⟨h, hh⟩ 0)))))
          -∗ wpc defs 𝒱 d bd Q k)
      -∗ wpc defs 𝒱 d bd Q (clear A h hh k)) : sProp 𝕄) := by
  unfold clear
  iintro ⟨Hm, Hl, Ha⟩ K
  iapply (wp_stT tM (1, ⟨h, hh⟩) A.m) $$ Hm
  iintro Hm
  iapply (wp_stT tL ⟨h, hh⟩ A.l) $$ Hl
  iintro Hl
  iapply (wp_stT tA ⟨h, hh⟩ A.acc) $$ Ha
  iintro Ha
  iapply K
  isplitl [Hm]; · iexact Hm
  isplitl [Hl]; · iexact Hl
  iexact Ha

theorem wp_start4 {c : ℕ} {hc : c < 32} {k : P} :
    iprop(kFree d I A hA c ∗ vFree d I A hA c) ⊢ (iprop((iprop(kFly d I A hA c ∗ vFly d I A hA c) -∗ wpc defs 𝒱 d bd Q k)
      -∗ wpc defs 𝒱 d bd Q (start4 A hA c hc k)) : sProp 𝕄) := by
  unfold start4
  iintro ⟨Hk, Hv⟩ K
  iapply (wp_start (R := rK A hA) (X := I.k) (Y := I.ks) hc) $$ Hk
  iintro Hk
  iapply (wp_start (R := rV A hA) (X := I.v) (Y := I.vs) hc) $$ Hv
  iintro Hv
  iapply K
  isplitl [Hk]; · iexact Hk
  iexact Hv

/-- The rings before the first copy. -/
def free8 (d : Dev nD) : sProp 𝕄 :=
  iprop(iprop(kFree d I A hA 0 ∗ kFree d I A hA 1 ∗ six (kFree d I A hA) 2) ∗ iprop(vFree d I A hA 0 ∗ six (vFree d I A hA) 1 ∗ vFree d I A hA 7))

theorem wp_starts {k : P} :
    (free8 I A hA d : sProp 𝕄) ⊢ iprop((iprop(iprop(kFly d I A hA 0 ∗ kFly d I A hA 1 ∗ six (kFly d I A hA) 2)
        ∗ iprop(vFly d I A hA 0 ∗ six (vFly d I A hA) 1 ∗ vNext I A hA d 0)) -∗ wpc defs 𝒱 d bd Q k)
      -∗ wpc defs 𝒱 d bd Q (start4 A hA 0 (by decide) <| start4 A hA 1 (by decide) <| start4 A hA 2 (by decide) <| start4 A hA 3 (by decide) <|
  start4 A hA 4 (by decide) <| start4 A hA 5 (by decide) <| start4 A hA 6 (by decide) <| start4 A hA 7 (by decide) k)) := by
  unfold free8 six
  iintro ⟨⟨K0, K1, K2, K3, K4, K5, K6, K7⟩, ⟨V0, ⟨V1, V2, V3, V4, V5, V6⟩, V7⟩⟩ K
  iapply (wp_start4 I A hA) $$ [K0 V0]
  · isplitl [K0]; · iexact K0
    iexact V0
  iintro ⟨K0, V0⟩
  iapply (wp_start4 I A hA) $$ [K1 V1]
  · isplitl [K1]; · iexact K1
    iexact V1
  iintro ⟨K1, V1⟩
  iapply (wp_start4 I A hA) $$ [K2 V2]
  · isplitl [K2]; · iexact K2
    iexact V2
  iintro ⟨K2, V2⟩
  iapply (wp_start4 I A hA) $$ [K3 V3]
  · isplitl [K3]; · iexact K3
    iexact V3
  iintro ⟨K3, V3⟩
  iapply (wp_start4 I A hA) $$ [K4 V4]
  · isplitl [K4]; · iexact K4
    iexact V4
  iintro ⟨K4, V4⟩
  iapply (wp_start4 I A hA) $$ [K5 V5]
  · isplitl [K5]; · iexact K5
    iexact V5
  iintro ⟨K5, V5⟩
  iapply (wp_start4 I A hA) $$ [K6 V6]
  · isplitl [K6]; · iexact K6
    iexact V6
  iintro ⟨K6, V6⟩
  iapply (wp_start4 I A hA) $$ [K7 V7]
  · isplitl [K7]; · iexact K7
    iexact V7
  iintro ⟨K7, V7⟩
  iapply K
  isplitl [K0 K1 K2 K3 K4 K5 K6 K7]
  · isplitl [K0]; · iexact K0
    isplitl [K1]; · iexact K1
    isplitl [K2]; · iexact K2
    isplitl [K3]; · iexact K3
    isplitl [K4]; · iexact K4
    isplitl [K5]; · iexact K5
    isplitl [K6]; · iexact K6
    iexact K7
  · isplitl [V0]; · iexact V0
    isplitl [V1 V2 V3 V4 V5 V6]
    · isplitl [V1]; · iexact V1
      isplitl [V2]; · iexact V2
      isplitl [V3]; · iexact V3
      isplitl [V4]; · iexact V4
      isplitl [V5]; · iexact V5
      iexact V6
    · iapply (show (vFly d I A hA 7 : sProp 𝕄) ⊢ vNext I A hA d 0 from .rfl) $$ V7

/-- The eight boxes of queries and of the new token's scores. -/
theorem wp_preps {k : P} :
    iprop(own d A.xb fullShare I.x ∗ own d A.knb fullShare I.kn ∗ (∃ Y, own d A.q fullShare Y) ∗ (∃ Y, own d A.sn fullShare Y))
    ⊢ (iprop((iprop(own d A.xb fullShare I.x ∗ own d A.knb fullShare I.kn ∗ own d A.q fullShare I.q ∗ own d A.sn fullShare I.sn)
          -∗ wpc defs 𝒱 d bd Q k)
      -∗ wpc defs 𝒱 d bd Q (prep A hA 0 0 (by decide) (by decide) <| prep A hA 0 1 (by decide) (by decide) <|
  prep A hA 0 2 (by decide) (by decide) <| prep A hA 0 3 (by decide) (by decide) <|
  prep A hA 1 0 (by decide) (by decide) <| prep A hA 1 1 (by decide) (by decide) <|
  prep A hA 1 2 (by decide) (by decide) <| prep A hA 1 3 (by decide) (by decide) k)) : sProp 𝕄) := by
  iintro ⟨Hx, Hk, ⟨%Yq, Hq⟩, ⟨%Ys, Hs⟩⟩ K
  rw [← tQ.asm_window Yq, ← tN.asm_window Ys]
  iapply (wp_prep I A hA) $$ [Hx Hk Hq Hs]
  · isplitl [Hx]; · iexact Hx
    isplitl [Hk]; · iexact Hk
    isplitl [Hq]; · iexact Hq
    iexact Hs
  iintro H
  iapply (wp_prep I A hA) $$ H
  iintro H
  iapply (wp_prep I A hA) $$ H
  iintro H
  iapply (wp_prep I A hA) $$ H
  iintro H
  iapply (wp_prep I A hA) $$ H
  iintro H
  iapply (wp_prep I A hA) $$ H
  iintro H
  iapply (wp_prep I A hA) $$ H
  iintro H
  iapply (wp_prep I A hA) $$ H
  iintro ⟨Hx, Hk, Hq, Hs⟩
  iapply K
  isplitl [Hx]; · iexact Hx
  isplitl [Hk]; · iexact Hk
  isplitl [Hq]
  · iapply (own_asm tQ (g' := I.qG) fun x => ?_) $$ Hq
    obtain ⟨h, b⟩ := x
    fin_cases h <;> fin_cases b <;> simp [Function.update]
  · iapply (own_asm tN (g' := I.snG) fun x => ?_) $$ Hs
    obtain ⟨h, b⟩ := x
    fin_cases h <;> fin_cases b <;> simp [Function.update]

/-! ## After the loop -/

theorem wp_mergeRow {h b : ℕ} {hh : h < 2} {hb : b < 4} {k : P} {go : Fin 2 × Fin 2 × Fin 4 → Vec F S1x1x16x128 .f32} :
    iprop(own d A.vnb fullShare I.vn ∗ own d A.o fullShare (tO.asm go))
    ⊢ (iprop((iprop(own d A.vnb fullShare I.vn ∗ own d A.o fullShare (tO.asm (Function.update (Function.update go (⟨h, hh⟩, 0, ⟨b, hb⟩) (I.oG (⟨h, hh⟩, 0, ⟨b, hb⟩)))
        (⟨h, hh⟩, 1, ⟨b, hb⟩) (I.oG (⟨h, hh⟩, 1, ⟨b, hb⟩)))))
          -∗ wpc defs 𝒱 d bd Q k)
      -∗ wpc defs 𝒱 d bd Q (mergeRow A h b hh hb (I.fOV ⟨h, hh⟩) (I.fPV ⟨h, hh⟩) k)) : sProp 𝕄) := by
  unfold mergeRow
  iintro ⟨Hv, Ho⟩ K
  iapply (wp_ldB A.vnb) $$ Hv
  iintro Hv
  iapply (wp_stT tO (⟨h, hh⟩, 0, ⟨b, hb⟩) A.o) $$ Ho
  iintro Ho
  iapply (wp_stT tO (⟨h, hh⟩, 1, ⟨b, hb⟩) A.o) $$ Ho
  iintro Ho
  iapply K
  isplitl [Hv]; · iexact Hv
  iexact Ho

theorem own_open {sp : Space} {s : Shape} {e : EltTy} (m : Memref sig .tc sp s e) (q : PosShare TreeShare) (X : s.Idx → Elt F e) :
    (own d m q X : sProp 𝕄) = iprop(∃ f, ⌜m.view.read (Elt F) f = X⌝ ∗ m.view.loc (d.tc : Thread nD τ) ↦[m.view.set]{q} f) := rfl

theorem wp_scat {h g f : ℕ} {hh : h < 2} {hg : g < 16} {hf : f < 2} {k : P} {go : Fin 2 × Fin 2 × Fin 4 → Vec F S1x1x16x128 .f32}
    {gb : Fin 64 → Vec F S4x128 .bf16} (ho : ∀ f b, go (⟨h, hh⟩, f, b) = I.oG (⟨h, hh⟩, f, b)) :
    iprop(own d A.o fullShare (tO.asm go) ∗ own d A.ob fullShare (tB.asm gb))
    ⊢ (iprop((iprop(own d A.o fullShare (tO.asm go) ∗ own d A.ob fullShare (tB.asm (Function.update gb ⟨32 * h + 2 * g + f, by omega⟩
        (I.outT ⟨h, hh⟩ ⟨f, hf⟩ ⟨g, hg⟩)))) -∗ wpc defs 𝒱 d bd Q k)
      -∗ wpc defs 𝒱 d bd Q (scat A hA h g f hh hg hf k)) : sProp 𝕄) := by
  unfold scat
  rw [own_open A.o]
  iintro ⟨Ho, Hb⟩ K
  icases Ho with ⟨%fo, %hfo, Ho⟩
  iapply (wp_load 𝒱 (d : Thread nD τ) bd Set.univ (m := A.o) (A.o.view.setOn_subset_set _)) $$ Ho
  iintro Ho
  rw [show (A.o.view.readAt (Elt F) (⟨![h, f, g, 0], S1x1x4x128.size, ![1, 1, 16, 1], inb_og hh hf hg⟩ : LoadRect S2x2x64x128) fo)
      = I.gat ⟨h, hh⟩ ⟨f, hf⟩ ⟨g, hg⟩ from ?_]
  · iapply (wp_ldB A.ob) $$ Hb
    iintro Hb
    iapply (wp_storeT tB ⟨32 * h + 2 * g + f, by omega⟩ A.ob) $$ Hb
    iintro Hb
    iapply K
    isplitl [Ho]
    · iexists fo
      isplitr; · ipureintro; exact hfo
      iexact Ho
    iexact Hb
  · funext i
    have h0 : (i 0).val < 1 := (i 0).isLt
    have h1 : (i 1).val < 1 := (i 1).isLt
    have h2 : (i 2).val < 4 := (i 2).isLt
    have h3 : (i 3).val < 128 := (i 3).isLt
    show A.o.view.read (Elt F) fo _ = _
    rw [hfo]
    rw [tO.asm_of go (⟨h, hh⟩, ⟨f, hf⟩, ⟨(i 2).val, h2⟩) _ ?_, ho]
    · unfold In.gat
      refine congrArg (I.oG _) ?_
      funext a; apply Fin.ext
      fin_cases a <;> simp [Rect.unitLocal, LoadRect.idx, ix4, ix3] <;> omega
    · intro a
      fin_cases a <;> simp [LoadRect.idx] <;> omega

/-- The output blocks of head `h`, query heads below `n`, are the result's; the others as before. -/
def IsOut (h : Fin 2) (n : ℕ) (gb gb' : Fin 64 → Vec F S4x128 .bf16) : Prop :=
  ∀ i : Fin 64, gb' i = if i.val / 32 = h.val ∧ i.val % 32 / 2 < n then I.outG i else gb i

theorem isOut_step {h : Fin 2} {n : ℕ} (hn : n < 16) {gb gb' : Fin 64 → Vec F S4x128 .bf16} (H : IsOut I h n gb gb') :
    IsOut I h (n + 1) gb (Function.update (Function.update gb' ⟨32 * h.val + 2 * n + 0, by omega⟩ (I.outT h 0 ⟨n, hn⟩))
      ⟨32 * h.val + 2 * n + 1, by omega⟩ (I.outT h 1 ⟨n, hn⟩)) := by
  intro i
  have hh := h.isLt
  by_cases e1 : i = ⟨32 * h.val + 2 * n + 1, by omega⟩
  · subst e1
    rw [Function.update_self, if_pos (by simp; omega)]
    unfold In.outG
    congr 1 <;> apply Fin.ext <;> simp <;> omega
  rw [Function.update_of_ne e1]
  by_cases e0 : i = ⟨32 * h.val + 2 * n + 0, by omega⟩
  · subst e0
    rw [Function.update_self, if_pos (by simp; omega)]
    unfold In.outG
    congr 1 <;> apply Fin.ext <;> simp <;> omega
  rw [Function.update_of_ne e0, H i]
  have n1 : i.val ≠ 32 * h.val + 2 * n + 1 := fun e => e1 (Fin.ext e)
  have n0 : i.val ≠ 32 * h.val + 2 * n := fun e => e0 (Fin.ext e)
  have e : (i.val / 32 = h.val ∧ i.val % 32 / 2 < n) ↔ (i.val / 32 = h.val ∧ i.val % 32 / 2 < n + 1) := by omega
  simp only [e]

theorem wp_scats {h : ℕ} {hh : h < 2} {go : Fin 2 × Fin 2 × Fin 4 → Vec F S1x1x16x128 .f32}
    {gb : Fin 64 → Vec F S4x128 .bf16} (ho : ∀ f b, go (⟨h, hh⟩, f, b) = I.oG (⟨h, hh⟩, f, b)) :
    ∀ {n : ℕ} {hn : n ≤ 16} {k : P},
    iprop(own d A.o fullShare (tO.asm go) ∗ own d A.ob fullShare (tB.asm gb))
    ⊢ (iprop((iprop(own d A.o fullShare (tO.asm go) ∗ (∃ gb', ⌜IsOut I ⟨h, hh⟩ n gb gb'⌝ ∗ own d A.ob fullShare (tB.asm gb'))) -∗ wpc defs 𝒱 d bd Q k)
      -∗ wpc defs 𝒱 d bd Q (scats A hA h hh n hn k)) : sProp 𝕄)
  | 0, hn, k => by
      unfold scats
      iintro ⟨Ho, Hb⟩ K
      iapply K
      isplitl [Ho]; · iexact Ho
      iexists gb
      isplitr
      · ipureintro; intro i; rw [if_neg (by omega)]
      iexact Hb
  | n + 1, hn, k => by
      unfold scats
      iintro H K
      iapply (wp_scats ho (n := n)) $$ H
      iintro ⟨Ho, ⟨%gb', %hb, Hb⟩⟩
      iapply (wp_scat I A hA ho) $$ [Ho Hb]
      · isplitl [Ho]; · iexact Ho
        iexact Hb
      iintro H
      iapply (wp_scat I A hA ho) $$ H
      iintro ⟨Ho, Hb⟩
      iapply K
      isplitl [Ho]; · iexact Ho
      iexists _
      isplitr
      rotate_left
      · iexact Hb
      · ipureintro; exact isOut_step I (by omega) hb

theorem wp_merge {h : ℕ} {hh : h < 2} {k : P} {gm : Fin 2 × Fin 2 → Vec F S1x1x64x128 .f32} (hm : IsM I gm 1 32)
    {gb : Fin 64 → Vec F S4x128 .bf16} :
    iprop(own d A.m fullShare (tM.asm gm) ∗ own d A.sn fullShare I.sn ∗ lAt I A d 32 32 ∗ own d A.vnb fullShare I.vn
      ∗ (∃ Y, own d A.o fullShare Y) ∗ own d A.ob fullShare (tB.asm gb))
    ⊢ (iprop((iprop(own d A.m fullShare (tM.asm gm) ∗ own d A.sn fullShare I.sn ∗ lAt I A d 32 32 ∗ own d A.vnb fullShare I.vn
      ∗ (∃ Y, own d A.o fullShare Y) ∗ (∃ gb', ⌜IsOut I ⟨h, hh⟩ 16 gb gb'⌝ ∗ own d A.ob fullShare (tB.asm gb'))) -∗ wpc defs 𝒱 d bd Q k)
      -∗ wpc defs 𝒱 d bd Q (merge A hA h hh k)) : sProp 𝕄) := by
  unfold merge lAt
  iintro ⟨Hm, Hs, ⟨Hl, Ha⟩, Hv, ⟨%Y, Ho⟩, Hb⟩ K
  rw [← tO.asm_window Y]
  iapply (wp_ldT tM (1, ⟨h, hh⟩) A.m) $$ Hm
  iintro Hm
  iapply (wp_ldB A.sn) $$ Hs
  iintro Hs
  iapply (wp_ldT tL ⟨h, hh⟩ A.l) $$ Hl
  iintro Hl
  iapply (wp_ldT tA ⟨h, hh⟩ A.acc) $$ Ha
  iintro Ha
  rw [hm ⟨h, hh⟩, show lG I 32 32 ⟨h, hh⟩ = shapeCast S1x64x128 (I.lst ⟨h, hh⟩ 32) by unfold lG; rw [ite_self],
    show accG I 32 32 ⟨h, hh⟩ = shapeCast S1x64x256 (I.accst ⟨h, hh⟩ 32) by unfold accG; rw [ite_self],
    shapeCast_shapeCast, shapeCast_shapeCast]
  iapply (wp_mergeRow I A) $$ [Hv Ho]
  · isplitl [Hv]; · iexact Hv
    iexact Ho
  iintro H
  iapply (wp_mergeRow I A) $$ H
  iintro H
  iapply (wp_mergeRow I A) $$ H
  iintro H
  iapply (wp_mergeRow I A) $$ H
  iintro ⟨Hv, Ho⟩
  iapply (wp_scats I A hA (h := h) (hh := hh) (fun f b => ?_)) $$ [Ho Hb]
  rotate_left
  · isplitl [Ho]; · iexact Ho
    iexact Hb
  · iintro ⟨Ho, Hb⟩
    iapply K
    isplitl [Hm]; · iexact Hm
    isplitl [Hs]; · iexact Hs
    isplitl [Hl Ha]
    · isplitl [Hl]; · iexact Hl
      iexact Ha
    isplitl [Hv]; · iexact Hv
    isplitl [Ho]; · iexists _; iexact Ho
    iexact Hb
  · fin_cases f <;> fin_cases b <;> simp [Function.update]

end Cascade
-- ==== Proof.Kern.Whole.lean ====
/- The whole kernel: from its buffers and semaphores to the same, the result written. -/
module

public import proofs.«01_k».proof.Proof.Kern.Ends
public import Idealize.ShloMosaic.Lib.Scf

@[expose] public section

noncomputable section

namespace Cascade

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F] [Scl F] {nD : Nat} {τ : Topo} {sig : RefSig} {Λ : Labels}

local notation "𝕄" => MT nD τ sig Unit (Elt F) ℕ (Pipeline.UD sig nD τ) ℕ
local notation "P" => Prog (TpuEff nD τ sig (Elt F) Λ (Proc.tc : Proc τ)) PUnit

variable {defs : Defs nD τ sig (Elt F) Λ} {𝒱 : Variants} {d : Dev nD} {bd : Option 𝒱.V} {Q : PUnit → sProp (MT nD τ sig Unit (Elt F) ℕ (Pipeline.UD sig nD τ) ℕ)}
variable (I : In F) (A : Bufs sig) (hA : A.Whole)

/-- A small copy in flight, and landed. -/
theorem wp_startW {s : Shape} {h : Memref sig .tc .hbm s .bf16} {hh : h.IsWhole} {b : Memref sig .tc .vmem s .bf16} {hb : b.IsWhole} {c : DmaSem sig}
    {k : P} {X : s.Idx → Elt F .bf16} (hs : 0 < s.numel) :
    iprop(sem0 d c ∗ (∃ Y, own d b fullShare Y) ∗ own d h fullShare X)
    ⊢ (iprop((flight d c b.view.dmaCredit iprop(own d b fullShare X ∗ own d h fullShare X) -∗ wpc defs 𝒱 d bd Q k)
      -∗ wpc defs 𝒱 d bd Q (startW h hh b hb c k)) : sProp 𝕄) := by
  unfold startW
  iintro ⟨Hc, ⟨%Y, Hb⟩, Hh⟩ K
  iapply (wp_copy h b c hs) $$ [Hc Hb Hh]
  · isplitl [Hc]; · iexact Hc
    isplitl [Hb]; · iexact Hb
    iexact Hh
  iexact K

theorem wp_waitW {s : Shape} {h : Memref sig .tc .hbm s .bf16} {hh : h.IsWhole} {b : Memref sig .tc .vmem s .bf16} {hb : b.IsWhole} {c : DmaSem sig}
    {k : P} {D : sProp 𝕄} :
    iprop(flight d c b.view.dmaCredit D ∗ ow d)
    ⊢ (iprop((iprop(D ∗ sem0 d c ∗ ow d) -∗ wpc defs 𝒱 d bd Q k)
      -∗ wpc defs 𝒱 d bd Q (waitW h hh b hb c k)) : sProp 𝕄) := by
  unfold waitW
  exact wp_await h b c

/-- The three small operands, their copies and their semaphores. -/
def small (d : Dev nD) : sProp 𝕄 :=
  iprop(own d A.x fullShare I.x ∗ own d A.kn fullShare I.kn ∗ own d A.vn fullShare I.vn
    ∗ sem0 d (cell3 A.csm 0 (by decide)) ∗ sem0 d (cell3 A.csm 1 (by decide)) ∗ sem0 d (cell3 A.csm 2 (by decide)))

/-- The scratch buffers nothing is in before the kernel. -/
def blank (d : Dev nD) : sProp 𝕄 :=
  iprop((∃ Y, own d A.xb fullShare Y) ∗ (∃ Y, own d A.knb fullShare Y) ∗ (∃ Y, own d A.vnb fullShare Y) ∗ (∃ Y, own d A.q fullShare Y)
    ∗ (∃ Y, own d A.sn fullShare Y) ∗ (∃ Y, own d A.s0 fullShare Y) ∗ (∃ Y, own d A.s1 fullShare Y) ∗ (∃ Y, own d A.m fullShare Y)
    ∗ (∃ Y, own d A.al fullShare Y) ∗ (∃ Y, own d A.l fullShare Y) ∗ (∃ Y, own d A.acc fullShare Y))

theorem wp_clears {k : P} :
    iprop((∃ Y, own d A.m fullShare Y) ∗ (∃ Y, own d A.l fullShare Y) ∗ (∃ Y, own d A.acc fullShare Y))
    ⊢ (iprop((iprop((∃ gm, ⌜IsM I gm 1 0⌝ ∗ own d A.m fullShare (tM.asm gm)) ∗ lAt I A d 0 0) -∗ wpc defs 𝒱 d bd Q k)
      -∗ wpc defs 𝒱 d bd Q (clear A 0 (by decide) <| clear A 1 (by decide) k)) : sProp 𝕄) := by
  iintro ⟨⟨%Ym, Hm⟩, ⟨%Yl, Hl⟩, ⟨%Ya, Ha⟩⟩ K
  rw [← tM.asm_window Ym, ← tL.asm_window Yl, ← tA.asm_window Ya]
  iapply (wp_clear I A) $$ [Hm Hl Ha]
  · isplitl [Hm]; · iexact Hm
    isplitl [Hl]; · iexact Hl
    iexact Ha
  iintro H
  iapply (wp_clear I A) $$ H
  iintro ⟨Hm, Hl, Ha⟩
  iapply K
  isplitl [Hm]
  · iexists _
    isplitr
    rotate_left
    · iexact Hm
    · ipureintro
      intro h
      fin_cases h <;> simp [Function.update]
  unfold lAt
  isplitl [Hl]
  · iapply (own_asm tL (g' := lG I 0 0) fun x => ?_) $$ Hl
    fin_cases x <;> simp [Function.update, lG]
  · iapply (own_asm tA (g' := accG I 0 0) fun x => ?_) $$ Ha
    fin_cases x <;> simp [Function.update, accG]

/-- The first chunk's scores. -/
theorem wp_first {s : Memref sig .tc .vmem S2x64x2048 .f32} {p p' : ℕ} {hp : p < 2} {hp' : p' < 2} (hne : p ≠ p') {c : ℕ} (hc : c < 32) {k : P}
    {gm : Fin 2 × Fin 2 → Vec F S1x1x64x128 .f32} (hm : IsM I gm ⟨p', hp'⟩ c) :
    iprop(own d A.q fullShare I.q ∗ kFly d I A hA c ∗ (∃ Y, own d s fullShare Y) ∗ own d A.m fullShare (tM.asm gm) ∗ (∃ Y, own d A.al fullShare Y) ∗ ow d)
    ⊢ (iprop((iprop(own d A.q fullShare I.q ∗ kFree d I A hA c ∗ own d s fullShare (I.sc c)
        ∗ (∃ gm, ⌜IsM I gm ⟨p, hp⟩ (c + 1)⌝ ∗ own d A.m fullShare (tM.asm gm)) ∗ (∃ ga, ⌜IsA I ga ⟨p, hp⟩ c⌝ ∗ own d A.al fullShare (tM.asm ga)) ∗ ow d)
          -∗ wpc defs 𝒱 d bd Q k)
      -∗ wpc defs 𝒱 d bd Q (waitK A.kh hA.kh A.kb hA.kb A.ck c hc <| waitS A.ksh A.ksb A.cks c hc <|
  scores A s (c % 8) (slot_lt _) p p' hp hp' k)) : sProp 𝕄) := by
  iintro ⟨Hq, Hk, ⟨%Y, Hb⟩, Hm, ⟨%Ya, Ha⟩, HO⟩ K
  rw [← tM.asm_window Ya]
  iapply (wp_land (R := rK A hA) (X := I.k) (Y := I.ks) hc) $$ [Hk HO]
  · isplitl [Hk]; · iexact Hk
    iexact HO
  iintro ⟨Hk, Hs, Hr, HO⟩
  iapply (wp_scores I A s (c := c) hne hm) $$ [Hq Hk Hs Hb Hm Ha]
  · isplitl [Hq]; · iexact Hq
    isplitl [Hk]; · iexact Hk
    isplitl [Hs]; · iexact Hs
    isplitl [Hb]; · iexact Hb
    isplitl [Hm]; · iexact Hm
    iexact Ha
  iintro ⟨Hq, Hk, Hs, Hb, ⟨%gm', %hm', Hm⟩, ⟨%ga', %ha', Ha⟩⟩
  iapply K
  isplitl [Hq]; · iexact Hq
  isplitl [Hk Hs Hr]
  · iapply (free_of_land (R := rK A hA) c)
    isplitl [Hk]; · iexact Hk
    isplitl [Hs]; · iexact Hs
    iexact Hr
  isplitl [Hb]; · iexact Hb
  isplitl [Hm]
  · iexists gm'
    isplitr; · ipureintro; exact hm'.1
    iexact Hm
  isplitl [Ha]
  · iexists ga'
    isplitr; · ipureintro; exact ha'.1
    iexact Ha
  iexact HO

theorem wp_pre {k : P} :
    iprop(small I A d ∗ blank (F := F) A d ∗ free8 I A hA d ∗ ow d)
    ⊢ (iprop((iprop(St I A hA d A.s0 A.s1 0 0 ∗ small I A d ∗ own d A.xb fullShare I.x ∗ own d A.knb fullShare I.kn ∗ own d A.vnb fullShare I.vn
        ∗ own d A.sn fullShare I.sn) -∗ wpc defs 𝒱 d bd Q k)
      -∗ wpc defs 𝒱 d bd Q (pre A hA k)) : sProp 𝕄) := by
  unfold pre small blank
  iintro ⟨⟨Hx, Hkn, Hvn, C0, C1, C2⟩, ⟨Bx, Bkn, Bvn, Hq, Hsn, H0, H1, Hm, Hal, Hl, Hacc⟩, HR, HO⟩ K
  iapply (wp_startW (by decide)) $$ [C0 Bx Hx]
  · isplitl [C0]; · iexact C0
    isplitl [Bx]; · iexact Bx
    iexact Hx
  iintro Hx
  iapply (wp_startW (by decide)) $$ [C1 Bkn Hkn]
  · isplitl [C1]; · iexact C1
    isplitl [Bkn]; · iexact Bkn
    iexact Hkn
  iintro Hkn
  iapply (wp_startW (by decide)) $$ [C2 Bvn Hvn]
  · isplitl [C2]; · iexact C2
    isplitl [Bvn]; · iexact Bvn
    iexact Hvn
  iintro Hvn
  iapply (wp_starts I A hA) $$ HR
  iintro ⟨⟨K0, KR⟩, HV⟩
  iapply wp_waitW $$ [Hx HO]
  · isplitl [Hx]; · iexact Hx
    iexact HO
  iintro ⟨⟨Bx, Hx⟩, C0, HO⟩
  iapply wp_waitW $$ [Hkn HO]
  · isplitl [Hkn]; · iexact Hkn
    iexact HO
  iintro ⟨⟨Bkn, Hkn⟩, C1, HO⟩
  iapply wp_waitW $$ [Hvn HO]
  · isplitl [Hvn]; · iexact Hvn
    iexact HO
  iintro ⟨⟨Bvn, Hvn⟩, C2, HO⟩
  iapply (wp_preps I A hA) $$ [Bx Bkn Hq Hsn]
  · isplitl [Bx]; · iexact Bx
    isplitl [Bkn]; · iexact Bkn
    isplitl [Hq]; · iexact Hq
    iexact Hsn
  iintro ⟨Bx, Bkn, Hq, Hsn⟩
  iapply (wp_clears I A) $$ [Hm Hl Hacc]
  · isplitl [Hm]; · iexact Hm
    isplitl [Hl]; · iexact Hl
    iexact Hacc
  iintro ⟨⟨%gm, %hm, Hm⟩, Hl⟩
  iapply (wp_first I A hA (by decide) _ hm) $$ [Hq K0 H0 Hm Hal HO]
  · isplitl [Hq]; · iexact Hq
    isplitl [K0]; · iexact K0
    isplitl [H0]; · iexact H0
    isplitl [Hm]; · iexact Hm
    isplitl [Hal]; · iexact Hal
    iexact HO
  iintro ⟨Hq, K0, H0, Hm, Hal, HO⟩
  iapply K
  isplitl [Hq H0 H1 Hm Hal Hl K0 KR HV HO]
  · unfold St
    isplitl [Hq]; · iexact Hq
    isplitl [H0]; · iexact H0
    isplitl [H1]; · iexact H1
    isplitl [Hm]; · iexact Hm
    isplitl [Hal]; · iexact Hal
    isplitl [Hl]; · iexact Hl
    isplitl [K0 KR]
    · isplitl [K0]; · iexact K0
      iexact KR
    isplitl [HV]; · iexact HV
    iexact HO
  isplitl [Hx Hkn Hvn C0 C1 C2]
  · isplitl [Hx]; · iexact Hx
    isplitl [Hkn]; · iexact Hkn
    isplitl [Hvn]; · iexact Hvn
    isplitl [C0]; · iexact C0
    isplitl [C1]; · iexact C1
    iexact C2
  isplitl [Bx]; · iexact Bx
  isplitl [Bkn]; · iexact Bkn
  isplitl [Bvn]; · iexact Bvn
  iexact Hsn

/-- The result's buffer after both heads is the result. -/
theorem out_eq {gb gb' gb'' : Fin 64 → Vec F S4x128 .bf16} (h0 : IsOut I 0 16 gb gb') (h1 : IsOut I 1 16 gb' gb'') : ∀ i, gb'' i = I.outG i := by
  intro i
  rw [h1 i, h0 i]
  by_cases e : i.val / 32 = 1
  · rw [if_pos ⟨e, by omega⟩]
  · rw [if_neg (by rintro ⟨e', _⟩; exact e e'), if_pos ⟨by simp; omega, by omega⟩]

/-- All that is held at the end. -/
def done (d : Dev nD) : sProp 𝕄 :=
  iprop(own d A.q fullShare I.q ∗ (∃ Y, own d A.m fullShare Y) ∗ lAt I A d 32 32 ∗ ends I A hA d ∗ own d A.vnb fullShare I.vn ∗ own d A.sn fullShare I.sn
    ∗ (∃ Y, own d A.o fullShare Y) ∗ (∃ Y, own d A.ob fullShare Y) ∗ own d A.out fullShare I.out ∗ sem0 d A.co.sem ∗ ow d)

theorem wp_post :
    iprop(St I A hA d A.s0 A.s1 0 30 ∗ own d A.vnb fullShare I.vn ∗ own d A.sn fullShare I.sn ∗ (∃ Y, own d A.o fullShare Y) ∗ (∃ Y, own d A.ob fullShare Y)
      ∗ (∃ Y, own d A.out fullShare Y) ∗ sem0 d A.co.sem)
    ⊢ (iprop((done I A hA d -∗ Q ⟨⟩) -∗ wpc defs 𝒱 d bd Q (post A hA)) : sProp 𝕄) := by
  unfold post
  iintro ⟨HS, Bvn, Hsn, Ho, ⟨%Yb, Hb⟩, ⟨%Yo, Hout⟩, C⟩ K
  rw [← tB.asm_window Yb]
  iapply (wp_lasts I A hA) $$ HS
  iintro ⟨Hq, ⟨%gm, %hm, Hm⟩, Hl, HE, HO⟩
  iapply (wp_merge I A hA hm) $$ [Hm Hsn Hl Bvn Ho Hb]
  · isplitl [Hm]; · iexact Hm
    isplitl [Hsn]; · iexact Hsn
    isplitl [Hl]; · iexact Hl
    isplitl [Bvn]; · iexact Bvn
    isplitl [Ho]; · iexact Ho
    iexact Hb
  iintro ⟨Hm, Hsn, Hl, Bvn, Ho, ⟨%gb, %hb, Hb⟩⟩
  iapply (wp_merge I A hA hm) $$ [Hm Hsn Hl Bvn Ho Hb]
  · isplitl [Hm]; · iexact Hm
    isplitl [Hsn]; · iexact Hsn
    isplitl [Hl]; · iexact Hl
    isplitl [Bvn]; · iexact Bvn
    isplitl [Ho]; · iexact Ho
    iexact Hb
  iintro ⟨Hm, Hsn, Hl, Bvn, Ho, ⟨%gb', %hb', Hb⟩⟩
  ihave Hb := (own_asm tB (g' := I.outG) (out_eq I hb hb')) $$ Hb
  unfold copyOut
  iapply (wp_copy A.ob A.out A.co.sem (by decide)) $$ [C Hb Hout]
  · isplitl [C]; · iexact C
    isplitl [Hout]; · iexact Hout
    iexact Hb
  iintro Hf
  iapply (wp_await A.ob A.out A.co.sem) $$ [Hf HO]
  · isplitl [Hf]; · iexact Hf
    iexact HO
  iintro ⟨⟨Hout, Hb⟩, C, HO⟩
  unfold wpc
  rw [wp_ret]
  imodintro
  iapply K
  unfold done
  isplitl [Hq]; · iexact Hq
  isplitl [Hm]; · iexists _; iexact Hm
  isplitl [Hl]; · iexact Hl
  isplitl [HE]; · iexact HE
  isplitl [Bvn]; · iexact Bvn
  isplitl [Hsn]; · iexact Hsn
  isplitl [Ho]; · iexact Ho
  isplitl [Hb]; · iexists _; iexact Hb
  isplitl [Hout]; · iexact Hout
  isplitl [C]; · iexact C
  iexact HO

theorem wand_self (X Y : sProp 𝕄) (Z : sProp 𝕄) (h : X ⊢ iprop((Y -∗ Y) -∗ Z)) : X ⊢ Z := by
  iintro H
  iapply h $$ H
  iintro H
  iexact H

theorem wp_trip' (i : ℕ) (hi : i < 15) :
    (St I A hA d A.s0 A.s1 0 (2 * i) : sProp 𝕄) ⊢ wpc defs 𝒱 d bd (fun _ => St I A hA d A.s0 A.s1 0 (2 * (i + 1))) (trip A hA i hi) :=
  wand_self _ (St I A hA d A.s0 A.s1 0 (2 * (i + 1))) _ (wp_trip I A hA (Q := fun _ => St I A hA d A.s0 A.s1 0 (2 * (i + 1))))

theorem wp_loop {w : ℕ} {lp : Scf.Loop w} {ok : lp.OK} (ht : lp.trips = 15) {kk : PUnit → P} :
    (St I A hA d A.s0 A.s1 0 0 : sProp 𝕄) ⊢ iprop((St I A hA d A.s0 A.s1 0 30 -∗ wpc defs 𝒱 d bd Q (kk ⟨⟩))
      -∗ wpc defs 𝒱 d bd Q (Prog.bind (Scf.Loop.for lp ok ⟨⟩ fun i _ => trip A hA i.val (lt_of_lt_of_eq i.isLt ht)) kk)) := by
  iintro H K
  iapply (Scf.wp_for_bind frame (wpE defs 𝒱 (d : Thread nD τ) bd) Set.univ _ _ _ _ _ _ (fun i _ => St I A hA d A.s0 A.s1 0 (2 * i)) (fun i acc => ?_)) $$ H
  · exact wp_trip' I A hA i.val (lt_of_lt_of_eq i.isLt ht)
  · iintro %acc H
    iapply K
    rw [show Scf.trips lp.lb lp.ub lp.st = 15 from ht]
    iexact H

/-- The whole kernel. -/
theorem wp_whole {w : ℕ} {lp : Scf.Loop w} {ok : lp.OK} (ht : lp.trips = 15) :
    iprop(small I A d ∗ blank (F := F) A d ∗ free8 I A hA d ∗ ow d ∗ (∃ Y, own d A.o fullShare Y) ∗ (∃ Y, own d A.ob fullShare Y)
      ∗ (∃ Y, own d A.out fullShare Y) ∗ sem0 d A.co.sem)
    ⊢ (iprop((iprop(done I A hA d ∗ small I A d ∗ own d A.xb fullShare I.x ∗ own d A.knb fullShare I.kn) -∗ Q ⟨⟩)
      -∗ wpc defs 𝒱 d bd Q (pre A hA (Prog.bind (Scf.Loop.for lp ok ⟨⟩ fun i _ => trip A hA i.val (lt_of_lt_of_eq i.isLt ht)) fun _ => post A hA))) : sProp 𝕄) := by
  iintro ⟨Hs, Hb, HR, HO, Ho, Hob, Hout, C⟩ K
  iapply (wp_pre I A hA) $$ [Hs Hb HR HO]
  · isplitl [Hs]; · iexact Hs
    isplitl [Hb]; · iexact Hb
    isplitl [HR]; · iexact HR
    iexact HO
  iintro ⟨HS, Hs, Bx, Bkn, Bvn, Hsn⟩
  iapply (wp_loop I A hA ht) $$ HS
  iintro HS
  iapply (wp_post I A hA) $$ [HS Bvn Hsn Ho Hob Hout C]
  · isplitl [HS]; · iexact HS
    isplitl [Bvn]; · iexact Bvn
    isplitl [Hsn]; · iexact Hsn
    isplitl [Ho]; · iexact Ho
    isplitl [Hob]; · iexact Hob
    isplitl [Hout]; · iexact Hout
    iexact C
  iintro HD
  iapply K
  isplitl [HD]; · iexact HD
  isplitl [Hs]; · iexact Hs
  isplitl [Bx]; · iexact Bx
  iexact Bkn

end Cascade
-- ==== Proof.Kern.Ring.lean ====
/- The rings opened and closed: a ring's buffers, its sources and its semaphores are its eight slots
   free, and what the slots do not need; then the whole kernel from whole buffers to whole buffers. -/
module

public import proofs.«01_k».proof.Proof.Kern.Whole
public import Idealize.ShloMosaic.Lib.Ring.FamCut

@[expose] public section

noncomputable section

namespace Cascade

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open VecWindow Transfers

variable {F : FTy → Type} [FloatOps F] [Scl F] {nD : Nat} {τ : Topo} {sig : RefSig} {Λ : Labels}

local notation "𝕄" => MT nD τ sig Unit (Elt F) ℕ (Pipeline.UD sig nD τ) ℕ
local notation "P" => Prog (TpuEff nD τ sig (Elt F) Λ (Proc.tc : Proc τ)) PUnit

variable {defs : Defs nD τ sig (Elt F) Λ} {𝒱 : Variants} {d : Dev nD} {bd : Option 𝒱.V} {Q : PUnit → sProp (MT nD τ sig Unit (Elt F) ℕ (Pipeline.UD sig nD τ) ℕ)}

theorem eqv {X Y : sProp 𝕄} (h : X ⊣⊢ Y) : X = Y := equiv_iff.mp ⟨h.1, h.2⟩

/-- Eight of a family in a row. -/
def eight (g : ℕ → sProp 𝕄) : sProp 𝕄 := iprop(g 0 ∗ g 1 ∗ g 2 ∗ g 3 ∗ g 4 ∗ g 5 ∗ g 6 ∗ g 7)

theorem eight_eq (g : ℕ → sProp 𝕄) : BI.bigSep Finset.univ (fun t : Fin 8 => g t.val) = eight g := by
  rw [BI.bigSep_eq_bigSepL_of_eq [(0 : Fin 8), 1, 2, 3, 4, 5, 6, 7] (by decide) (by decide)]
  rfl

theorem eight_range (g : ℕ → sProp 𝕄) : BI.bigSep (Finset.range 8) g ⊣⊢ eight g := by
  rw [BI.bigSep_eq_bigSepL_of_eq [0, 1, 2, 3, 4, 5, 6, 7] (by decide) (by decide)]
  exact .rfl

theorem eight_sep (f g : ℕ → sProp 𝕄) : iprop(eight f ∗ eight g) ⊣⊢ eight (fun n => iprop(f n ∗ g n)) := by
  rw [← eight_eq, ← eight_eq, ← eight_eq]
  have h := equiv_iff.mpr (BI.bigSep_sep Finset.univ (fun t : Fin 8 => f t.val) (fun t : Fin 8 => g t.val)).symm
  exact ⟨h.1, h.2⟩

theorem eight_congr {f g : ℕ → sProp 𝕄} (h : ∀ n, n < 8 → f n = g n) : eight f = eight g := by
  unfold eight
  rw [h 0 (by decide), h 1 (by decide), h 2 (by decide), h 3 (by decide), h 4 (by decide), h 5 (by decide), h 6 (by decide), h 7 (by decide)]

/-- A whole memref held at some contents is its buffer held at some contents. -/
theorem own_whole_ex {sp : Space} {s : Shape} {e : EltTy} (m : Memref sig .tc sp s e) (hm : m.IsWhole) :
    (iprop(∃ Y, own d m fullShare Y) : sProp 𝕄) ⊣⊢ iprop(∃ f, (m.view.loc (d : Thread nD τ)) ↦{fullShare} f) := by
  unfold own owns
  rw [hm.set_eq_univ]
  constructor
  · iintro ⟨%Y, ⟨%f, -, H⟩⟩
    iexists f; iexact H
  · iintro ⟨%f, H⟩
    iexists _, f
    isplitr; · ipureintro; rfl
    iexact H

/-- Any memref held at some contents. -/
theorem own_ex {sp : Space} {s : Shape} {e : EltTy} (m : Memref sig .tc sp s e) :
    (iprop(∃ Y, own d m fullShare Y) : sProp 𝕄) ⊣⊢ iprop(∃ f, (m.view.loc (d : Thread nD τ)) ↦[m.view.set]{fullShare} f) := by
  unfold own owns
  constructor
  · iintro ⟨%Y, ⟨%f, -, H⟩⟩
    iexists f; iexact H
  · iintro ⟨%f, H⟩
    iexists _, f
    isplitr; · ipureintro; rfl
    iexact H

/-- A source split in eight tokens and what is left. -/
theorem own_toks {sp : Space} {s : Shape} {e : EltTy} (m : Memref sig .tc sp s e) (hm : m.IsWhole) (X : s.Idx → Elt F e) :
    (own d m fullShare X : sProp 𝕄) ⊣⊢ iprop(own d m (shareDrop fullShare 8) X ∗ eight fun n => own d m (shareTokN fullShare n) X) := by
  obtain ⟨b, h1, h2, h3, h4⟩ := hm
  subst h1 h2 h3
  obtain rfl := eq_of_heq h4
  rw [← eight_eq]
  simp only [own, owns_whole]
  rw [eight_eq (fun n => ((d : Thread nD τ).loc b) ↦{shareTokN fullShare n} X)]
  refine (Transfers.pointsTo_toks_range fullShare 8).trans ?_
  exact ⟨sep_mono_right (eight_range _).1, sep_mono_right (eight_range _).2⟩

/-- A family of parts of a buffer and the rest of it joined. -/
theorem join_ex {sp : Space} {s : Shape} {e : EltTy} (b : Memref sig .tc sp s e) (J : Fin 8 → Finset (Idx (b.view.loc (d : Thread nD τ))))
    (hd : ∀ t t', t ≠ t' → Disjoint (J t) (J t')) :
    (iprop(BI.bigSep Finset.univ (fun t => iprop(∃ f, (b.view.loc (d : Thread nD τ)) ↦[J t]{fullShare} f))
      ∗ ∃ f, (b.view.loc (d : Thread nD τ)) ↦[Ring.restOf J]{fullShare} f) : sProp 𝕄) ⊢ iprop(∃ f, (b.view.loc (d : Thread nD τ)) ↦{fullShare} f) := by
  iintro ⟨H1, ⟨%f, H2⟩⟩
  iapply (Ring.fam_join J hd f)
  isplitl [H1]; · iexact H1
  iexists f; iexact H2

section Slots
variable (bK : Memref sig .tc .vmem S8x2x2048x256 .fp8e4m3) (bS : Memref sig .tc .vmem S8x2x2048 .f32)

theorem disjK (t t' : Fin 8) (h : t ≠ t') :
    Disjoint (kSlot bK (t.val % 8) (slot_lt t.val)).view.set (kSlot bK (t'.val % 8) (slot_lt t'.val)).view.set := by
  have e (n : ℕ) (hn : n < 8) : (kSlot bK n hn).view.set
      = (bK.view.slice (Rect.unit (s := S8x2x2048x256) ![n, 0, 0, 0] S1x2x2048x256.size (inb_kslot hn))).set := View.set_reshape _ _
  rw [e, e]
  refine View.disjoint_slice_of_sep _ _ _ 0 rfl rfl ?_
  have : t.val ≠ t'.val := fun h' => h (Fin.ext h')
  have := t.isLt; have := t'.isLt
  show t.val % 8 + 1 ≤ t'.val % 8 ∨ t'.val % 8 + 1 ≤ t.val % 8
  omega

theorem disjS (t t' : Fin 8) (h : t ≠ t') :
    Disjoint (sSlot bS (t.val % 8) (slot_lt t.val)).view.set (sSlot bS (t'.val % 8) (slot_lt t'.val)).view.set := by
  have e (n : ℕ) (hn : n < 8) : (sSlot bS n hn).view.set
      = (bS.view.slice (Rect.unit (s := S8x2x2048) ![n, 0, 0] S1x2x2048.size (inb_sslot hn))).set := View.set_reshape _ _
  rw [e, e]
  refine View.disjoint_slice_of_sep _ _ _ 0 rfl rfl ?_
  have : t.val ≠ t'.val := fun h' => h (Fin.ext h')
  have := t.isLt; have := t'.isLt
  show t.val % 8 + 1 ≤ t'.val % 8 ∨ t'.val % 8 + 1 ≤ t.val % 8
  omega

/-- What the slots leave of a buffer. -/
def outK (d : Dev nD) : sProp 𝕄 := iprop(∃ f, (bK.view.loc (d : Thread nD τ)) ↦[Ring.restOf (fun t : Fin 8 => (kSlot bK (t.val % 8) (slot_lt t.val)).view.set)]{fullShare} f)
def outS (d : Dev nD) : sProp 𝕄 := iprop(∃ f, (bS.view.loc (d : Thread nD τ)) ↦[Ring.restOf (fun t : Fin 8 => (sSlot bS (t.val % 8) (slot_lt t.val)).view.set)]{fullShare} f)

theorem cutK (h : bK.IsWhole) :
    (iprop(∃ Y, own d bK fullShare Y) : sProp 𝕄) ⊣⊢ iprop(eight (fun n => iprop(∃ Z, own d (kSlot bK (n % 8) (slot_lt n)) fullShare Z)) ∗ outK bK d) := by
  rw [← eight_eq, BI.bigSep_congr (fun t _ => eqv (own_ex (d := d) (kSlot bK (Fin.val t % 8) (slot_lt (Fin.val t)))))]
  refine BIBase.BiEntails.trans (own_whole_ex bK h) ?_
  unfold outK
  constructor
  · exact Ring.fam_split_ex (Ix := Unit) (Name := ℕ) (U := Pipeline.UD sig nD τ) (Lvl := ℕ) (Val := Elt F) (ℓ := bK.view.loc (d : Thread nD τ))
      (fun t : Fin 8 => (kSlot bK (t.val % 8) (slot_lt t.val)).view.set) (disjK bK)
  · refine BIBase.Entails.trans ?_ (join_ex (d := d) bK
      (fun t : Fin 8 => (kSlot bK (t.val % 8) (slot_lt t.val)).view.set) (disjK bK))
    exact .rfl

theorem cutS (h : bS.IsWhole) :
    (iprop(∃ Y, own d bS fullShare Y) : sProp 𝕄) ⊣⊢ iprop(eight (fun n => iprop(∃ Z, own d (sSlot bS (n % 8) (slot_lt n)) fullShare Z)) ∗ outS bS d) := by
  rw [← eight_eq, BI.bigSep_congr (fun t _ => eqv (own_ex (d := d) (sSlot bS (Fin.val t % 8) (slot_lt (Fin.val t)))))]
  refine BIBase.BiEntails.trans (own_whole_ex bS h) ?_
  unfold outS
  constructor
  · exact Ring.fam_split_ex (Ix := Unit) (Name := ℕ) (U := Pipeline.UD sig nD τ) (Lvl := ℕ) (Val := Elt F) (ℓ := bS.view.loc (d : Thread nD τ))
      (fun t : Fin 8 => (sSlot bS (t.val % 8) (slot_lt t.val)).view.set) (disjS bS)
  · refine BIBase.Entails.trans ?_ (join_ex (d := d) bS
      (fun t : Fin 8 => (sSlot bS (t.val % 8) (slot_lt t.val)).view.set) (disjS bS))
    exact .rfl
end Slots

/-- A ring whole: its two buffers, its two sources, its sixteen semaphores. -/
def whole (R : Rg sig) (X : S2x65536x256.Idx → Elt F .fp8e4m3) (Y : S2x65536.Idx → Elt F .f32) (d : Dev nD) : sProp 𝕄 :=
  iprop((∃ Z, own d R.b fullShare Z) ∗ (∃ Z, own d R.sb fullShare Z) ∗ own d R.h fullShare X ∗ own d R.sh fullShare Y
    ∗ eight (fun n => sem0 d (cell R.s (n % 8) (slot_lt n))) ∗ eight (fun n => sem0 d (cell R.ss (n % 8) (slot_lt n))))

/-- What the slots of a ring leave of it. -/
def left (R : Rg sig) (X : S2x65536x256.Idx → Elt F .fp8e4m3) (Y : S2x65536.Idx → Elt F .f32) (d : Dev nD) : sProp 𝕄 :=
  iprop(outK R.b d ∗ outS R.sb d ∗ own d R.h (shareDrop fullShare 8) X ∗ own d R.sh (shareDrop fullShare 8) Y)

theorem tok_eight {sp : Space} {s : Shape} {e : EltTy} (m : Memref sig .tc sp s e) (X : s.Idx → Elt F e) :
    (eight (fun n => own d m (shareTokN fullShare n) X) : sProp 𝕄) = eight fun n => own d m (tok n) X :=
  eight_congr fun n hn => by rw [tok, Nat.mod_eq_of_lt hn]

theorem free_eight (R : Rg sig) (X : S2x65536x256.Idx → Elt F .fp8e4m3) (Y : S2x65536.Idx → Elt F .f32) :
    (eight (free d R X Y) : sProp 𝕄) = iprop((eight (fun n => sem0 d (cell R.s (n % 8) (slot_lt n)))
        ∗ eight (fun n => iprop(∃ Z, own d (kSlot R.b (n % 8) (slot_lt n)) fullShare Z)) ∗ eight (fun n => own d R.h (tok n) X))
      ∗ (eight (fun n => sem0 d (cell R.ss (n % 8) (slot_lt n)))
        ∗ eight (fun n => iprop(∃ Z, own d (sSlot R.sb (n % 8) (slot_lt n)) fullShare Z)) ∗ eight (fun n => own d R.sh (tok n) Y))) := by
  unfold free
  rw [eqv (eight_sep _ _), eqv (eight_sep _ _), eqv (eight_sep _ _), eqv (eight_sep _ _), eqv (eight_sep _ _)]

theorem ring (R : Rg sig) (X : S2x65536x256.Idx → Elt F .fp8e4m3) (Y : S2x65536.Idx → Elt F .f32) (h1 : R.sh.IsWhole) (h2 : R.sb.IsWhole) :
    (whole R X Y d : sProp 𝕄) ⊣⊢ iprop(eight (free d R X Y) ∗ left R X Y d) := by
  rw [free_eight]
  unfold whole left
  rw [eqv (cutK (d := d) R.b R.hb), eqv (cutS (d := d) R.sb h2), eqv (own_toks (d := d) R.h R.hh X), eqv (own_toks (d := d) R.sh h1 Y),
    tok_eight, tok_eight]
  constructor
  · iintro ⟨⟨H1, H2⟩, ⟨H3, H4⟩, ⟨H5, H6⟩, ⟨H7, H8⟩, H9, H10⟩
    isplitl [H1 H3 H6 H8 H9 H10]
    · isplitl [H1 H6 H9]
      · isplitl [H9]; · iexact H9
        isplitl [H1]; · iexact H1
        iexact H6
      · isplitl [H10]; · iexact H10
        isplitl [H3]; · iexact H3
        iexact H8
    isplitl [H2]; · iexact H2
    isplitl [H4]; · iexact H4
    isplitl [H5]; · iexact H5
    iexact H7
  · iintro ⟨⟨⟨H9, H1, H6⟩, ⟨H10, H3, H8⟩⟩, H2, H4, H5, H7⟩
    isplitl [H1 H2]
    · isplitl [H1]; · iexact H1
      iexact H2
    isplitl [H3 H4]
    · isplitl [H3]; · iexact H3
      iexact H4
    isplitl [H5 H6]
    · isplitl [H5]; · iexact H5
      iexact H6
    isplitl [H7 H8]
    · isplitl [H7]; · iexact H7
      iexact H8
    isplitl [H9]; · iexact H9
    iexact H10

variable (I : In F) (A : Bufs sig) (hA : A.Whole)

theorem free8_of :
    (iprop(eight (kFree d I A hA) ∗ eight (vFree d I A hA)) : sProp 𝕄) ⊢ free8 I A hA d := by
  unfold free8 eight six
  iintro ⟨⟨K0, K1, K2, K3, K4, K5, K6, K7⟩, ⟨V0, V1, V2, V3, V4, V5, V6, V7⟩⟩
  isplitl [K0 K1 K2 K3 K4 K5 K6 K7]
  · isplitl [K0]; · iexact K0
    isplitl [K1]; · iexact K1
    isplitl [K2]; · iexact K2
    isplitl [K3]; · iexact K3
    isplitl [K4]; · iexact K4
    isplitl [K5]; · iexact K5
    isplitl [K6]; · iexact K6
    iexact K7
  isplitl [V0]; · iexact V0
  isplitl [V1 V2 V3 V4 V5 V6]
  · isplitl [V1]; · iexact V1
    isplitl [V2]; · iexact V2
    isplitl [V3]; · iexact V3
    isplitl [V4]; · iexact V4
    isplitl [V5]; · iexact V5
    iexact V6
  iexact V7

theorem of_ends : (ends I A hA d : sProp 𝕄)
    ⊢ iprop((∃ Y, own d A.s0 fullShare Y) ∗ (∃ Y, own d A.s1 fullShare Y) ∗ (∃ Y, own d A.al fullShare Y) ∗ eight (kFree d I A hA) ∗ eight (vFree d I A hA)) := by
  unfold ends eight six kFree vFree
  rw [free_congr (show 31 % 8 = 7 % 8 from rfl), free_congr (show 32 % 8 = 0 % 8 from rfl), free_congr (show 33 % 8 = 1 % 8 from rfl),
    free_congr (show (33 + 1) % 8 = 2 % 8 from rfl), free_congr (show (33 + 2) % 8 = 3 % 8 from rfl), free_congr (show (33 + 3) % 8 = 4 % 8 from rfl),
    free_congr (show (33 + 4) % 8 = 5 % 8 from rfl), free_congr (show (33 + 5) % 8 = 6 % 8 from rfl),
    free_congr (R := rV A hA) (show 31 % 8 = 7 % 8 from rfl), free_congr (R := rV A hA) (show 32 % 8 = 0 % 8 from rfl),
    free_congr (R := rV A hA) (show (32 + 1) % 8 = 1 % 8 from rfl),
    free_congr (R := rV A hA) (show (32 + 2) % 8 = 2 % 8 from rfl), free_congr (R := rV A hA) (show (32 + 3) % 8 = 3 % 8 from rfl), free_congr (R := rV A hA) (show (32 + 4) % 8 = 4 % 8 from rfl),
    free_congr (R := rV A hA) (show (32 + 5) % 8 = 5 % 8 from rfl), free_congr (R := rV A hA) (show 38 % 8 = 6 % 8 from rfl)]
  iintro ⟨H0, H1, H2, ⟨K7, K0, K1, K2, K3, K4, K5, K6⟩, ⟨V7, ⟨V0, V1, V2, V3, V4, V5⟩, V6⟩⟩
  isplitl [H0]; · iexact H0
  isplitl [H1]; · iexact H1
  isplitl [H2]; · iexact H2
  isplitl [K0 K1 K2 K3 K4 K5 K6 K7]
  · isplitl [K0]; · iexact K0
    isplitl [K1]; · iexact K1
    isplitl [K2]; · iexact K2
    isplitl [K3]; · iexact K3
    isplitl [K4]; · iexact K4
    isplitl [K5]; · iexact K5
    isplitl [K6]; · iexact K6
    iexact K7
  isplitl [V0]; · iexact V0
  isplitl [V1]; · iexact V1
  isplitl [V2]; · iexact V2
  isplitl [V3]; · iexact V3
  isplitl [V4]; · iexact V4
  isplitl [V5]; · iexact V5
  isplitl [V6]; · iexact V6
  iexact V7

/-- The kernel's operands. -/
def opers (d : Dev nD) : sProp 𝕄 :=
  iprop(own d A.x fullShare I.x ∗ own d A.kn fullShare I.kn ∗ own d A.vn fullShare I.vn ∗ own d A.kh fullShare I.k ∗ own d A.ksh fullShare I.ks
    ∗ own d A.vh fullShare I.v ∗ own d A.vsh fullShare I.vs)

/-- The kernel's scratch buffers, each at some contents. -/
def scratch (d : Dev nD) : sProp 𝕄 :=
  iprop((∃ Y, own d A.xb fullShare Y) ∗ (∃ Y, own d A.knb fullShare Y) ∗ (∃ Y, own d A.vnb fullShare Y) ∗ (∃ Y, own d A.kb fullShare Y)
    ∗ (∃ Y, own d A.ksb fullShare Y) ∗ (∃ Y, own d A.vb fullShare Y) ∗ (∃ Y, own d A.vsb fullShare Y) ∗ (∃ Y, own d A.q fullShare Y)
    ∗ (∃ Y, own d A.sn fullShare Y) ∗ (∃ Y, own d A.s0 fullShare Y) ∗ (∃ Y, own d A.s1 fullShare Y) ∗ (∃ Y, own d A.m fullShare Y)
    ∗ (∃ Y, own d A.al fullShare Y) ∗ (∃ Y, own d A.l fullShare Y) ∗ (∃ Y, own d A.acc fullShare Y) ∗ (∃ Y, own d A.o fullShare Y)
    ∗ (∃ Y, own d A.ob fullShare Y))

/-- The kernel's semaphores, each at zero. -/
def sems (d : Dev nD) : sProp 𝕄 :=
  iprop(eight (fun n => sem0 d (cell A.ck (n % 8) (slot_lt n))) ∗ eight (fun n => sem0 d (cell A.cks (n % 8) (slot_lt n)))
    ∗ eight (fun n => sem0 d (cell A.cv (n % 8) (slot_lt n))) ∗ eight (fun n => sem0 d (cell A.cvs (n % 8) (slot_lt n)))
    ∗ iprop(sem0 d (cell3 A.csm 0 (by decide)) ∗ sem0 d (cell3 A.csm 1 (by decide)) ∗ sem0 d (cell3 A.csm 2 (by decide))) ∗ sem0 d A.co.sem)

/-- The kernel, from whole buffers to whole buffers. -/
theorem wp_all {w : ℕ} {lp : Scf.Loop w} {ok : lp.OK} (ht : lp.trips = 15) :
    iprop(scratch (F := F) A d ∗ sems (F := F) A d ∗ opers I A d ∗ (∃ Y, own d A.out fullShare Y) ∗ ow d)
    ⊢ (iprop((iprop(scratch (F := F) A d ∗ sems (F := F) A d ∗ opers I A d ∗ own d A.out fullShare I.out ∗ ow d) -∗ Q ⟨⟩)
      -∗ wpc defs 𝒱 d bd Q (pre A hA (Prog.bind (Scf.Loop.for lp ok ⟨⟩ fun i _ => trip A hA i.val (lt_of_lt_of_eq i.isLt ht)) fun _ => post A hA))) : sProp 𝕄) := by
  unfold scratch sems opers
  iintro ⟨⟨B0, B1, B2, B3, B4, B5, B6, B7, B8, B9, B10, B11, B12, B13, B14, B15, B16⟩, ⟨C0, C1, C2, C3, ⟨C4, C5, C6⟩, C7⟩, ⟨O0, O1, O2, O3, O4, O5, O6⟩, Hout, HO⟩ K
  ihave HK := (ring (d := d) (rK A hA) I.k I.ks hA.ksh hA.ksb).1 $$ [B3 B4 O3 O4 C0 C1]
  · unfold whole
    isplitl [B3]; · iexact B3
    isplitl [B4]; · iexact B4
    isplitl [O3]; · iexact O3
    isplitl [O4]; · iexact O4
    isplitl [C0]; · iexact C0
    iexact C1
  icases HK with ⟨HK, LK⟩
  ihave HV := (ring (d := d) (rV A hA) I.v I.vs hA.vsh hA.vsb).1 $$ [B5 B6 O5 O6 C2 C3]
  · unfold whole
    isplitl [B5]; · iexact B5
    isplitl [B6]; · iexact B6
    isplitl [O5]; · iexact O5
    isplitl [O6]; · iexact O6
    isplitl [C2]; · iexact C2
    iexact C3
  icases HV with ⟨HV, LV⟩
  iapply (wp_whole I A hA ht) $$ [B0 B1 B2 B7 B8 B9 B10 B11 B12 B13 B14 B15 B16 C4 C5 C6 C7 O0 O1 O2 Hout HO HK HV]
  · isplitl [O0 O1 O2 C4 C5 C6]
    · unfold small
      isplitl [O0]; · iexact O0
      isplitl [O1]; · iexact O1
      isplitl [O2]; · iexact O2
      isplitl [C4]; · iexact C4
      isplitl [C5]; · iexact C5
      iexact C6
    isplitl [B0 B1 B2 B7 B8 B9 B10 B11 B12 B13 B14]
    · unfold blank
      isplitl [B0]; · iexact B0
      isplitl [B1]; · iexact B1
      isplitl [B2]; · iexact B2
      isplitl [B7]; · iexact B7
      isplitl [B8]; · iexact B8
      isplitl [B9]; · iexact B9
      isplitl [B10]; · iexact B10
      isplitl [B11]; · iexact B11
      isplitl [B12]; · iexact B12
      isplitl [B13]; · iexact B13
      iexact B14
    isplitl [HK HV]
    · iapply (free8_of I A hA)
      isplitl [HK]; · iexact HK
      iexact HV
    isplitl [HO]; · iexact HO
    isplitl [B15]; · iexact B15
    isplitl [B16]; · iexact B16
    isplitl [Hout]; · iexact Hout
    iexact C7
  unfold done small lAt
  iintro ⟨⟨B7, B11, ⟨B13, B14⟩, HE, B2, B8, B15, B16, Hout, C7, HO⟩, ⟨O0, O1, O2, C4, C5, C6⟩, B0, B1⟩
  ihave HE := (of_ends I A hA) $$ HE
  icases HE with ⟨B9, B10, B12, HK, HV⟩
  ihave HK := (ring (d := d) (rK A hA) I.k I.ks hA.ksh hA.ksb).2 $$ [HK LK]
  · isplitl [HK]; · iexact HK
    iexact LK
  ihave HV := (ring (d := d) (rV A hA) I.v I.vs hA.vsh hA.vsb).2 $$ [HV LV]
  · isplitl [HV]; · iexact HV
    iexact LV
  unfold whole
  icases HK with ⟨B3, B4, O3, O4, C0, C1⟩
  icases HV with ⟨B5, B6, O5, O6, C2, C3⟩
  iapply K
  isplitl [B0 B1 B2 B3 B4 B5 B6 B7 B8 B9 B10 B11 B12 B13 B14 B15 B16]
  · isplitl [B0]; · iexists _; iexact B0
    isplitl [B1]; · iexists _; iexact B1
    isplitl [B2]; · iexists _; iexact B2
    isplitl [B3]; · iexact B3
    isplitl [B4]; · iexact B4
    isplitl [B5]; · iexact B5
    isplitl [B6]; · iexact B6
    isplitl [B7]; · iexists _; iexact B7
    isplitl [B8]; · iexists _; iexact B8
    isplitl [B9]; · iexact B9
    isplitl [B10]; · iexact B10
    isplitl [B11]; · iexact B11
    isplitl [B12]; · iexact B12
    isplitl [B13]; · iexists _; iexact B13
    isplitl [B14]; · iexists _; iexact B14
    isplitl [B15]; · iexact B15
    iexact B16
  isplitl [C0 C1 C2 C3 C4 C5 C6 C7]
  · isplitl [C0]; · iexact C0
    isplitl [C1]; · iexact C1
    isplitl [C2]; · iexact C2
    isplitl [C3]; · iexact C3
    isplitl [C4 C5 C6]
    · isplitl [C4]; · iexact C4
      isplitl [C5]; · iexact C5
      iexact C6
    iexact C7
  isplitl [O0 O1 O2 O3 O4 O5 O6]
  · isplitl [O0]; · iexact O0
    isplitl [O1]; · iexact O1
    isplitl [O2]; · iexact O2
    isplitl [O3]; · iexact O3
    isplitl [O4]; · iexact O4
    isplitl [O5]; · iexact O5
    iexact O6
  isplitl [Hout]; · iexact Hout
  iexact HO

theorem wp_all' {w : ℕ} {lp : Scf.Loop w} {ok : lp.OK} (ht : lp.trips = 15) :
    (iprop(scratch (F := F) A d ∗ sems (F := F) A d ∗ opers I A d ∗ (∃ Y, own d A.out fullShare Y) ∗ ow d) : sProp 𝕄)
    ⊢ wpc defs 𝒱 d bd (fun _ => iprop(scratch (F := F) A d ∗ sems (F := F) A d ∗ opers I A d ∗ own d A.out fullShare I.out ∗ ow d))
      (pre A hA (Prog.bind (Scf.Loop.for lp ok ⟨⟩ fun i _ => trip A hA i.val (lt_of_lt_of_eq i.isLt ht)) fun _ => post A hA)) :=
  wand_self _ (iprop(scratch (F := F) A d ∗ sems (F := F) A d ∗ opers I A d ∗ own d A.out fullShare I.out ∗ ow d)) _ (wp_all I A hA ht (Q := fun _ => iprop(scratch A d ∗ sems A d ∗ opers I A d ∗ own d A.out fullShare I.out ∗ ow d)))

end Cascade
-- ==== Proof.Kern.LaunchBits.lean ====
/- The launch: the kernel's contract at the buffers of the program, the run of the program and what it leaves. -/
module

public import proofs.«01_k».proof.Proof.Kern.EqKernel
public import proofs.«01_k».proof.Proof.Kern.Ring
public import proofs.«01_k».proof.Proof.Gen.Kernel.Frame
public import Idealize.ShloMosaic.Lib.Pipeline.FrameValue

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The result's buffer, which the kernel writes, and the operands, which it reads. -/
def R0 : Finset (Ref sig .tc) := {main_v7}
def H0 : Finset (Ref sig .tc) := {main_v0, main_v1, main_v2, main_v3, main_v4, main_v5, main_v6}
theorem H0_sub : H0 ⊆ Pipeline.restRefs sig cfg0.spec := by decide
theorem R0_sub : R0 ⊆ Pipeline.restRefs sig cfg0.spec \ H0 := by decide

/-- The kernel's buffers and semaphores. -/
abbrev bufs : Cascade.Bufs sig := ⟨Memref.whole main_v0, Memref.whole main_v1, Memref.whole main_v2, Memref.whole main_v3, Memref.whole main_v4, Memref.whole main_v5, Memref.whole main_v6, Memref.whole main_v7, Memref.whole cc0_scratch0, Memref.whole cc0_scratch1, Memref.whole cc0_scratch2, Memref.whole cc0_scratch3, Memref.whole cc0_scratch4, Memref.whole cc0_scratch5, Memref.whole cc0_scratch6, Memref.whole cc0_scratch7, Memref.whole cc0_scratch8, Memref.whole cc0_scratch9, Memref.whole cc0_scratch10, Memref.whole cc0_scratch11, Memref.whole cc0_scratch12, Memref.whole cc0_scratch13, Memref.whole cc0_scratch14, Memref.whole cc0_scratch15, Memref.whole cc0_scratch16, cc0_scratch17, cc0_scratch18, cc0_scratch19, cc0_scratch20, cc0_scratch21, cc0_scratch22⟩
theorem hbufs : Cascade.Bufs.Whole bufs := ⟨Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _⟩

/-- The kernel's operands as the launch finds them. -/
abbrev inp (c : Dev nD) : Cascade.In F := ⟨V m c main_v0, V m c main_v1, V m c main_v2, V m c main_v3, V m c main_v4, V m c main_v5, V m c main_v6⟩

/-- What the kernel leaves in the buffers it writes. -/
def G (c : Dev nD) : (b : Ref sig .tc) → Buf (Elt F) ((c : Thread nD τ).loc b) := Function.update (V m c) main_v7 (inp m c).out

/-- The semaphores. -/
abbrev osem0 : Fin 36 → SemLoc sig := fun j => SemLoc.dma j
theorem ownSemFacts0 : Pipeline.OwnSemFacts cfg0.spec osem0 := by decide

theorem sems_eq (c : Dev nD) :
    (Pipeline.ownSems0 (Ix := Unit) (Name := ℕ) (U := Pipeline.UD sig nD τ) (Lvl := ℕ) (Val := Elt F) (τ := τ) osem0 c : sProp 𝕄) = Cascade.sems bufs c := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35] (by decide) (by decide)]
  unfold Cascade.sems Cascade.eight
  simp only [Cascade.eqv sep_assoc]
  rfl

theorem hbm_eq (c : Dev nD) :
    (bigSep H0 (fun b => ((c : Thread nD τ).loc b) ↦{fullShare} V m c b) : sProp 𝕄) = Cascade.opers (inp m c) bufs c := by
  rw [BI.bigSep_eq_bigSepL_of_eq [main_v0, main_v1, main_v2, main_v3, main_v4, main_v5, main_v6] (by decide) (by decide)]
  unfold Cascade.opers
  simp only [owns_whole]
  rfl

theorem scratch_eq (c : Dev nD) :
    (Pipeline.scopedRest (Ix := Unit) (Name := ℕ) (U := Pipeline.UD sig nD τ) (Lvl := ℕ) (Val := Elt F) (cfg0.spec) c : sProp 𝕄) = Cascade.scratch bufs c := by
  rw [scopedRest0_eq]
  unfold Cascade.scratch
  simp only [owns_whole]
  rfl

theorem out_eq (c : Dev nD) (W : (b : Ref sig .tc) → Buf (Elt F) ((c : Thread nD τ).loc b)) :
    (Pipeline.routed R0 c W : sProp 𝕄) = Cascade.own c bufs.out fullShare (W main_v7) := by
  unfold Pipeline.routed
  rw [BI.bigSep_eq_bigSepL_of_eq [main_v7] (by decide) (by decide)]
  simp only [Cascade.own, owns_whole]
  rfl

theorem PhiDRG_eq (W : (c : Dev nD) → (b : Ref sig .tc) → Buf (Elt F) ((c : Thread nD τ).loc b)) (c : Dev nD) :
    (Pipeline.ΦDRG osem0 cfg0.spec H0 R0 (V m) W c : sProp 𝕄)
      = iprop(Cascade.scratch bufs c ∗ (∃ r, prngReg c r) ∗ Cascade.sems bufs c ∗ Cascade.opers (inp m c) bufs c
        ∗ Cascade.own c bufs.out fullShare (W c main_v7)) := by
  rw [Pipeline.ΦDRG_eq, scratch_eq, sems_eq, hbm_eq, out_eq]

/-- The proof data: no array is staged; before the one point the buffers as the launch finds them, after it with the result. -/
def dats : (p : Fin 1) → (c : Dev nD) → Dat τ (Elt F) Unit ℕ (Pipeline.UD sig nD τ) ℕ (cfgs p) c
  | 0, c => { A := fun w => V m c (Pipeline.arrRef cfg0.spec w)
              after := fun w => w.elim0
              Φ := fun t => if t = 0 then Pipeline.ΦDRG osem0 cfg0.spec H0 R0 (V m) (V m) c else Pipeline.ΦDRG osem0 cfg0.spec H0 R0 (V m) (G m) c
              q := fun _ => fullShare
              owed := fun _ => 0 }

theorem G_out (c : Dev nD) : G m c main_v7 = (inp m c).out := Function.update_self ..

theorem trips : k0_t1_loop.trips = 15 := by decide

theorem wp_body (c : Dev nD) (t : Fin cfg0.N) :
    (iprop(Cascade.scratch bufs c ∗ Cascade.sems bufs c ∗ Cascade.opers (inp m c) bufs c ∗ (∃ Y, Cascade.own c bufs.out fullShare Y) ∗ Cascade.ow c) : sProp 𝕄)
      ⊢ wp frame (wpE (defs₀ (F := F)) Variants.none c none) Set.univ (bodyAt0 t)
        (fun _ => iprop(Cascade.scratch bufs c ∗ Cascade.sems bufs c ∗ Cascade.opers (inp m c) bufs c ∗ Cascade.own c bufs.out fullShare (inp m c).out ∗ Cascade.ow c)) := by
  unfold bodyAt0
  rw [kernel_eq (Memref.whole main_v0) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_v5) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22]
  unfold loopS
  exact Cascade.wp_all' (inp m c) bufs hbufs trips

theorem sound_body (c : Dev nD) (t : Fin cfg0.N) :
    (iprop(Pipeline.ΦDRG osem0 cfg0.spec H0 R0 (V m) (V m) c ∗ Cascade.ow c) : sProp 𝕄)
      ⊢ wp frame (wpE (defs₀ (F := F)) Variants.none c none) Set.univ (bodyAt0 t)
        (fun _ => iprop(Pipeline.ΦDRG osem0 cfg0.spec H0 R0 (V m) (G m) c ∗ Cascade.ow c)) := by
  rw [PhiDRG_eq, PhiDRG_eq, G_out]
  iintro ⟨⟨HB, Hg, HC, HO, Hout⟩, HW⟩
  iapply wp_wand $$ [HB HC HO Hout HW]
  · iapply (wp_body m c t)
    isplitl [HB]; · iexact HB
    isplitl [HC]; · iexact HC
    isplitl [HO]; · iexact HO
    isplitl [Hout]; · iexists _; iexact Hout
    iexact HW
  iintro %a ⟨HB, HC, HO, Hout, HW⟩
  isplitl [HB Hg HC HO Hout]
  · isplitl [HB]; · iexact HB
    isplitl [Hg]; · iexact Hg
    isplitl [HC]; · iexact HC
    isplitl [HO]; · iexact HO
    iexact Hout
  iexact HW

theorem defs₀_row (t : Fin cfg0.N) :
    defs₀ (F := F) .tc cfg0.body (cfg0.bodyArgs t (cfg0.slots t)) = bodyAt0 t := by
  unfold defs₀; rw [Defs.onTc_tc]

theorem Phi_zero (c : Dev nD) (t : Fin cfg0.N) : (dats m 0 c).Φ t.castSucc = Pipeline.ΦDRG osem0 cfg0.spec H0 R0 (V m) (V m) c := by
  rw [fin_N0 t]; rfl
theorem Phi_one (c : Dev nD) (t : Fin cfg0.N) : (dats m 0 c).Φ t.succ = Pipeline.ΦDRG osem0 cfg0.spec H0 R0 (V m) (G m) c := by
  rw [fin_N0 t]; rfl

theorem body_obligation (c : Dev nD) : BodyObligation (dats (F := F) m 0 c) (defs₀ (F := F)) Variants.none () Set.univ := fun t => by
  rw [defs₀_row, Phi_zero, Phi_one]
  unfold Dat.owesAt Pipeline.owesWithin
  iintro ⟨H, ⟨%W, -, HW⟩, HE⟩
  iapply wp_wand $$ [H HW]
  · iapply (sound_body m c t)
    isplitl [H]; · iexact H
    iexists W; iexact HW
  iintro %a ⟨H, ⟨%W', HW⟩⟩
  isplitl [H]; · iexact H
  isplitl [HW]
  · iexists W'; isplitr; · ipureintro; exact fun _ _ => Or.inl trivial
    iexact HW
  iexact HE

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := fun _ _ => rfl) (G := G m)
    (hin := fun c => (show _ ⊢ (dats m 0 c).Φ 0 from .rfl)) (hout := fun c => (show (dats m 0 c).Φ (Fin.last cfg0.N) ⊢ _ from .rfl))

/-- The program's run: the arguments unchanged, the result the kernel's, every semaphore at zero. -/
theorem run : θ_run defs (onTc (τ := τ) (main (F := F))) ⟨m, fun _ => 0, ρ⟩ (fun r => (∀ c : Dev nD,
      r.2.mem ((c.tc : Thread nD τ).loc main_v7) = (inp m c).out
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1.written c (by decide)).trans (G_out m c),
      ((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c),
      ((h.1.toR c).2 main_arg4 (Finset.mem_sdiff.mpr ⟨Pipeline.mem_restRefs_of main_arg4 (by decide) (by decide), by decide⟩)).trans (V_main_arg4 m c),
      ((h.1.toR c).2 main_arg5 (Finset.mem_sdiff.mpr ⟨Pipeline.mem_restRefs_of main_arg5 (by decide) (by decide), by decide⟩)).trans (V_main_arg5 m c),
      ((h.1.toR c).2 main_arg6 (Finset.mem_sdiff.mpr ⟨Pipeline.mem_restRefs_of main_arg6 (by decide) (by decide), by decide⟩)).trans (V_main_arg6 m c)⟩, h.2⟩) (run_main m ρ)

end Cert.Kernel.Hand
-- ==== Proof.Kern.EqKernelIdeal.lean ====
/- The printed program is the structured one: by definitional unfolding, the loop's body trip by trip. -/
module

public import proofs.«01_k».proof.Proof.Kern.Prog
public import proofs.«01_k».proof.Proof.Gen.KernelIdeal.Skeleton
public import Idealize.ShloMosaic.Lib.Tactic

@[expose] public section

set_option maxRecDepth 65536
set_option Elab.async false

noncomputable section

namespace Cert.KernelIdeal.Gen

open Idealize.ShloMosaic Idealize.SL.Sem Cert.KernelIdeal

variable {F : FTy → Type} [FloatOps F] [Named F] [Facts₀] [Facts]

/-- The constant under its name. -/
scoped instance : Cascade.Scl F := ⟨Named.named κ "scale" 0x3DB8AA3B#32⟩

set_option maxHeartbeats 0 in
theorem trip_eq (arg0 : Memref sig .tc .hbm S4x32x256 .bf16) (harg0 : arg0.IsWhole) (arg1 : Memref sig .tc .hbm S4x2x256 .bf16) (harg1 : arg1.IsWhole) (arg2 : Memref sig .tc .hbm S4x2x256 .bf16) (harg2 : arg2.IsWhole) (arg3 : Memref sig .tc .hbm S2x65536x256 .fp8e4m3) (harg3 : arg3.IsWhole) (arg4 : Memref sig .tc .hbm S2x65536 .f32) (harg4 : arg4.IsWhole) (arg5 : Memref sig .tc .hbm S2x65536x256 .fp8e4m3) (harg5 : arg5.IsWhole) (arg6 : Memref sig .tc .hbm S2x65536 .f32) (harg6 : arg6.IsWhole) (arg7 : Memref sig .tc .hbm S4x8192 .bf16) (harg7 : arg7.IsWhole) (arg8 : Memref sig .tc .vmem S4x32x256 .bf16) (harg8 : arg8.IsWhole) (arg9 : Memref sig .tc .vmem S4x2x256 .bf16) (harg9 : arg9.IsWhole) (arg10 : Memref sig .tc .vmem S4x2x256 .bf16) (harg10 : arg10.IsWhole) (arg11 : Memref sig .tc .vmem S8x2x2048x256 .fp8e4m3) (harg11 : arg11.IsWhole) (arg12 : Memref sig .tc .vmem S8x2x2048 .f32) (harg12 : arg12.IsWhole) (arg13 : Memref sig .tc .vmem S8x2x2048x256 .fp8e4m3) (harg13 : arg13.IsWhole) (arg14 : Memref sig .tc .vmem S8x2x2048 .f32) (harg14 : arg14.IsWhole) (arg15 : Memref sig .tc .vmem S2x64x256 .bf16) (harg15 : arg15.IsWhole) (arg16 : Memref sig .tc .vmem S2x64x128 .f32) (harg16 : arg16.IsWhole) (arg17 : Memref sig .tc .vmem S2x64x2048 .f32) (harg17 : arg17.IsWhole) (arg18 : Memref sig .tc .vmem S2x64x2048 .f32) (harg18 : arg18.IsWhole) (arg19 : Memref sig .tc .vmem S2x2x64x128 .f32) (harg19 : arg19.IsWhole) (arg20 : Memref sig .tc .vmem S2x2x64x128 .f32) (harg20 : arg20.IsWhole) (arg21 : Memref sig .tc .vmem S2x64x128 .f32) (harg21 : arg21.IsWhole) (arg22 : Memref sig .tc .vmem S2x64x256 .f32) (harg22 : arg22.IsWhole) (arg23 : Memref sig .tc .vmem S2x2x64x128 .f32) (harg23 : arg23.IsWhole) (arg24 : Memref sig .tc .vmem S4x8192 .bf16) (harg24 : arg24.IsWhole) (arg25 : DmaSems sig S8) (arg26 : DmaSems sig S8) (arg27 : DmaSems sig S8) (arg28 : DmaSems sig S8) (arg29 : DmaSems sig S3) (arg30 : DmaSems sig S_)
    (v748 : FVec F S64x128 .f32) (v750 : FVec F S64x128 .f32) (v755 : FVec F S64x128 .f32) :
    (n : Nat) → (hn : n < 15) → k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v748 v750 v755 ⟨n, hn⟩ ⟨⟩ =
      Cascade.trip (Λ := Λ₀) ⟨arg0, arg1, arg2, arg3, arg4, arg5, arg6, arg7, arg8, arg9, arg10, arg11, arg12, arg13, arg14, arg15, arg16, arg17, arg18, arg19, arg20, arg21, arg22, arg23, arg24, arg25, arg26, arg27, arg28, arg29, arg30⟩ ⟨harg0, harg1, harg2, harg3, harg4, harg5, harg6, harg7, harg8, harg9, harg10, harg11, harg12, harg13, harg14, harg15, harg16, harg17, harg18, harg19, harg20, harg21, harg22, harg23, harg24⟩ n hn
  | 0, _ => by sl_kernel_rfl
  | 1, _ => by sl_kernel_rfl
  | 2, _ => by sl_kernel_rfl
  | 3, _ => by sl_kernel_rfl
  | 4, _ => by sl_kernel_rfl
  | 5, _ => by sl_kernel_rfl
  | 6, _ => by sl_kernel_rfl
  | 7, _ => by sl_kernel_rfl
  | 8, _ => by sl_kernel_rfl
  | 9, _ => by sl_kernel_rfl
  | 10, _ => by sl_kernel_rfl
  | 11, _ => by sl_kernel_rfl
  | 12, _ => by sl_kernel_rfl
  | 13, _ => by sl_kernel_rfl
  | 14, _ => by sl_kernel_rfl
  | n + 15, h => absurd h (by omega)

/-- The loop, over the structured trips. -/
def loopS (A : Cascade.Bufs sig) (hA : A.Whole) : Prog (TpuEff nD τ sig (Elt F) Λ₀ .tc) PUnit :=
  Scf.Loop.for k0_t1_loop k0_t1_ok ⟨⟩ fun i _ => Cascade.trip A hA i.val i.isLt

/-- The printed parts after the loop. -/
def rest2 (arg0 : Memref sig .tc .hbm S4x32x256 .bf16) (harg0 : arg0.IsWhole) (arg1 : Memref sig .tc .hbm S4x2x256 .bf16) (harg1 : arg1.IsWhole) (arg2 : Memref sig .tc .hbm S4x2x256 .bf16) (harg2 : arg2.IsWhole) (arg3 : Memref sig .tc .hbm S2x65536x256 .fp8e4m3) (harg3 : arg3.IsWhole) (arg4 : Memref sig .tc .hbm S2x65536 .f32) (harg4 : arg4.IsWhole) (arg5 : Memref sig .tc .hbm S2x65536x256 .fp8e4m3) (harg5 : arg5.IsWhole) (arg6 : Memref sig .tc .hbm S2x65536 .f32) (harg6 : arg6.IsWhole) (arg7 : Memref sig .tc .hbm S4x8192 .bf16) (harg7 : arg7.IsWhole) (arg8 : Memref sig .tc .vmem S4x32x256 .bf16) (harg8 : arg8.IsWhole) (arg9 : Memref sig .tc .vmem S4x2x256 .bf16) (harg9 : arg9.IsWhole) (arg10 : Memref sig .tc .vmem S4x2x256 .bf16) (harg10 : arg10.IsWhole) (arg11 : Memref sig .tc .vmem S8x2x2048x256 .fp8e4m3) (harg11 : arg11.IsWhole) (arg12 : Memref sig .tc .vmem S8x2x2048 .f32) (harg12 : arg12.IsWhole) (arg13 : Memref sig .tc .vmem S8x2x2048x256 .fp8e4m3) (harg13 : arg13.IsWhole) (arg14 : Memref sig .tc .vmem S8x2x2048 .f32) (harg14 : arg14.IsWhole) (arg15 : Memref sig .tc .vmem S2x64x256 .bf16) (harg15 : arg15.IsWhole) (arg16 : Memref sig .tc .vmem S2x64x128 .f32) (harg16 : arg16.IsWhole) (arg17 : Memref sig .tc .vmem S2x64x2048 .f32) (harg17 : arg17.IsWhole) (arg18 : Memref sig .tc .vmem S2x64x2048 .f32) (harg18 : arg18.IsWhole) (arg19 : Memref sig .tc .vmem S2x2x64x128 .f32) (harg19 : arg19.IsWhole) (arg20 : Memref sig .tc .vmem S2x2x64x128 .f32) (harg20 : arg20.IsWhole) (arg21 : Memref sig .tc .vmem S2x64x128 .f32) (harg21 : arg21.IsWhole) (arg22 : Memref sig .tc .vmem S2x64x256 .f32) (harg22 : arg22.IsWhole) (arg23 : Memref sig .tc .vmem S2x2x64x128 .f32) (harg23 : arg23.IsWhole) (arg24 : Memref sig .tc .vmem S4x8192 .bf16) (harg24 : arg24.IsWhole) (arg25 : DmaSems sig S8) (arg26 : DmaSems sig S8) (arg27 : DmaSems sig S8) (arg28 : DmaSems sig S8) (arg29 : DmaSems sig S3) (arg30 : DmaSems sig S_) :
    Prog (TpuEff nD τ sig (Elt F) Λ₀ .tc) (Σ' (v2103 : FVec F S4x128 .bf16), Vec F S4x128 .bf16) := do
  let ⟨v804, v810, v812⟩ : Σ' (v804 : BitVec 32) (v810 : FVec F S64x256 .f32), Vec F S1x1x256 .f32 ← k0_part68 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30
  let ⟨v823, v842, v844, v847⟩ : Σ' (v823 : FVec F S64x128 .f32) (v842 : FVec F S64x128 .f32) (v844 : FVec F S64x256 .bf16), FVec F S256x256 .fp8e4m3 ← k0_part69 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v804 v810 v812
  let ⟨v862, v882⟩ : Σ' (v862 : FVec F S64x128 .f32), FVec F S64x128 .f32 ← k0_part70 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v804 v823 v842 v844 v847
  let ⟨v902, v915, v918⟩ : Σ' (v902 : FVec F S64x128 .f32) (v915 : FVec F S64x256 .f32), FVec F S1x64x256 .f32 ← k0_part71 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v804 v862
  let ⟨v922, v942, v948, v953⟩ : Σ' (v922 : FVec F S64x128 .f32) (v942 : FVec F S64x128 .f32) (v948 : FVec F S64x256 .f32), FVec F S1x256 .f32 ← k0_part72 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v804 v882 v902 v915 v918
  let ⟨v962, v982, v988⟩ : Σ' (v962 : FVec F S64x128 .f32) (v982 : FVec F S64x128 .f32), FVec F S64x256 .f32 ← k0_part73 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v804 v922 v942 v948 v953
  let ⟨v1002, v1022, v1024⟩ : Σ' (v1002 : FVec F S64x128 .f32) (v1022 : FVec F S64x128 .f32), FVec F S64x256 .bf16 ← k0_part74 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v804 v962 v982 v988
  let ⟨v1042, v1055, v1059⟩ : Σ' (v1042 : FVec F S64x128 .f32) (v1055 : FVec F S64x256 .f32), FVec F S64x128 .f32 ← k0_part75 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v804 v1002 v1024
  let ⟨v1062, v1082, v1095⟩ : Σ' (v1062 : FVec F S64x128 .f32) (v1082 : FVec F S64x128 .f32), FVec F S64x256 .f32 ← k0_part76 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v804 v1022 v1042 v1055 v1059
  let ⟨v1122, v1124, v1129⟩ : Σ' (v1122 : FVec F S64x128 .f32) (v1124 : FVec F S64x128 .f32), FVec F S64x128 .f32 ← k0_part77 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v804 v1062 v1082 v1095
  let ⟨v1153, v1155, v1157⟩ : Σ' (v1153 : BitVec 32) (v1155 : FVec F S64x128 .f32), FVec F S64x128 .f32 ← k0_part78 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1122 v1124 v1129
  let ⟨v1171, v1182, v1187, v1193, v1196⟩ : Σ' (v1171 : FVec F S64x128 .bf16) (v1182 : FVec F S64x128 .bf16) (v1187 : FVec F S64x128 .f32) (v1193 : FVec F S64x128 .bf16), FVec F S64x128 .f32 ← k0_part79 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1153 v1155 v1157
  let ⟨v1204, v1215, v1226, v1231, v1237⟩ : Σ' (v1204 : FVec F S64x128 .bf16) (v1215 : FVec F S64x128 .bf16) (v1226 : FVec F S64x128 .bf16) (v1231 : FVec F S64x128 .f32), FVec F S64x128 .bf16 ← k0_part80 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1153 v1155 v1187 v1196
  let ⟨v1248, v1259, v1270, v1274, v1275, v1279⟩ : Σ' (v1248 : FVec F S64x128 .bf16) (v1259 : FVec F S64x128 .bf16) (v1270 : FVec F S64x128 .bf16) (v1274 : FVec F S64x128 .f32) (v1275 : FVec F S64x128 .f32), FVec F S64x128 .f32 ← k0_part81 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1153 v1155 v1231
  let ⟨v1281, v1292, v1303, v1314, v1318, v1319⟩ : Σ' (v1281 : FVec F S64x128 .bf16) (v1292 : FVec F S64x128 .bf16) (v1303 : FVec F S64x128 .bf16) (v1314 : FVec F S64x128 .bf16) (v1318 : FVec F S64x128 .f32), FVec F S64x128 .f32 ← k0_part82 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1153 v1155 v1274 v1275 v1279
  let v1354 : FVec F S64x128 .f32 ← k0_part83 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1153 v1155 v1157 v1171 v1182 v1193 v1204 v1215 v1226 v1237 v1248 v1259 v1270 v1281 v1292 v1303 v1314 v1318 v1319
  let ⟨v1356, v1370, v1381, v1386, v1392⟩ : Σ' (v1356 : FVec F S64x128 .f32) (v1370 : FVec F S64x128 .bf16) (v1381 : FVec F S64x128 .bf16) (v1386 : FVec F S64x128 .f32), FVec F S64x128 .bf16 ← k0_part84 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1153 v1354
  let ⟨v1403, v1414, v1425, v1429, v1430, v1433⟩ : Σ' (v1403 : FVec F S64x128 .bf16) (v1414 : FVec F S64x128 .bf16) (v1425 : FVec F S64x128 .bf16) (v1429 : FVec F S64x128 .f32) (v1430 : FVec F S64x128 .f32), FVec F S1x128 .f32 ← k0_part85 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1153 v1354 v1386
  let ⟨v1436, v1447, v1458, v1469, v1473, v1474⟩ : Σ' (v1436 : FVec F S64x128 .bf16) (v1447 : FVec F S64x128 .bf16) (v1458 : FVec F S64x128 .bf16) (v1469 : FVec F S64x128 .bf16) (v1473 : FVec F S64x128 .f32), FVec F S64x128 .f32 ← k0_part86 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1153 v1354 v1429 v1430 v1433
  let ⟨v1480, v1491, v1502, v1507, v1513, v1515⟩ : Σ' (v1480 : FVec F S64x128 .bf16) (v1491 : FVec F S64x128 .bf16) (v1502 : FVec F S64x128 .bf16) (v1507 : FVec F S64x128 .f32) (v1513 : FVec F S64x128 .bf16), FVec F S64x128 .f32 ← k0_part87 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1153 v1354 v1473 v1474
  let ⟨c31_i32_991, c8_i32_992⟩ : Σ' (c31_i32_991 : BitVec 32), BitVec 32 ← k0_part88 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1153 v1354 v1356 v1370 v1381 v1392 v1403 v1414 v1425 v1436 v1447 v1458 v1469 v1480 v1491 v1502 v1507 v1513 v1515
  let ⟨v1564, v1566, v1568, v1576, v1582⟩ : Σ' (v1564 : BitVec 32) (v1566 : FVec F S64x128 .f32) (v1568 : FVec F S64x128 .f32) (v1576 : FVec F S64x128 .f32), FVec F S64x128 .bf16 ← k0_part89 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 c31_i32_991 c8_i32_992
  let ⟨v1593, v1604, v1615, v1619, v1620, v1622⟩ : Σ' (v1593 : FVec F S64x128 .bf16) (v1604 : FVec F S64x128 .bf16) (v1615 : FVec F S64x128 .bf16) (v1619 : FVec F S64x128 .f32) (v1620 : FVec F S64x128 .f32), Vec F S1x1x128 .f32 ← k0_part90 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1564 v1566 v1576
  let ⟨v1626, v1637, v1648, v1659, v1663, v1664⟩ : Σ' (v1626 : FVec F S64x128 .bf16) (v1637 : FVec F S64x128 .bf16) (v1648 : FVec F S64x128 .bf16) (v1659 : FVec F S64x128 .bf16) (v1663 : FVec F S64x128 .f32), FVec F S64x128 .f32 ← k0_part91 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1564 v1566 v1619 v1620 v1622
  let ⟨v1670, v1681, v1692, v1697, v1703, v1704⟩ : Σ' (v1670 : FVec F S64x128 .bf16) (v1681 : FVec F S64x128 .bf16) (v1692 : FVec F S64x128 .bf16) (v1697 : FVec F S64x128 .f32) (v1703 : FVec F S64x128 .bf16), Vec F S1x64x128 .f32 ← k0_part92 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1564 v1566 v1663 v1664
  let ⟨v1714, v1725, v1736, v1741, v1747⟩ : Σ' (v1714 : FVec F S64x128 .bf16) (v1725 : FVec F S64x128 .bf16) (v1736 : FVec F S64x128 .bf16) (v1741 : FVec F S64x128 .f32), FVec F S64x128 .bf16 ← k0_part93 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1564 v1566 v1697 v1704
  let ⟨v1765, v1767, v1774, v1775⟩ : Σ' (v1765 : FVec F S64x128 .f32) (v1767 : FVec F S64x128 .f32) (v1774 : FVec F S64x128 .f32), FVec F S64x128 .f32 ← k0_part94 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1564 v1568 v1582 v1593 v1604 v1615 v1626 v1637 v1648 v1659 v1670 v1681 v1692 v1703 v1714 v1725 v1736 v1741 v1747
  let ⟨v1781, v1792, v1803, v1808, v1814, v1818⟩ : Σ' (v1781 : FVec F S64x128 .bf16) (v1792 : FVec F S64x128 .bf16) (v1803 : FVec F S64x128 .bf16) (v1808 : FVec F S64x128 .f32) (v1814 : FVec F S64x128 .bf16), FVec F S64x128 .f32 ← k0_part95 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1564 v1765 v1774 v1775
  let ⟨v1825, v1836, v1847, v1852, v1858⟩ : Σ' (v1825 : FVec F S64x128 .bf16) (v1836 : FVec F S64x128 .bf16) (v1847 : FVec F S64x128 .bf16) (v1852 : FVec F S64x128 .f32), FVec F S64x128 .bf16 ← k0_part96 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1564 v1765 v1808 v1818
  let ⟨v1869, v1880, v1891, v1896, v1901⟩ : Σ' (v1869 : FVec F S64x128 .bf16) (v1880 : FVec F S64x128 .bf16) (v1891 : FVec F S64x128 .bf16) (v1896 : FVec F S64x128 .f32), FVec F S64x128 .f32 ← k0_part97 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1564 v1765 v1852
  let ⟨v1902, v1913, v1924, v1935, v1939, v1940⟩ : Σ' (v1902 : FVec F S64x128 .bf16) (v1913 : FVec F S64x128 .bf16) (v1924 : FVec F S64x128 .bf16) (v1935 : FVec F S64x128 .bf16) (v1939 : FVec F S64x128 .f32), FVec F S64x128 .f32 ← k0_part98 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1564 v1765 v1896 v1901
  let ⟨v1969, v1971, v1975⟩ : Σ' (v1969 : FVec F S64x128 .f32) (v1971 : FVec F S64x128 .f32), FVec F S64 .f32 ← k0_part99 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1564 v1767 v1781 v1792 v1803 v1814 v1825 v1836 v1847 v1858 v1869 v1880 v1891 v1902 v1913 v1924 v1935 v1939 v1940
  let ⟨v1985, v1990, v2012, v2015⟩ : Σ' (v1985 : FVec F S64x256 .f32) (v1990 : FVec F S64x256 .f32) (v2012 : FVec F S16x256 .f32), FVec F S16x256 .f32 ← k0_part100 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1969 v1971 v1975
  let ⟨v2046, v2049⟩ : Σ' (v2046 : FVec F S16x256 .f32), FVec F S16x256 .f32 ← k0_part101 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v1985 v1990 v2012 v2015
  k0_part102 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v2046 v2049
  let ⟨v2103, v2104⟩ : Σ' (v2103 : FVec F S4x128 .bf16), Vec F S4x128 .bf16 ← k0_part103 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30
  pure ⟨v2103, v2104⟩

def rest3 (arg0 : Memref sig .tc .hbm S4x32x256 .bf16) (harg0 : arg0.IsWhole) (arg1 : Memref sig .tc .hbm S4x2x256 .bf16) (harg1 : arg1.IsWhole) (arg2 : Memref sig .tc .hbm S4x2x256 .bf16) (harg2 : arg2.IsWhole) (arg3 : Memref sig .tc .hbm S2x65536x256 .fp8e4m3) (harg3 : arg3.IsWhole) (arg4 : Memref sig .tc .hbm S2x65536 .f32) (harg4 : arg4.IsWhole) (arg5 : Memref sig .tc .hbm S2x65536x256 .fp8e4m3) (harg5 : arg5.IsWhole) (arg6 : Memref sig .tc .hbm S2x65536 .f32) (harg6 : arg6.IsWhole) (arg7 : Memref sig .tc .hbm S4x8192 .bf16) (harg7 : arg7.IsWhole) (arg8 : Memref sig .tc .vmem S4x32x256 .bf16) (harg8 : arg8.IsWhole) (arg9 : Memref sig .tc .vmem S4x2x256 .bf16) (harg9 : arg9.IsWhole) (arg10 : Memref sig .tc .vmem S4x2x256 .bf16) (harg10 : arg10.IsWhole) (arg11 : Memref sig .tc .vmem S8x2x2048x256 .fp8e4m3) (harg11 : arg11.IsWhole) (arg12 : Memref sig .tc .vmem S8x2x2048 .f32) (harg12 : arg12.IsWhole) (arg13 : Memref sig .tc .vmem S8x2x2048x256 .fp8e4m3) (harg13 : arg13.IsWhole) (arg14 : Memref sig .tc .vmem S8x2x2048 .f32) (harg14 : arg14.IsWhole) (arg15 : Memref sig .tc .vmem S2x64x256 .bf16) (harg15 : arg15.IsWhole) (arg16 : Memref sig .tc .vmem S2x64x128 .f32) (harg16 : arg16.IsWhole) (arg17 : Memref sig .tc .vmem S2x64x2048 .f32) (harg17 : arg17.IsWhole) (arg18 : Memref sig .tc .vmem S2x64x2048 .f32) (harg18 : arg18.IsWhole) (arg19 : Memref sig .tc .vmem S2x2x64x128 .f32) (harg19 : arg19.IsWhole) (arg20 : Memref sig .tc .vmem S2x2x64x128 .f32) (harg20 : arg20.IsWhole) (arg21 : Memref sig .tc .vmem S2x64x128 .f32) (harg21 : arg21.IsWhole) (arg22 : Memref sig .tc .vmem S2x64x256 .f32) (harg22 : arg22.IsWhole) (arg23 : Memref sig .tc .vmem S2x2x64x128 .f32) (harg23 : arg23.IsWhole) (arg24 : Memref sig .tc .vmem S4x8192 .bf16) (harg24 : arg24.IsWhole) (arg25 : DmaSems sig S8) (arg26 : DmaSems sig S8) (arg27 : DmaSems sig S8) (arg28 : DmaSems sig S8) (arg29 : DmaSems sig S3) (arg30 : DmaSems sig S_) (v2103 : FVec F S4x128 .bf16) (v2104 : Vec F S4x128 .bf16) :
    Prog (TpuEff nD τ sig (Elt F) Λ₀ .tc) PUnit := do
  let v2533 : Vec F S1x1x4x128 .f32 ← k0_part119 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 v2103 v2104
  have v2534 : FVec F S4x128 .f32 := shapeCast S4x128 v2533 shapeCasts_S1x1x4x128_S4x128
  have v2535 : FVec F S4x128 .bf16 := truncf .bf16 v2534 bitsLt_bf16_f32
  let c0_1653 : Index := 0#32
  let c8064 : Index := 8064#32
  let v2536 : Vec F S4x128 .bf16 ← Prog.lift (.load arg24 (Rect.unit (s := S4x8192) ![0, 8064] S4x128.size inb_S4x8192_S4x128_0_8064).toLoadRect (View.loadsAt_vmem h_S4x128))
  have v2537 : FVec F S4x128 .bf16 := shapeCast S4x128 v2536 shapeCasts_S4x128_S4x128
  have v2538 : FVec F S4x128 .bf16 := shapeCast S4x128 v2535 shapeCasts_S4x128_S4x128
  Prog.lift (.store arg24 (Rect.unit (s := S4x8192) ![0, 8064] S4x128.size inb_S4x8192_S4x128_0_8064) v2538 Finset.univ (View.stores_vmem h_S4x128 (harg24.storeExact_slice rfl _ packedbf16_S4x8192_S4x128_0_8064) (fun _ => rfl)) (.inl rfl))
  Prog.lift (.enqueueDma arg24 (.here arg7) (.dma arg30.sem) harg24.wordExact harg7.wordExact ⟨Or.inl rfl, trivial⟩)
  Prog.lift (.waitDma2 arg30.sem arg24 arg7 harg24.wordExact harg7.wordExact)
  pure ⟨⟩

/-- The printed program up to its loop; the loop, and the parts after it, as printed. -/
theorem kernel_eq₁ (arg0 : Memref sig .tc .hbm S4x32x256 .bf16) (harg0 : arg0.IsWhole) (arg1 : Memref sig .tc .hbm S4x2x256 .bf16) (harg1 : arg1.IsWhole) (arg2 : Memref sig .tc .hbm S4x2x256 .bf16) (harg2 : arg2.IsWhole) (arg3 : Memref sig .tc .hbm S2x65536x256 .fp8e4m3) (harg3 : arg3.IsWhole) (arg4 : Memref sig .tc .hbm S2x65536 .f32) (harg4 : arg4.IsWhole) (arg5 : Memref sig .tc .hbm S2x65536x256 .fp8e4m3) (harg5 : arg5.IsWhole) (arg6 : Memref sig .tc .hbm S2x65536 .f32) (harg6 : arg6.IsWhole) (arg7 : Memref sig .tc .hbm S4x8192 .bf16) (harg7 : arg7.IsWhole) (arg8 : Memref sig .tc .vmem S4x32x256 .bf16) (harg8 : arg8.IsWhole) (arg9 : Memref sig .tc .vmem S4x2x256 .bf16) (harg9 : arg9.IsWhole) (arg10 : Memref sig .tc .vmem S4x2x256 .bf16) (harg10 : arg10.IsWhole) (arg11 : Memref sig .tc .vmem S8x2x2048x256 .fp8e4m3) (harg11 : arg11.IsWhole) (arg12 : Memref sig .tc .vmem S8x2x2048 .f32) (harg12 : arg12.IsWhole) (arg13 : Memref sig .tc .vmem S8x2x2048x256 .fp8e4m3) (harg13 : arg13.IsWhole) (arg14 : Memref sig .tc .vmem S8x2x2048 .f32) (harg14 : arg14.IsWhole) (arg15 : Memref sig .tc .vmem S2x64x256 .bf16) (harg15 : arg15.IsWhole) (arg16 : Memref sig .tc .vmem S2x64x128 .f32) (harg16 : arg16.IsWhole) (arg17 : Memref sig .tc .vmem S2x64x2048 .f32) (harg17 : arg17.IsWhole) (arg18 : Memref sig .tc .vmem S2x64x2048 .f32) (harg18 : arg18.IsWhole) (arg19 : Memref sig .tc .vmem S2x2x64x128 .f32) (harg19 : arg19.IsWhole) (arg20 : Memref sig .tc .vmem S2x2x64x128 .f32) (harg20 : arg20.IsWhole) (arg21 : Memref sig .tc .vmem S2x64x128 .f32) (harg21 : arg21.IsWhole) (arg22 : Memref sig .tc .vmem S2x64x256 .f32) (harg22 : arg22.IsWhole) (arg23 : Memref sig .tc .vmem S2x2x64x128 .f32) (harg23 : arg23.IsWhole) (arg24 : Memref sig .tc .vmem S4x8192 .bf16) (harg24 : arg24.IsWhole) (arg25 : DmaSems sig S8) (arg26 : DmaSems sig S8) (arg27 : DmaSems sig S8) (arg28 : DmaSems sig S8) (arg29 : DmaSems sig S3) (arg30 : DmaSems sig S_) :
    cc0_cascade_decode (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 = Cascade.pre (Λ := Λ₀) ⟨arg0, arg1, arg2, arg3, arg4, arg5, arg6, arg7, arg8, arg9, arg10, arg11, arg12, arg13, arg14, arg15, arg16, arg17, arg18, arg19, arg20, arg21, arg22, arg23, arg24, arg25, arg26, arg27, arg28, arg29, arg30⟩ ⟨harg0, harg1, harg2, harg3, harg4, harg5, harg6, harg7, harg8, harg9, harg10, harg11, harg12, harg13, harg14, harg15, harg16, harg17, harg18, harg19, harg20, harg21, harg22, harg23, harg24⟩
      (Prog.bind (Prog.bind (Prog.bind (Scf.Loop.for k0_t1_loop k0_t1_ok ⟨⟩ fun i u => k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 (Cascade.dummy) (Cascade.dummy) (Cascade.dummy) i u)
        (fun _ => .ret (⟨⟩ : PUnit))) (fun _ => rest2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30)) (fun r => rest3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 r.1 r.2)) := by
  sl_kernel_rfl

theorem rest_eq (arg0 : Memref sig .tc .hbm S4x32x256 .bf16) (harg0 : arg0.IsWhole) (arg1 : Memref sig .tc .hbm S4x2x256 .bf16) (harg1 : arg1.IsWhole) (arg2 : Memref sig .tc .hbm S4x2x256 .bf16) (harg2 : arg2.IsWhole) (arg3 : Memref sig .tc .hbm S2x65536x256 .fp8e4m3) (harg3 : arg3.IsWhole) (arg4 : Memref sig .tc .hbm S2x65536 .f32) (harg4 : arg4.IsWhole) (arg5 : Memref sig .tc .hbm S2x65536x256 .fp8e4m3) (harg5 : arg5.IsWhole) (arg6 : Memref sig .tc .hbm S2x65536 .f32) (harg6 : arg6.IsWhole) (arg7 : Memref sig .tc .hbm S4x8192 .bf16) (harg7 : arg7.IsWhole) (arg8 : Memref sig .tc .vmem S4x32x256 .bf16) (harg8 : arg8.IsWhole) (arg9 : Memref sig .tc .vmem S4x2x256 .bf16) (harg9 : arg9.IsWhole) (arg10 : Memref sig .tc .vmem S4x2x256 .bf16) (harg10 : arg10.IsWhole) (arg11 : Memref sig .tc .vmem S8x2x2048x256 .fp8e4m3) (harg11 : arg11.IsWhole) (arg12 : Memref sig .tc .vmem S8x2x2048 .f32) (harg12 : arg12.IsWhole) (arg13 : Memref sig .tc .vmem S8x2x2048x256 .fp8e4m3) (harg13 : arg13.IsWhole) (arg14 : Memref sig .tc .vmem S8x2x2048 .f32) (harg14 : arg14.IsWhole) (arg15 : Memref sig .tc .vmem S2x64x256 .bf16) (harg15 : arg15.IsWhole) (arg16 : Memref sig .tc .vmem S2x64x128 .f32) (harg16 : arg16.IsWhole) (arg17 : Memref sig .tc .vmem S2x64x2048 .f32) (harg17 : arg17.IsWhole) (arg18 : Memref sig .tc .vmem S2x64x2048 .f32) (harg18 : arg18.IsWhole) (arg19 : Memref sig .tc .vmem S2x2x64x128 .f32) (harg19 : arg19.IsWhole) (arg20 : Memref sig .tc .vmem S2x2x64x128 .f32) (harg20 : arg20.IsWhole) (arg21 : Memref sig .tc .vmem S2x64x128 .f32) (harg21 : arg21.IsWhole) (arg22 : Memref sig .tc .vmem S2x64x256 .f32) (harg22 : arg22.IsWhole) (arg23 : Memref sig .tc .vmem S2x2x64x128 .f32) (harg23 : arg23.IsWhole) (arg24 : Memref sig .tc .vmem S4x8192 .bf16) (harg24 : arg24.IsWhole) (arg25 : DmaSems sig S8) (arg26 : DmaSems sig S8) (arg27 : DmaSems sig S8) (arg28 : DmaSems sig S8) (arg29 : DmaSems sig S3) (arg30 : DmaSems sig S_) :
    Prog.bind (rest2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30) (fun r => rest3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 r.1 r.2) = Cascade.post (Λ := Λ₀) ⟨arg0, arg1, arg2, arg3, arg4, arg5, arg6, arg7, arg8, arg9, arg10, arg11, arg12, arg13, arg14, arg15, arg16, arg17, arg18, arg19, arg20, arg21, arg22, arg23, arg24, arg25, arg26, arg27, arg28, arg29, arg30⟩ ⟨harg0, harg1, harg2, harg3, harg4, harg5, harg6, harg7, harg8, harg9, harg10, harg11, harg12, harg13, harg14, harg15, harg16, harg17, harg18, harg19, harg20, harg21, harg22, harg23, harg24⟩ := by
  sl_kernel_rfl

theorem kernel_eq (arg0 : Memref sig .tc .hbm S4x32x256 .bf16) (harg0 : arg0.IsWhole) (arg1 : Memref sig .tc .hbm S4x2x256 .bf16) (harg1 : arg1.IsWhole) (arg2 : Memref sig .tc .hbm S4x2x256 .bf16) (harg2 : arg2.IsWhole) (arg3 : Memref sig .tc .hbm S2x65536x256 .fp8e4m3) (harg3 : arg3.IsWhole) (arg4 : Memref sig .tc .hbm S2x65536 .f32) (harg4 : arg4.IsWhole) (arg5 : Memref sig .tc .hbm S2x65536x256 .fp8e4m3) (harg5 : arg5.IsWhole) (arg6 : Memref sig .tc .hbm S2x65536 .f32) (harg6 : arg6.IsWhole) (arg7 : Memref sig .tc .hbm S4x8192 .bf16) (harg7 : arg7.IsWhole) (arg8 : Memref sig .tc .vmem S4x32x256 .bf16) (harg8 : arg8.IsWhole) (arg9 : Memref sig .tc .vmem S4x2x256 .bf16) (harg9 : arg9.IsWhole) (arg10 : Memref sig .tc .vmem S4x2x256 .bf16) (harg10 : arg10.IsWhole) (arg11 : Memref sig .tc .vmem S8x2x2048x256 .fp8e4m3) (harg11 : arg11.IsWhole) (arg12 : Memref sig .tc .vmem S8x2x2048 .f32) (harg12 : arg12.IsWhole) (arg13 : Memref sig .tc .vmem S8x2x2048x256 .fp8e4m3) (harg13 : arg13.IsWhole) (arg14 : Memref sig .tc .vmem S8x2x2048 .f32) (harg14 : arg14.IsWhole) (arg15 : Memref sig .tc .vmem S2x64x256 .bf16) (harg15 : arg15.IsWhole) (arg16 : Memref sig .tc .vmem S2x64x128 .f32) (harg16 : arg16.IsWhole) (arg17 : Memref sig .tc .vmem S2x64x2048 .f32) (harg17 : arg17.IsWhole) (arg18 : Memref sig .tc .vmem S2x64x2048 .f32) (harg18 : arg18.IsWhole) (arg19 : Memref sig .tc .vmem S2x2x64x128 .f32) (harg19 : arg19.IsWhole) (arg20 : Memref sig .tc .vmem S2x2x64x128 .f32) (harg20 : arg20.IsWhole) (arg21 : Memref sig .tc .vmem S2x64x128 .f32) (harg21 : arg21.IsWhole) (arg22 : Memref sig .tc .vmem S2x64x256 .f32) (harg22 : arg22.IsWhole) (arg23 : Memref sig .tc .vmem S2x2x64x128 .f32) (harg23 : arg23.IsWhole) (arg24 : Memref sig .tc .vmem S4x8192 .bf16) (harg24 : arg24.IsWhole) (arg25 : DmaSems sig S8) (arg26 : DmaSems sig S8) (arg27 : DmaSems sig S8) (arg28 : DmaSems sig S8) (arg29 : DmaSems sig S3) (arg30 : DmaSems sig S_) :
    cc0_cascade_decode (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 = Cascade.pre (Λ := Λ₀) ⟨arg0, arg1, arg2, arg3, arg4, arg5, arg6, arg7, arg8, arg9, arg10, arg11, arg12, arg13, arg14, arg15, arg16, arg17, arg18, arg19, arg20, arg21, arg22, arg23, arg24, arg25, arg26, arg27, arg28, arg29, arg30⟩ ⟨harg0, harg1, harg2, harg3, harg4, harg5, harg6, harg7, harg8, harg9, harg10, harg11, harg12, harg13, harg14, harg15, harg16, harg17, harg18, harg19, harg20, harg21, harg22, harg23, harg24⟩
      (Prog.bind (loopS ⟨arg0, arg1, arg2, arg3, arg4, arg5, arg6, arg7, arg8, arg9, arg10, arg11, arg12, arg13, arg14, arg15, arg16, arg17, arg18, arg19, arg20, arg21, arg22, arg23, arg24, arg25, arg26, arg27, arg28, arg29, arg30⟩ ⟨harg0, harg1, harg2, harg3, harg4, harg5, harg6, harg7, harg8, harg9, harg10, harg11, harg12, harg13, harg14, harg15, harg16, harg17, harg18, harg19, harg20, harg21, harg22, harg23, harg24⟩) (fun _ => Cascade.post ⟨arg0, arg1, arg2, arg3, arg4, arg5, arg6, arg7, arg8, arg9, arg10, arg11, arg12, arg13, arg14, arg15, arg16, arg17, arg18, arg19, arg20, arg21, arg22, arg23, arg24, arg25, arg26, arg27, arg28, arg29, arg30⟩ ⟨harg0, harg1, harg2, harg3, harg4, harg5, harg6, harg7, harg8, harg9, harg10, harg11, harg12, harg13, harg14, harg15, harg16, harg17, harg18, harg19, harg20, harg21, harg22, harg23, harg24⟩)) := by
  rw [kernel_eq₁]
  have e : (fun (i : Fin k0_t1_loop.trips) (u : Unit) => k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 (Cascade.dummy) (Cascade.dummy) (Cascade.dummy) i u) =
      fun i _ => Cascade.trip (Λ := Λ₀) ⟨arg0, arg1, arg2, arg3, arg4, arg5, arg6, arg7, arg8, arg9, arg10, arg11, arg12, arg13, arg14, arg15, arg16, arg17, arg18, arg19, arg20, arg21, arg22, arg23, arg24, arg25, arg26, arg27, arg28, arg29, arg30⟩ ⟨harg0, harg1, harg2, harg3, harg4, harg5, harg6, harg7, harg8, harg9, harg10, harg11, harg12, harg13, harg14, harg15, harg16, harg17, harg18, harg19, harg20, harg21, harg22, harg23, harg24⟩ i.val i.isLt := by
    funext i u
    exact trip_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 _ _ _ i.val i.isLt
  rw [e, Cascade.bind3]
  show Cascade.pre (Λ := Λ₀) ⟨arg0, arg1, arg2, arg3, arg4, arg5, arg6, arg7, arg8, arg9, arg10, arg11, arg12, arg13, arg14, arg15, arg16, arg17, arg18, arg19, arg20, arg21, arg22, arg23, arg24, arg25, arg26, arg27, arg28, arg29, arg30⟩ ⟨harg0, harg1, harg2, harg3, harg4, harg5, harg6, harg7, harg8, harg9, harg10, harg11, harg12, harg13, harg14, harg15, harg16, harg17, harg18, harg19, harg20, harg21, harg22, harg23, harg24⟩ (Prog.bind (loopS ⟨arg0, arg1, arg2, arg3, arg4, arg5, arg6, arg7, arg8, arg9, arg10, arg11, arg12, arg13, arg14, arg15, arg16, arg17, arg18, arg19, arg20, arg21, arg22, arg23, arg24, arg25, arg26, arg27, arg28, arg29, arg30⟩ ⟨harg0, harg1, harg2, harg3, harg4, harg5, harg6, harg7, harg8, harg9, harg10, harg11, harg12, harg13, harg14, harg15, harg16, harg17, harg18, harg19, harg20, harg21, harg22, harg23, harg24⟩) (fun _ =>
    Prog.bind (rest2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30) (fun r => rest3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 arg27 arg28 arg29 arg30 r.1 r.2))) = _
  rw [rest_eq]

end Cert.KernelIdeal.Gen
-- ==== Proof.Kern.LaunchIdeal.lean ====
/- The launch: the kernel's contract at the buffers of the program, the run of the program and what it leaves. -/
module

public import proofs.«01_k».proof.Proof.Kern.EqKernelIdeal
public import proofs.«01_k».proof.Proof.Kern.Ring
public import proofs.«01_k».proof.Proof.Gen.KernelIdeal.Frame
public import Idealize.ShloMosaic.Lib.Pipeline.FrameValue

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The result's buffer, which the kernel writes, and the operands, which it reads. -/
def R0 : Finset (Ref sig .tc) := {main_v7}
def H0 : Finset (Ref sig .tc) := {main_v0, main_v1, main_v2, main_v3, main_v4, main_v5, main_v6}
theorem H0_sub : H0 ⊆ Pipeline.restRefs sig cfg0.spec := by decide
theorem R0_sub : R0 ⊆ Pipeline.restRefs sig cfg0.spec \ H0 := by decide

/-- The kernel's buffers and semaphores. -/
abbrev bufs : Cascade.Bufs sig := ⟨Memref.whole main_v0, Memref.whole main_v1, Memref.whole main_v2, Memref.whole main_v3, Memref.whole main_v4, Memref.whole main_v5, Memref.whole main_v6, Memref.whole main_v7, Memref.whole cc0_scratch0, Memref.whole cc0_scratch1, Memref.whole cc0_scratch2, Memref.whole cc0_scratch3, Memref.whole cc0_scratch4, Memref.whole cc0_scratch5, Memref.whole cc0_scratch6, Memref.whole cc0_scratch7, Memref.whole cc0_scratch8, Memref.whole cc0_scratch9, Memref.whole cc0_scratch10, Memref.whole cc0_scratch11, Memref.whole cc0_scratch12, Memref.whole cc0_scratch13, Memref.whole cc0_scratch14, Memref.whole cc0_scratch15, Memref.whole cc0_scratch16, cc0_scratch17, cc0_scratch18, cc0_scratch19, cc0_scratch20, cc0_scratch21, cc0_scratch22⟩
theorem hbufs : Cascade.Bufs.Whole bufs := ⟨Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _, Memref.isWhole_whole _⟩

/-- The kernel's operands as the launch finds them. -/
abbrev inp (c : Dev nD) : Cascade.In F := ⟨V m c main_v0, V m c main_v1, V m c main_v2, V m c main_v3, V m c main_v4, V m c main_v5, V m c main_v6⟩

/-- What the kernel leaves in the buffers it writes. -/
def G (c : Dev nD) : (b : Ref sig .tc) → Buf (Elt F) ((c : Thread nD τ).loc b) := Function.update (V m c) main_v7 (inp m c).out

/-- The semaphores. -/
abbrev osem0 : Fin 36 → SemLoc sig := fun j => SemLoc.dma j
theorem ownSemFacts0 : Pipeline.OwnSemFacts cfg0.spec osem0 := by decide

theorem sems_eq (c : Dev nD) :
    (Pipeline.ownSems0 (Ix := Unit) (Name := ℕ) (U := Pipeline.UD sig nD τ) (Lvl := ℕ) (Val := Elt F) (τ := τ) osem0 c : sProp 𝕄) = Cascade.sems bufs c := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35] (by decide) (by decide)]
  unfold Cascade.sems Cascade.eight
  simp only [Cascade.eqv sep_assoc]
  rfl

theorem hbm_eq (c : Dev nD) :
    (bigSep H0 (fun b => ((c : Thread nD τ).loc b) ↦{fullShare} V m c b) : sProp 𝕄) = Cascade.opers (inp m c) bufs c := by
  rw [BI.bigSep_eq_bigSepL_of_eq [main_v0, main_v1, main_v2, main_v3, main_v4, main_v5, main_v6] (by decide) (by decide)]
  unfold Cascade.opers
  simp only [owns_whole]
  rfl

theorem scratch_eq (c : Dev nD) :
    (Pipeline.scopedRest (Ix := Unit) (Name := ℕ) (U := Pipeline.UD sig nD τ) (Lvl := ℕ) (Val := Elt F) (cfg0.spec) c : sProp 𝕄) = Cascade.scratch bufs c := by
  rw [scopedRest0_eq]
  unfold Cascade.scratch
  simp only [owns_whole]
  rfl

theorem out_eq (c : Dev nD) (W : (b : Ref sig .tc) → Buf (Elt F) ((c : Thread nD τ).loc b)) :
    (Pipeline.routed R0 c W : sProp 𝕄) = Cascade.own c bufs.out fullShare (W main_v7) := by
  unfold Pipeline.routed
  rw [BI.bigSep_eq_bigSepL_of_eq [main_v7] (by decide) (by decide)]
  simp only [Cascade.own, owns_whole]
  rfl

theorem PhiDRG_eq (W : (c : Dev nD) → (b : Ref sig .tc) → Buf (Elt F) ((c : Thread nD τ).loc b)) (c : Dev nD) :
    (Pipeline.ΦDRG osem0 cfg0.spec H0 R0 (V m) W c : sProp 𝕄)
      = iprop(Cascade.scratch bufs c ∗ (∃ r, prngReg c r) ∗ Cascade.sems bufs c ∗ Cascade.opers (inp m c) bufs c
        ∗ Cascade.own c bufs.out fullShare (W c main_v7)) := by
  rw [Pipeline.ΦDRG_eq, scratch_eq, sems_eq, hbm_eq, out_eq]

/-- The proof data: no array is staged; before the one point the buffers as the launch finds them, after it with the result. -/
def dats : (p : Fin 1) → (c : Dev nD) → Dat τ (Elt F) Unit ℕ (Pipeline.UD sig nD τ) ℕ (cfgs p) c
  | 0, c => { A := fun w => V m c (Pipeline.arrRef cfg0.spec w)
              after := fun w => w.elim0
              Φ := fun t => if t = 0 then Pipeline.ΦDRG osem0 cfg0.spec H0 R0 (V m) (V m) c else Pipeline.ΦDRG osem0 cfg0.spec H0 R0 (V m) (G m) c
              q := fun _ => fullShare
              owed := fun _ => 0 }

theorem G_out (c : Dev nD) : G m c main_v7 = (inp m c).out := Function.update_self ..

theorem trips : k0_t1_loop.trips = 15 := by decide

theorem wp_body (c : Dev nD) (t : Fin cfg0.N) :
    (iprop(Cascade.scratch bufs c ∗ Cascade.sems bufs c ∗ Cascade.opers (inp m c) bufs c ∗ (∃ Y, Cascade.own c bufs.out fullShare Y) ∗ Cascade.ow c) : sProp 𝕄)
      ⊢ wp frame (wpE (defs₀ (F := F)) Variants.none c none) Set.univ (bodyAt0 t)
        (fun _ => iprop(Cascade.scratch bufs c ∗ Cascade.sems bufs c ∗ Cascade.opers (inp m c) bufs c ∗ Cascade.own c bufs.out fullShare (inp m c).out ∗ Cascade.ow c)) := by
  unfold bodyAt0
  rw [kernel_eq (Memref.whole main_v0) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_v5) (Memref.isWhole_whole _) (Memref.whole main_v6) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22]
  unfold loopS
  exact Cascade.wp_all' (inp m c) bufs hbufs trips

theorem sound_body (c : Dev nD) (t : Fin cfg0.N) :
    (iprop(Pipeline.ΦDRG osem0 cfg0.spec H0 R0 (V m) (V m) c ∗ Cascade.ow c) : sProp 𝕄)
      ⊢ wp frame (wpE (defs₀ (F := F)) Variants.none c none) Set.univ (bodyAt0 t)
        (fun _ => iprop(Pipeline.ΦDRG osem0 cfg0.spec H0 R0 (V m) (G m) c ∗ Cascade.ow c)) := by
  rw [PhiDRG_eq, PhiDRG_eq, G_out]
  iintro ⟨⟨HB, Hg, HC, HO, Hout⟩, HW⟩
  iapply wp_wand $$ [HB HC HO Hout HW]
  · iapply (wp_body m c t)
    isplitl [HB]; · iexact HB
    isplitl [HC]; · iexact HC
    isplitl [HO]; · iexact HO
    isplitl [Hout]; · iexists _; iexact Hout
    iexact HW
  iintro %a ⟨HB, HC, HO, Hout, HW⟩
  isplitl [HB Hg HC HO Hout]
  · isplitl [HB]; · iexact HB
    isplitl [Hg]; · iexact Hg
    isplitl [HC]; · iexact HC
    isplitl [HO]; · iexact HO
    iexact Hout
  iexact HW

theorem defs₀_row (t : Fin cfg0.N) :
    defs₀ (F := F) .tc cfg0.body (cfg0.bodyArgs t (cfg0.slots t)) = bodyAt0 t := by
  unfold defs₀; rw [Defs.onTc_tc]

theorem Phi_zero (c : Dev nD) (t : Fin cfg0.N) : (dats m 0 c).Φ t.castSucc = Pipeline.ΦDRG osem0 cfg0.spec H0 R0 (V m) (V m) c := by
  rw [fin_N0 t]; rfl
theorem Phi_one (c : Dev nD) (t : Fin cfg0.N) : (dats m 0 c).Φ t.succ = Pipeline.ΦDRG osem0 cfg0.spec H0 R0 (V m) (G m) c := by
  rw [fin_N0 t]; rfl

theorem body_obligation (c : Dev nD) : BodyObligation (dats (F := F) m 0 c) (defs₀ (F := F)) Variants.none () Set.univ := fun t => by
  rw [defs₀_row, Phi_zero, Phi_one]
  unfold Dat.owesAt Pipeline.owesWithin
  iintro ⟨H, ⟨%W, -, HW⟩, HE⟩
  iapply wp_wand $$ [H HW]
  · iapply (sound_body m c t)
    isplitl [H]; · iexact H
    iexists W; iexact HW
  iintro %a ⟨H, ⟨%W', HW⟩⟩
  isplitl [H]; · iexact H
  isplitl [HW]
  · iexists W'; isplitr; · ipureintro; exact fun _ _ => Or.inl trivial
    iexact HW
  iexact HE

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := fun _ _ => rfl) (G := G m)
    (hin := fun c => (show _ ⊢ (dats m 0 c).Φ 0 from .rfl)) (hout := fun c => (show (dats m 0 c).Φ (Fin.last cfg0.N) ⊢ _ from .rfl))

/-- The program's run: the arguments unchanged, the result the kernel's, every semaphore at zero. -/
theorem run : θ_run defs (onTc (τ := τ) (main (F := F))) ⟨m, fun _ => 0, ρ⟩ (fun r => (∀ c : Dev nD,
      r.2.mem ((c.tc : Thread nD τ).loc main_v7) = (inp m c).out
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1.written c (by decide)).trans (G_out m c),
      ((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c),
      ((h.1.toR c).2 main_arg4 (Finset.mem_sdiff.mpr ⟨Pipeline.mem_restRefs_of main_arg4 (by decide) (by decide), by decide⟩)).trans (V_main_arg4 m c),
      ((h.1.toR c).2 main_arg5 (Finset.mem_sdiff.mpr ⟨Pipeline.mem_restRefs_of main_arg5 (by decide) (by decide), by decide⟩)).trans (V_main_arg5 m c),
      ((h.1.toR c).2 main_arg6 (Finset.mem_sdiff.mpr ⟨Pipeline.mem_restRefs_of main_arg6 (by decide) (by decide), by decide⟩)).trans (V_main_arg6 m c)⟩, h.2⟩) (run_main m ρ)

end Cert.KernelIdeal.Hand
-- ==== Proof.Val.Soft.lean ====
/- Softmax sums over the extended reals: the running maximum, the running sums that shrink when the
   maximum grows, and the division at the end. No score is assumed finite. -/
module

public import Idealize.ShloMosaic.Lib.Pointwise

@[expose] public section

noncomputable section

namespace Cascade.Soft

open Idealize.ShloMosaic

/-! ## Powers of two of differences -/

theorem exp2_real {x m : EReal} (h : x ≤ m) : ∃ r : ℝ, 0 ≤ r ∧ Ideal.exp2 (x - m) = (r : EReal) := by
  induction x with
  | bot => exact ⟨0, le_rfl, by rw [EReal.bot_sub]; rfl⟩
  | top =>
    obtain rfl := top_le_iff.1 h
    exact ⟨0, le_rfl, by rw [EReal.sub_top]; rfl⟩
  | coe x =>
    induction m with
    | bot => exact absurd h (by simp)
    | top => exact ⟨0, le_rfl, by rw [EReal.sub_top]; rfl⟩
    | coe m => exact ⟨(2 : ℝ) ^ (x - m), Real.rpow_nonneg (by norm_num) _, by rw [← EReal.coe_sub]; rfl⟩

theorem exp2_mul {s m m' : EReal} (h : s ≤ m) (h' : m ≤ m') :
    Ideal.exp2 (s - m) * Ideal.exp2 (m - m') = Ideal.exp2 (s - m') := by
  induction s with
  | bot => rw [EReal.bot_sub, EReal.bot_sub, Ideal.exp2_bot, zero_mul]
  | top =>
    obtain rfl := top_le_iff.1 h
    obtain rfl := top_le_iff.1 h'
    rw [EReal.sub_top, Ideal.exp2_bot, zero_mul]
  | coe s =>
    induction m with
    | bot => exact absurd h (by simp)
    | top =>
      obtain rfl := top_le_iff.1 h'
      rw [EReal.sub_top, EReal.sub_top, Ideal.exp2_bot, zero_mul]
    | coe m =>
      induction m' with
      | bot => exact absurd h' (by simp)
      | top => rw [EReal.sub_top, EReal.sub_top, Ideal.exp2_bot, mul_zero]
      | coe m' =>
        rw [← EReal.coe_sub, ← EReal.coe_sub, ← EReal.coe_sub, Ideal.exp2_coe, Ideal.exp2_coe, Ideal.exp2_coe, ← EReal.coe_mul]
        congr 1
        show (2 : ℝ) ^ (s - m) * (2 : ℝ) ^ (m - m') = (2 : ℝ) ^ (s - m')
        rw [← Real.rpow_add (by norm_num)]
        congr 1
        ring

/-- The largest of finitely many is nowhere infinite from itself: a weight is at most one, and one where it is attained. -/
theorem exp2_self {x : ℝ} : Ideal.exp2 ((x : EReal) - x) = 1 := by
  rw [← EReal.coe_sub, sub_self, Ideal.exp2_coe]
  show (((2 : ℝ) ^ (0 : ℝ) : ℝ) : EReal) = 1
  rw [Real.rpow_zero]
  rfl

/-- The change of base: a power of two of `x / log 2` is the exponential of `x`. -/
theorem exp2_scale (x : EReal) : Ideal.exp2 (x * (((Real.log 2)⁻¹ : ℝ) : EReal)) = Ideal.exp x := by
  have hpos : (0 : ℝ) < (Real.log 2)⁻¹ := inv_pos.2 (Real.log_pos (by norm_num))
  induction x with
  | bot => rw [EReal.bot_mul_coe_of_pos hpos]; rfl
  | top => rw [EReal.top_mul_coe_of_pos hpos]; rfl
  | coe x =>
    rw [← EReal.coe_mul, Ideal.exp2_coe, Ideal.exp_coe]
    congr 1
    show (2 : ℝ) ^ (x * (Real.log 2)⁻¹) = Real.exp x
    rw [Real.rpow_def_of_pos (by norm_num)]
    congr 1
    have : Real.log 2 ≠ 0 := (Real.log_pos (by norm_num)).ne'
    field_simp

/-! ## Sums times a real -/

theorem sum_mul_real {ι : Type} (A : Finset ι) (f : ι → EReal) {c : ℝ} (hc : 0 ≤ c) :
    (∑ i ∈ A, f i) * (c : EReal) = ∑ i ∈ A, f i * c := by
  classical
  induction A using Finset.induction_on with
  | empty => rw [Finset.sum_empty, Finset.sum_empty, zero_mul]
  | insert i A hi ih =>
    rw [Finset.sum_insert hi, Finset.sum_insert hi,
      EReal.right_distrib_of_nonneg_of_ne_top (by exact_mod_cast hc) (EReal.coe_ne_top c), ih]

/-! ## The running maximum and the running sums -/

/-- The largest of the first `n` scores; `⊥` of none. -/
def M (s : ℕ → EReal) (n : ℕ) : EReal := (Finset.range n).sup s

theorem M_add (s : ℕ → EReal) (n k : ℕ) : M s (n + k) = max (M s n) ((Finset.range k).sup fun i => s (n + i)) := by
  induction k with
  | zero => simp [M]
  | succ k ih =>
    have e : ∀ (f : ℕ → EReal) (n : ℕ), (Finset.range (n + 1)).sup f = max ((Finset.range n).sup f) (f n) := fun f n => by
      rw [Finset.range_add_one, Finset.sup_insert, max_comm]
    rw [e, ← max_assoc, ← ih, ← add_assoc]
    exact e s (n + k)

theorem le_M (s : ℕ → EReal) {n t : ℕ} (h : t < n) : s t ≤ M s n := Finset.le_sup (f := s) (Finset.mem_range.2 h)

/-- A token's weight under the maximum `m`. -/
def E (s : ℕ → EReal) (m : EReal) (t : ℕ) : EReal := Ideal.exp2 (s t - m)

/-- The running sum of the weights times `y` over the first `n` tokens. -/
def R (s y : ℕ → EReal) (n : ℕ) : EReal := ∑ t ∈ Finset.range n, E s (M s n) t * y t

theorem R_shrink (s y : ℕ → EReal) (n : ℕ) {m : EReal} (h : M s n ≤ m) :
    R s y n * Ideal.exp2 (M s n - m) = ∑ t ∈ Finset.range n, E s m t * y t := by
  obtain ⟨a, ha, e⟩ := exp2_real h
  unfold R
  rw [e, sum_mul_real _ _ ha, ← e]
  refine Finset.sum_congr rfl fun t ht => ?_
  unfold E
  rw [mul_right_comm, exp2_mul (le_M s (Finset.mem_range.1 ht)) h]

/-- One chunk of `k` more tokens. -/
theorem R_add (s y : ℕ → EReal) (n k : ℕ) :
    R s y n * Ideal.exp2 (M s n - M s (n + k)) + ∑ i ∈ Finset.range k, E s (M s (n + k)) (n + i) * y (n + i) = R s y (n + k) := by
  rw [R_shrink s y n (by rw [M_add]; exact le_max_left _ _)]
  unfold R
  rw [Finset.sum_range_add]

/-! ## The end -/

theorem sum_real {ι : Type} (A : Finset ι) (f : ι → EReal) (h : ∀ i ∈ A, ∃ r : ℝ, 0 ≤ r ∧ f i = (r : EReal)) :
    ∃ r : ℝ, 0 ≤ r ∧ (∑ i ∈ A, f i) = (r : EReal) := by
  classical
  induction A using Finset.induction_on with
  | empty => exact ⟨0, le_rfl, by simp⟩
  | insert i A hi ih =>
    obtain ⟨a, ha, ea⟩ := h i (Finset.mem_insert_self i A)
    obtain ⟨b, hb, eb⟩ := ih fun j hj => h j (Finset.mem_insert_of_mem hj)
    exact ⟨a + b, add_nonneg ha hb, by rw [Finset.sum_insert hi, ea, eb, EReal.coe_add]⟩

/-- The divisor: all the weights under the final maximum. -/
def den (s : ℕ → EReal) (n : ℕ) (sn : EReal) : EReal :=
  (∑ t ∈ Finset.range n, E s (max (M s n) sn) t) + Ideal.exp2 (sn - max (M s n) sn)

/-- The prefix's factor is a real, whatever the scores: where the divisor is zero the shrink factor is zero too. -/
theorem gain_real (s : ℕ → EReal) (n : ℕ) (sn : EReal) :
    ∃ g : ℝ, 0 ≤ g ∧ Ideal.exp2 (M s n - max (M s n) sn) * Ideal.div 1 (den s n sn) = (g : EReal) := by
  obtain ⟨a, ha, ea⟩ := exp2_real (le_max_left (M s n) sn)
  rcases eq_or_ne (max (M s n) sn) ⊤ with ht | ht
  · exact ⟨0, le_rfl, by rw [ht, EReal.sub_top, Ideal.exp2_bot, zero_mul]; rfl⟩
  rcases eq_or_ne (max (M s n) sn) ⊥ with hb | hb
  · have : M s n = ⊥ := le_bot_iff.1 (hb ▸ le_max_left _ _)
    exact ⟨0, le_rfl, by rw [this, EReal.bot_sub, Ideal.exp2_bot, zero_mul]; rfl⟩
  obtain ⟨x, hx⟩ : ∃ x : ℝ, max (M s n) sn = (x : EReal) := ⟨_, (EReal.coe_toReal ht hb).symm⟩
  obtain ⟨b, hb', eb⟩ := sum_real (Finset.range n) (E s (max (M s n) sn))
    fun t h => exp2_real ((le_M s (Finset.mem_range.1 h)).trans (le_max_left _ _))
  obtain ⟨c, hc, ec⟩ := exp2_real (le_max_right (M s n) sn)
  have hd : den s n sn = ((b + c : ℝ) : EReal) := by unfold den; rw [eb, ec, EReal.coe_add]
  have hpos : 0 < b + c := by
    rcases le_total sn (M s n) with h | h
    · -- some token attains the maximum
      have hM : M s n = (x : EReal) := by rw [← hx, max_eq_left h]
      have hne : (Finset.range n).Nonempty := by
        rw [Finset.nonempty_iff_ne_empty]
        intro h0
        have : M s n = ⊥ := by unfold M; rw [h0, Finset.sup_empty]
        rw [hM] at this
        exact EReal.coe_ne_bot x this
      obtain ⟨t, ht, et⟩ := Finset.exists_mem_eq_sup (Finset.range n) hne s
      have hle : E s (max (M s n) sn) t ≤ ∑ t ∈ Finset.range n, E s (max (M s n) sn) t :=
        Finset.single_le_sum (f := E s (max (M s n) sn)) (fun i hi => by
          obtain ⟨r, hr, er⟩ := exp2_real ((le_M s (Finset.mem_range.1 hi)).trans (le_max_left (M s n) sn))
          unfold E; rw [er]; exact_mod_cast hr) ht
      have h1 : E s (max (M s n) sn) t = 1 := by
        unfold E
        rw [hx, ← et, show (Finset.range n).sup s = (x : EReal) from hM, exp2_self]
      rw [h1, eb] at hle
      have : (1 : ℝ) ≤ b := by exact_mod_cast hle
      linarith
    · have h1 : (c : EReal) = 1 := by
        rw [← ec, hx, show sn = (x : EReal) by rw [← hx, max_eq_right h], exp2_self]
      have : c = 1 := by exact_mod_cast h1
      linarith
  refine ⟨a * (1 / (b + c)), mul_nonneg ha (by positivity), ?_⟩
  rw [ea, hd, Ideal.div_coe hpos.ne', one_mul, EReal.coe_mul]

/-- The kernel's end is the softmax: the running sums times one factor are the sums of the normalised weights. -/
theorem final (s y : ℕ → EReal) (n : ℕ) (sn : EReal) :
    R s y n * (Ideal.exp2 (M s n - max (M s n) sn) * Ideal.div 1 (den s n sn))
      = ∑ t ∈ Finset.range n, E s (max (M s n) sn) t * Ideal.div 1 (den s n sn) * y t := by
  obtain ⟨g, hg, eg⟩ := gain_real s n sn
  unfold R
  rw [eg, sum_mul_real _ _ hg, ← eg]
  refine Finset.sum_congr rfl fun t ht => ?_
  have h := exp2_mul (le_M s (Finset.mem_range.1 ht)) (le_max_left (M s n) sn)
  unfold E
  rw [← h]
  ac_rfl

/-- Whether a token lies in lane `l`. -/
def lane (l t : ℕ) : EReal := if t % 128 = l then 1 else 0

/-- The lanes' sums, shrunk and added, are the prefix's part of the divisor. -/
theorem lanes (s : ℕ → EReal) (n : ℕ) {m : EReal} (h : M s n ≤ m) :
    (∑ l : Fin 128, R s (lane l.val) n * Ideal.exp2 (M s n - m)) = ∑ t ∈ Finset.range n, E s m t := by
  simp only [R_shrink s _ n h]
  rw [Finset.sum_comm]
  refine Finset.sum_congr rfl fun t _ => ?_
  rw [Finset.sum_eq_single (⟨t % 128, Nat.mod_lt _ (by norm_num)⟩ : Fin 128)]
  · simp [lane]
  · intro l _ hl
    have : ¬ (t % 128 = l.val) := fun e => hl (Fin.ext e.symm)
    simp [lane, this]
  · intro h; exact absurd (Finset.mem_univ _) h

/-! ## The change of base -/

/-- `1 / log 2`. -/
def κ : ℝ := (Real.log 2)⁻¹
theorem κ_pos : 0 < κ := inv_pos.2 (Real.log_pos (by norm_num))

theorem mul_κ_mono : Monotone fun x : EReal => x * (κ : EReal) :=
  fun _ _ h => mul_le_mul_of_nonneg_right h (by exact_mod_cast κ_pos.le)

theorem M_scale (r : ℕ → EReal) (n : ℕ) : M (fun t => r t * (κ : EReal)) n = M r n * (κ : EReal) := by
  induction n with
  | zero => simp [M, EReal.bot_mul_coe_of_pos κ_pos]
  | succ n ih =>
    have e : ∀ (f : ℕ → EReal), M f (n + 1) = max (M f n) (f n) := fun f => by
      unfold M; rw [Finset.range_add_one, Finset.sup_insert, max_comm]
    rw [e, e, ih]
    exact (mul_κ_mono.map_max).symm

theorem exp2_sub_scale (x m : EReal) : Ideal.exp2 (x * (κ : EReal) - m * (κ : EReal)) = Ideal.exp (x - m) := by
  rw [← exp2_scale (x - m)]
  congr 1
  rw [sub_eq_add_neg, sub_eq_add_neg, ← EReal.neg_mul, ← EReal.right_distrib_of_nonneg_of_ne_top (by exact_mod_cast κ_pos.le) (EReal.coe_ne_top _)]
  rfl

/-- THE LAW: scores in base-2 units, sums kept per chunk and lane, one factor at the end — against the plain softmax. -/
theorem merge (r w v : ℕ → EReal) (rn vn : EReal) (n : ℕ) :
    let s : ℕ → EReal := fun t => r t * (κ : EReal)
    let sn : EReal := rn * (κ : EReal)
    let m := max (M s n) sn
    let inv := Ideal.div 1 ((∑ l : Fin 128, R s (lane l.val) n * Ideal.exp2 (M s n - m)) + Ideal.exp2 (sn - m))
    let m' := max (M r n) rn
    let inv' := Ideal.div 1 ((∑ t ∈ Finset.range n, Ideal.exp (r t - m')) + Ideal.exp (rn - m'))
    R s (fun t => w t * v t) n * (Ideal.exp2 (M s n - m) * inv) + Ideal.exp2 (sn - m) * inv * vn
      = (∑ t ∈ Finset.range n, Ideal.exp (r t - m') * inv' * w t * v t) + Ideal.exp (rn - m') * inv' * vn := by
  intro s sn m inv m' inv'
  have hm : m = m' * (κ : EReal) := by
    show max (M s n) sn = max (M r n) rn * _
    rw [show M s n = M r n * (κ : EReal) from M_scale r n]
    exact (mul_κ_mono.map_max).symm
  have hE : ∀ t, E s m t = Ideal.exp (r t - m') := fun t => by
    show Ideal.exp2 (r t * (κ : EReal) - m) = _
    rw [hm, exp2_sub_scale]
  have hN : Ideal.exp2 (sn - m) = Ideal.exp (rn - m') := by
    show Ideal.exp2 (rn * (κ : EReal) - m) = _
    rw [hm, exp2_sub_scale]
  have hd : (∑ l : Fin 128, R s (lane l.val) n * Ideal.exp2 (M s n - m)) + Ideal.exp2 (sn - m) = den s n sn := by
    rw [lanes s n (le_max_left _ _)]; rfl
  have hi : Ideal.div 1 (den s n sn) = inv' := by
    show _ = Ideal.div 1 _
    congr 1
    show (∑ t ∈ Finset.range n, E s m t) + Ideal.exp2 (sn - m) = _
    rw [hN]
    simp only [hE]
  have hinv : inv = inv' := by show Ideal.div 1 _ = _; rw [hd, hi]
  rw [hinv, hN, ← hi]
  rw [show Ideal.exp2 (M s n - m) = Ideal.exp2 (M s n - max (M s n) sn) from rfl, final]
  congr 1
  refine Finset.sum_congr rfl fun t _ => ?_
  rw [show E s (max (M s n) sn) t = Ideal.exp (r t - m') from hE t]
  ac_rfl

end Cascade.Soft
-- ==== Proof.Val.Spec.lean ====
/- The attention over the prefix and the new token, written once as a sum over the tokens: what both sides' results
   are compared with. -/
module

public import proofs.«01_k».proof.Proof.Val.Soft

@[expose] public section

noncomputable section

namespace Cascade.Spec

open Idealize.ShloMosaic Cascade.Soft

/-- Query head `g` of kv head `h`. -/
abbrev head (h : Fin 2) (g : Fin 16) : Fin 32 := ⟨h.val * 16 + g.val, by omega⟩
/-- Token `t` of the prefix. -/
abbrev tok (t : ℕ) : Fin 65536 := Fin.ofNat 65536 t

variable (a0 : (⟨4, ![4, 1, 32, 256]⟩ : Shape).Idx → EReal) (a1 a2 : (⟨4, ![4, 1, 2, 256]⟩ : Shape).Idx → EReal)
  (a3 : (⟨3, ![65536, 2, 256]⟩ : Shape).Idx → EReal) (a4 : (⟨2, ![65536, 2]⟩ : Shape).Idx → EReal)
  (a5 : (⟨3, ![65536, 2, 256]⟩ : Shape).Idx → EReal) (a6 : (⟨2, ![65536, 2]⟩ : Shape).Idx → EReal)
  (b : Fin 4) (h : Fin 2) (g : Fin 16)

/-- The score of a prefix token. -/
def score (t : ℕ) : EReal :=
  (∑ d : Fin 256, a0 (ix4 b (0 : Fin 1) (head h g) d) * a3 (ix3 (tok t) h d)) * a4 (ix2 (tok t) h) * ((1 / 16 : ℝ) : EReal)
/-- The score of the new token. -/
def newScore : EReal := (∑ d : Fin 256, a0 (ix4 b (0 : Fin 1) (head h g) d) * a1 (ix4 b (0 : Fin 1) h d)) * ((1 / 16 : ℝ) : EReal)

/-- The attention of scores `r` and `rn` over scaled values. -/
def attend (r w v : ℕ → EReal) (rn vn : EReal) (n : ℕ) : EReal :=
  let m' := max (M r n) rn
  let inv' := Ideal.div 1 ((∑ t ∈ Finset.range n, Ideal.exp (r t - m')) + Ideal.exp (rn - m'))
  (∑ t ∈ Finset.range n, Ideal.exp (r t - m') * inv' * w t * v t) + Ideal.exp (rn - m') * inv' * vn

/-- The result of sequence `b`, query `g` of head `h`, at dimension `d`. -/
def res (d : Fin 256) : EReal :=
  attend (score a0 a3 a4 b h g) (fun t => a6 (ix2 (tok t) h)) (fun t => a5 (ix3 (tok t) h d)) (newScore a0 a1 b h g)
    (a2 (ix4 b (0 : Fin 1) h d)) 65536

theorem tok_val (t : Fin 65536) : tok t.val = t := Fin.ext (Nat.mod_eq_of_lt t.isLt)

theorem sup_fin {n : ℕ} (f : ℕ → EReal) : ((Finset.univ : Finset (Fin n)).sup fun t => f t.val) = M f n := by
  apply le_antisymm
  · exact Finset.sup_le fun t _ => Finset.le_sup (f := f) (Finset.mem_range.mpr t.isLt)
  · exact Finset.sup_le fun t ht => Finset.le_sup (f := fun t : Fin n => f t.val) (Finset.mem_univ (⟨t, Finset.mem_range.mp ht⟩ : Fin n))

theorem sum_fin {n : ℕ} (f : ℕ → EReal) : (∑ t : Fin n, f t.val) = ∑ t ∈ Finset.range n, f t := (Finset.sum_range f).symm

/-- The same over an index set of the tokens' own type. -/
theorem attend_fin {n : ℕ} (r w v : ℕ → EReal) (rn vn : EReal) (R W V : Fin n → EReal) (hR : ∀ t, R t = r t.val)
    (hW : ∀ t, W t = w t.val) (hV : ∀ t, V t = v t.val) (μ i : EReal) (hμ : μ = max (Finset.univ.sup R) rn)
    (hi : i = Ideal.div 1 ((∑ t, Ideal.exp (R t - μ)) + Ideal.exp (rn - μ))) :
    (∑ t, Ideal.exp (R t - μ) * i * W t * V t) + Ideal.exp (rn - μ) * i * vn = attend r w v rn vn n := by
  obtain rfl : R = fun t => r t.val := funext hR
  obtain rfl : W = fun t => w t.val := funext hW
  obtain rfl : V = fun t => v t.val := funext hV
  rw [sup_fin] at hμ
  subst hμ
  rw [sum_fin (fun t => Ideal.exp (r t - max (M r n) rn))] at hi
  subst hi
  rw [sum_fin (fun t => Ideal.exp (r t - max (M r n) rn) * Ideal.div 1 ((∑ t ∈ Finset.range n, Ideal.exp (r t - max (M r n) rn))
    + Ideal.exp (rn - max (M r n) rn)) * w t * v t)]
  rfl

end Cascade.Spec
-- ==== Proof.Val.Pay.lean ====
/- The kernel's payloads entry by entry, over the extended reals. -/
module

public import proofs.«01_k».proof.Proof.Kern.Prog
public import proofs.«01_k».proof.Proof.Val.Spec

@[expose] public section

noncomputable section

namespace Cascade

open Idealize.ShloMosaic Idealize.ShloMosaic.TcCoe Cascade.Soft Cascade.Spec

variable [Scl Ideal]

theorem scorePay_apply (q : Vec Ideal S1x64x256 .bf16) (k : Vec Ideal S1x1x256x256 .fp8e4m3) (ks : Vec Ideal S1x1x256 .f32)
    (r : Fin 64) (t : Fin 256) :
    scorePay q k ks (ix2 r t) = (∑ d : Fin 256, q (ix3 (0 : Fin 1) r d) * k (ix4 (0 : Fin 1) (0 : Fin 1) t d))
      * (ks (ix3 (0 : Fin 1) (0 : Fin 1) t) * (Scl.scl : Ideal .f32)) := by
  pointwise [scorePay, dotNT]

theorem pairMax_apply (t : FVec Ideal S64x256 .f32) (r : Fin 64) (l : Fin 128) :
    pairMax t (ix2 r l) = max (t (ix2 r (⟨l.val, by omega⟩ : Fin 256))) (t (ix2 r (⟨128 + l.val, by omega⟩ : Fin 256))) := by
  pointwise [pairMax]

theorem rowMax_apply (x : FVec Ideal S64x128 .f32) (r : Fin 64) (l : Fin 128) :
    rowMax x (ix2 r l) = (Finset.univ : Finset (Fin 128)).sup fun l => x (ix2 r l) := by
  have e : rowMax x (ix2 r l) = (Finset.univ : Finset (Fin 128)).fold max (Ideal.ofBits .f32 0xFF800000#32) fun l => x (ix2 r l) := by
    pointwise [rowMax]
  have hb : Ideal.ofBits .f32 0xFF800000#32 = ⊥ := by simp [Ideal.ofBits, Ideal.ieee, -EReal.coe_mul]
  rw [e, hb]
  rfl

theorem rowSum_apply (x : FVec Ideal S64x128 .f32) (r : Fin 64) (l : Fin 128) :
    rowSum x (ix2 r l) = ∑ l : Fin 128, x (ix2 r l) := by
  pointwise [rowSum]

theorem wide_apply {φ : FTy} (x : FVec Ideal S64x128 φ) (r : Fin 64) (d : Fin 256) :
    wide x (ix2 r d) = x (ix2 r (⟨d.val % 128, by omega⟩ : Fin 128)) := by
  by_cases h : d.val < 128
  · have e : (⟨d.val % 128, by omega⟩ : Fin 128) = ⟨d.val, h⟩ := Fin.ext (Nat.mod_eq_of_lt h)
    rw [e]
    pointwise [wide]
    rw [dif_pos h]
  · have e : (⟨d.val % 128, by omega⟩ : Fin 128) = ⟨d.val - 128, by omega⟩ := Fin.ext (by show d.val % 128 = d.val - 128; omega)
    rw [e]
    pointwise [wide]
    rw [dif_neg h]

theorem mNew_apply (old mx : FVec Ideal S64x128 .f32) (r : Fin 64) (l : Fin 128) :
    mNew old mx (ix2 r l) = max (old (ix2 r l)) ((Finset.univ : Finset (Fin 128)).sup fun l => mx (ix2 r l)) := by
  rw [← rowMax_apply mx r l]
  rfl

theorem aNew_apply (old new : FVec Ideal S64x128 .f32) (r : Fin 64) (l : Fin 128) :
    aNew old new (ix2 r l) = Ideal.exp2 (old (ix2 r l) - new (ix2 r l)) := rfl

theorem pPay_apply (s : Vec Ideal S1x64x128 .f32) (m : FVec Ideal S64x128 .f32) (r : Fin 64) (l : Fin 128) :
    pPay s m (ix2 r l) = Ideal.exp2 (s (ix3 (0 : Fin 1) r l) - m (ix2 r l)) := by
  pointwise [pPay]
  rfl

theorem psPay_apply (p : FVec Ideal S64x128 .f32) (vs : Vec Ideal S1x1x128 .f32) (r : Fin 64) (l : Fin 128) :
    psPay p vs (ix2 r l) = p (ix2 r l) * vs (ix3 (0 : Fin 1) (0 : Fin 1) l) := by
  pointwise [psPay]

theorem accPay_apply (acc : Vec Ideal S1x64x256 .f32) (alpha : FVec Ideal S64x128 .f32) (ps : FVec Ideal S64x2048 .bf16)
    (v : Vec Ideal S1x1x2048x256 .fp8e4m3) (r : Fin 64) (d : Fin 256) :
    accPay acc alpha ps v (ix2 r d) = acc (ix3 (0 : Fin 1) r d) * alpha (ix2 r (⟨d.val % 128, by omega⟩ : Fin 128))
      + ∑ t : Fin 2048, ps (ix2 r t) * v (ix4 (0 : Fin 1) (0 : Fin 1) t d) := by
  rw [← wide_apply alpha r d]
  unfold accPay
  generalize wide alpha = w
  pointwise [dotNN]

theorem cat16_eq (p : Fin 16 → FVec Ideal S64x128 .bf16) : cat16 p = concatenate S64x2048 1
    (List.ofFn fun n : Fin 16 => (⟨S64x128, p n⟩ : (s : Shape) × (s.Idx → EReal))) cat16_ok := rfl

theorem cat16_apply (p : Fin 16 → FVec Ideal S64x128 .bf16) (r : Fin 64) (t : Fin 2048) :
    cat16 p (ix2 r t) = p ⟨t.val / 128, by omega⟩ (ix2 r (⟨t.val % 128, by omega⟩ : Fin 128)) := by
  rw [cat16_eq]
  refine concatenate_ofFn_apply (t := S64x2048) (s₁ := S64x128) 1 p cat16_ok rfl 128 rfl (ix2 r t) ⟨t.val / 128, by omega⟩ rfl
    (ix2 r (⟨t.val % 128, by omega⟩ : Fin 128)) rfl fun b hb => ?_
  fin_cases b
  · rfl
  · exact absurd rfl hb

theorem newRow_apply (h : Fin 2) (kn : Vec Ideal S1x2x256 .bf16) (d : Fin 256) :
    newRow h.val h.isLt kn (ix2 (0 : Fin 1) d) = kn (ix3 (0 : Fin 1) h d) := by
  fin_cases h <;> pointwise [newRow]

theorem snPay_apply (h : Fin 2) (q : Vec Ideal S1x16x256 .bf16) (kn : Vec Ideal S1x2x256 .bf16) (g : Fin 16) (l : Fin 128) :
    snPay h.val h.isLt q kn (ix2 g l)
      = (∑ d : Fin 256, q (ix3 (0 : Fin 1) g d) * kn (ix3 (0 : Fin 1) h d)) * (Scl.scl : Ideal .f32) := by
  have e : snPay h.val h.isLt q kn (ix2 g l)
      = (∑ l : Fin 128, (q (ix3 (0 : Fin 1) g (⟨l.val, by omega⟩ : Fin 256)) * newRow h.val h.isLt kn (ix2 (0 : Fin 1) (⟨l.val, by omega⟩ : Fin 256))
        + q (ix3 (0 : Fin 1) g (⟨128 + l.val, by omega⟩ : Fin 256)) * newRow h.val h.isLt kn (ix2 (0 : Fin 1) (⟨128 + l.val, by omega⟩ : Fin 256))))
        * (Scl.scl : Ideal .f32) := by
    unfold snPay
    generalize newRow h.val h.isLt kn = w
    pointwise
  rw [e]
  simp only [newRow_apply]
  rw [Finset.sum_add_distrib]
  congr 1
  exact (Fin.sum_univ_add (fun d : Fin (128 + 128) => q (ix3 (0 : Fin 1) g d) * kn (ix3 (0 : Fin 1) h d))).symm

theorem fM_apply (m sn : FVec Ideal S64x128 .f32) (r : Fin 64) (l : Fin 128) : fM m sn (ix2 r l) = max (m (ix2 r l)) (sn (ix2 r l)) := rfl

theorem fInv_apply (l m sn : FVec Ideal S64x128 .f32) (r : Fin 64) (i : Fin 128) :
    fInv l m sn (ix2 r i) = Ideal.div 1 ((∑ j : Fin 128, l (ix2 r j) * Ideal.exp2 (m (ix2 r j) - fM m sn (ix2 r j)))
      + Ideal.exp2 (sn (ix2 r i) - fM m sn (ix2 r i))) := by
  unfold fInv
  generalize fM m sn = w
  have e := rowSum_apply (mulf l (exp2 (subf m w))) r i
  have h1 : Ideal.ofBits .f32 0x3F800000#32 = 1 := by simp [Ideal.ofBits, Ideal.ieee, -EReal.coe_mul]; norm_num
  show Ideal.div (Ideal.ofBits .f32 0x3F800000#32) (rowSum (mulf l (exp2 (subf m w))) (ix2 r i) + Ideal.exp2 (sn (ix2 r i) - w (ix2 r i))) = _
  rw [e, h1]
  rfl

theorem fP_apply (l m sn : FVec Ideal S64x128 .f32) (r : Fin 64) (d : Fin 256) :
    fP l m sn (ix2 r d) = Ideal.exp2 (sn (ix2 r (⟨d.val % 128, by omega⟩ : Fin 128)) - fM m sn (ix2 r (⟨d.val % 128, by omega⟩ : Fin 128)))
      * fInv l m sn (ix2 r (⟨d.val % 128, by omega⟩ : Fin 128)) := by
  unfold fP
  exact wide_apply _ r d

theorem fO_apply (acc : Vec Ideal S1x64x256 .f32) (l m sn : FVec Ideal S64x128 .f32) (r : Fin 64) (d : Fin 256) :
    fO acc l m sn (ix2 r d) = acc (ix3 (0 : Fin 1) r d)
      * (Ideal.exp2 (m (ix2 r (⟨d.val % 128, by omega⟩ : Fin 128)) - fM m sn (ix2 r (⟨d.val % 128, by omega⟩ : Fin 128)))
        * fInv l m sn (ix2 r (⟨d.val % 128, by omega⟩ : Fin 128))) := by
  unfold fO
  have e := wide_apply (mulf (exp2 (subf m (fM m sn))) (fInv l m sn)) r d
  generalize wide (mulf (exp2 (subf m (fM m sn))) (fInv l m sn)) = w at e
  refine Eq.trans (b := acc (ix3 (0 : Fin 1) r d) * w (ix2 r d)) ?_ ?_
  · pointwise
  · rw [e]; rfl

theorem fRow_apply (h : Fin 2) (b : Fin 4) (o p : FVec Ideal S64x256 .f32) (vn : Vec Ideal S1x2x256 .bf16) (g : Fin 16) (d : Fin 256) :
    fRow h.val h.isLt b.val b.isLt o p vn (ix2 g d)
      = o (ix2 (⟨16 * b.val + g.val, by omega⟩ : Fin 64) d) + p (ix2 (⟨16 * b.val + g.val, by omega⟩ : Fin 64) d) * vn (ix3 (0 : Fin 1) h d) := by
  rw [← newRow_apply h vn d]
  unfold fRow
  generalize newRow h.val h.isLt vn = w
  pointwise

theorem half0_apply (x : FVec Ideal S16x256 .f32) (g : Fin 16) (l : Fin 128) : half0 x (ix2 g l) = x (ix2 g (⟨l.val, by omega⟩ : Fin 256)) := by
  pointwise [half0]
theorem half1_apply (x : FVec Ideal S16x256 .f32) (g : Fin 16) (l : Fin 128) : half1 x (ix2 g l) = x (ix2 g (⟨128 + l.val, by omega⟩ : Fin 256)) := by
  pointwise [half1]

end Cascade
-- ==== Proof.Val.KernValue.lean ====
/- What the kernel's running maxima, sums and accumulators hold after each chunk, over the extended reals. -/
module

public import proofs.«01_k».proof.Proof.Kern.Model
public import proofs.«01_k».proof.Proof.Val.Pay

@[expose] public section

noncomputable section

namespace Cascade.In

open Idealize.ShloMosaic Idealize.ShloMosaic.TcCoe Cascade.Soft Cascade.Spec
open VecWindow

variable [Scl Ideal] (I : In Ideal)

/-- Sequence `b`'s query `g` among a head's 64 rows. -/
def row (b : Fin 4) (g : Fin 16) : Fin 64 := ⟨16 * b.val + g.val, by omega⟩

/-- A score in base-2 units, of row `r` of head `h`. -/
def s2 (h : Fin 2) (r : Fin 64) (t : ℕ) : EReal :=
  (∑ d : Fin 256, I.q (ix3 h r d) * I.k (ix3 h (Spec.tok t) d)) * (I.ks (ix2 h (Spec.tok t)) * (Scl.scl : Ideal .f32))

theorem tileV_apply (c : ℕ) (h : Fin 2) (j : ℕ) (hj : j < 8) (r : Fin 64) (t : Fin 256) :
    I.tileV c h j hj (ix2 r t) = I.s2 h r (2048 * c + (256 * j + t.val)) := by
  unfold tileV
  rw [scorePay_apply]
  have e : ∀ d : Fin 256, I.qH h (ix3 (0 : Fin 1) r d) = I.q (ix3 h r d) := fun d => by
    show I.q _ = I.q _
    congr 1
    funext a
    fin_cases a <;> apply Fin.ext
    · show h.val + 1 * 0 = h.val; omega
    · show 0 + 1 * r.val = r.val; omega
    · show 0 + 1 * d.val = d.val; omega
  simp only [e]
  rfl

theorem mx_sup (c : ℕ) (h : Fin 2) (r : Fin 64) : ∀ (j : ℕ) (hj : j < 8),
    ((Finset.univ : Finset (Fin 128)).sup fun l => I.mx c h j hj (ix2 r l)) = Soft.M (fun i => I.s2 h r (2048 * c + i)) (256 * (j + 1)) := by
  have tile : ∀ (j : ℕ) (hj : j < 8), ((Finset.univ : Finset (Fin 128)).sup fun l => pairMax (I.tileV c h j hj) (ix2 r l))
      = (Finset.range 256).sup fun i => I.s2 h r (2048 * c + (256 * j + i)) := fun j hj => by
    simp only [pairMax_apply, tileV_apply]
    have e := M_add (fun i => I.s2 h r (2048 * c + (256 * j + i))) 128 128
    refine Eq.trans ?_ e.symm
    refine (Finset.sup_sup (s := Finset.univ) (f := fun l : Fin 128 => I.s2 h r (2048 * c + (256 * j + l.val)))
      (g := fun l : Fin 128 => I.s2 h r (2048 * c + (256 * j + (128 + l.val))))).trans ?_
    exact congrArg₂ max (sup_fin (fun i => I.s2 h r (2048 * c + (256 * j + i)))) (sup_fin (fun i => I.s2 h r (2048 * c + (256 * j + (128 + i)))))
  intro j
  induction j with
  | zero =>
    intro hj
    refine (tile 0 hj).trans ?_
    unfold Soft.M
    simp
  | succ j ih =>
    intro hj
    show ((Finset.univ : Finset (Fin 128)).sup fun l => max (I.mx c h j (by omega) (ix2 r l)) (pairMax (I.tileV c h (j + 1) hj) (ix2 r l))) = _
    refine (Finset.sup_sup (s := Finset.univ) (f := fun l : Fin 128 => I.mx c h j (by omega) (ix2 r l))
      (g := fun l : Fin 128 => pairMax (I.tileV c h (j + 1) hj) (ix2 r l))).trans ?_
    rw [tile, ih, show 256 * (j + 1 + 1) = 256 * (j + 1) + 256 by ring, M_add]

theorem mst_apply (h : Fin 2) (r : Fin 64) (c : ℕ) : ∀ l : Fin 128, I.mst h c (ix2 r l) = Soft.M (I.s2 h r) (2048 * c) := by
  induction c with
  | zero =>
    intro l
    show Ideal.ofBits .f32 0xFF800000#32 = Soft.M _ 0
    have hb : Ideal.ofBits .f32 0xFF800000#32 = ⊥ := by simp [Ideal.ofBits, Ideal.ieee, -EReal.coe_mul]
    rw [hb]; simp [Soft.M]
  | succ c ih =>
    intro l
    show mNew (I.mst h c) (I.mx c h 7 (by decide)) (ix2 r l) = _
    rw [mNew_apply, ih, mx_sup, show 2048 * (c + 1) = 2048 * c + 2048 by ring, M_add]
    rfl

theorem ast_apply (h : Fin 2) (r : Fin 64) (c : ℕ) (l : Fin 128) :
    I.ast h c (ix2 r l) = Ideal.exp2 (Soft.M (I.s2 h r) (2048 * c) - Soft.M (I.s2 h r) (2048 * c + 2048)) := by
  unfold ast
  rw [aNew_apply, mst_apply, mst_apply, show 2048 * (c + 1) = 2048 * c + 2048 by ring]

theorem sc_apply (c : ℕ) (h : Fin 2) (r : Fin 64) (i : Fin 2048) : I.sc c (ix3 h r i) = I.s2 h r (2048 * c + i.val) := by
  have hh : ∀ a, tS.off (h, (⟨i.val / 256, by omega⟩ : Fin 8)) a ≤ ((ix3 h r i : S2x64x2048.Idx) a).val
      ∧ ((ix3 h r i : S2x64x2048.Idx) a).val < tS.off (h, (⟨i.val / 256, by omega⟩ : Fin 8)) a + tS.sz a := by
    intro a
    fin_cases a
    · show h.val ≤ h.val ∧ h.val < h.val + 1; omega
    · show 0 ≤ r.val ∧ r.val < 0 + 64; omega
    · show 256 * (i.val / 256) ≤ i.val ∧ i.val < 256 * (i.val / 256) + 256; omega
  unfold sc
  rw [Tiling.asm_of tS _ (h, (⟨i.val / 256, by omega⟩ : Fin 8)) _ hh]
  have e : Rect.unitLocal (s := S2x64x2048) (off := tS.off (h, (⟨i.val / 256, by omega⟩ : Fin 8))) (size := tS.sz) (ix3 h r i) hh
      = (ix3 (0 : Fin 1) r (⟨i.val % 256, by omega⟩ : Fin 256) : S1x64x256.Idx) := by
    funext a
    fin_cases a <;> apply Fin.ext
    · show h.val - h.val = 0; omega
    · show r.val - 0 = r.val; omega
    · show i.val - 256 * (i.val / 256) = i.val % 256; omega
  rw [e]
  have e2 : ∀ t : Fin 256, I.tileG c (h, (⟨i.val / 256, by omega⟩ : Fin 8)) (ix3 (0 : Fin 1) r t)
      = I.tileV c h (i.val / 256) (by omega) (ix2 r t) := fun t => by
    unfold tileG
    generalize I.tileV c (h, (⟨i.val / 256, by omega⟩ : Fin 8)).1 _ _ = w
    pointwise
  rw [e2, tileV_apply]
  congr 1
  show 2048 * c + (256 * (i.val / 256) + i.val % 256) = 2048 * c + i.val
  omega

theorem pV_apply (c : ℕ) (h : Fin 2) (j : ℕ) (hj : j < 16) (r : Fin 64) (l : Fin 128) :
    I.pV c h j hj (ix2 r l) = E (I.s2 h r) (Soft.M (I.s2 h r) (2048 * c + 2048)) (2048 * c + (128 * j + l.val)) := by
  unfold pV
  rw [pPay_apply, mst_apply, show 2048 * (c + 1) = 2048 * c + 2048 by ring]
  unfold E
  congr 2
  have e : ∀ x : S2x64x2048.Idx → EReal, window x ![h.val, 0, 128 * j] S1x64x128.size (inb_sb h.isLt hj) (ix3 (0 : Fin 1) r l)
      = x (ix3 h r (⟨128 * j + l.val, by omega⟩ : Fin 2048)) := fun x => by
    show x _ = x _
    congr 1
    funext a
    fin_cases a <;> apply Fin.ext
    · show h.val + 1 * 0 = h.val; omega
    · show 0 + 1 * r.val = r.val; omega
    · show 128 * j + 1 * l.val = 128 * j + l.val; omega
  exact (e (I.sc c)).trans (I.sc_apply c h r _)

theorem psV_apply (c : ℕ) (h : Fin 2) (j : ℕ) (hj : j < 16) (r : Fin 64) (l : Fin 128) :
    I.psV c h j hj (ix2 r l) = E (I.s2 h r) (Soft.M (I.s2 h r) (2048 * c + 2048)) (2048 * c + (128 * j + l.val))
      * I.vs (ix2 h (Spec.tok (2048 * c + (128 * j + l.val)))) := by
  unfold psV
  rw [psPay_apply, pV_apply]
  rfl

theorem lsum_apply (c : ℕ) (h : Fin 2) (l0 : FVec Ideal S64x128 .f32) (r : Fin 64) (l : Fin 128) : ∀ (j : ℕ) (hj : j < 16),
    I.lsum c h l0 j hj (ix2 r l) = l0 (ix2 r l)
      + ∑ i ∈ Finset.range (j + 1), E (I.s2 h r) (Soft.M (I.s2 h r) (2048 * c + 2048)) (2048 * c + (128 * i + l.val)) := by
  intro j
  induction j with
  | zero =>
    intro hj
    show l0 (ix2 r l) + I.pV c h 0 hj (ix2 r l) = _
    rw [pV_apply]; simp
  | succ j ih =>
    intro hj
    show I.lsum c h l0 j (by omega) (ix2 r l) + I.pV c h (j + 1) hj (ix2 r l) = _
    rw [ih, pV_apply, Finset.sum_range_succ _ (j + 1), add_assoc]

/-- A sum over whole groups of 128 tokens that keeps one lane. -/
theorem sum_lane (f : ℕ → EReal) (l : Fin 128) (n : ℕ) :
    (∑ i ∈ Finset.range (128 * n), f i * lane l.val i) = ∑ j ∈ Finset.range n, f (128 * j + l.val) := by
  induction n with
  | zero => simp
  | succ n ih =>
    rw [show 128 * (n + 1) = 128 * n + 128 by ring, Finset.sum_range_add, ih, Finset.sum_range_succ (fun j => f (128 * j + l.val)) n]
    have e : (∑ i ∈ Finset.range 128, f (128 * n + i) * lane l.val (128 * n + i)) = f (128 * n + l.val) := by
      rw [Finset.sum_eq_single l.val]
      · have : (128 * n + l.val) % 128 = l.val := by omega
        rw [lane, if_pos this, mul_one]
      · intro i hi hne
        have : ¬ ((128 * n + i) % 128 = l.val) := by have := Finset.mem_range.mp hi; omega
        rw [lane, if_neg this, mul_zero]
      · intro h; exact absurd (Finset.mem_range.mpr l.isLt) h
    rw [e]

theorem lst_apply (h : Fin 2) (r : Fin 64) (c : ℕ) : ∀ l : Fin 128, I.lst h c (ix2 r l) = R (I.s2 h r) (lane l.val) (2048 * c) := by
  induction c with
  | zero =>
    intro l
    show Ideal.ofBits .f32 0x00000000#32 = R _ _ 0
    have hb : Ideal.ofBits .f32 0x00000000#32 = 0 := by simp [Ideal.ofBits, Ideal.ieee, -EReal.coe_mul]
    rw [hb]; simp [R]
  | succ c ih =>
    intro l
    show I.lsum c h (mulf (I.lst h c) (I.ast h c)) 15 (by decide) (ix2 r l) = _
    rw [lsum_apply, show 2048 * (c + 1) = 2048 * c + 2048 by ring, ← R_add]
    show I.lst h c (ix2 r l) * I.ast h c (ix2 r l) + _ = _
    rw [ih, ast_apply]
    congr 1
    rw [← sum_lane (fun i => E (I.s2 h r) (Soft.M (I.s2 h r) (2048 * c + 2048)) (2048 * c + i)) l 16]
    refine Finset.sum_congr rfl fun i _ => ?_
    congr 1
    have : (2048 * c + i) % 128 = i % 128 := by omega
    unfold lane
    rw [this]

theorem cast_apply (x : FVec Ideal S64x256 .f32) (r : Fin 64) (d : Fin 256) :
    (shapeCast S1x64x256 x : Vec Ideal S1x64x256 .f32) (ix3 (0 : Fin 1) r d) = x (ix2 r d) := by
  pointwise

theorem accst_apply (h : Fin 2) (r : Fin 64) (c : ℕ) : ∀ d : Fin 256,
    I.accst h c (ix2 r d) = R (I.s2 h r) (fun t => I.vs (ix2 h (Spec.tok t)) * I.v (ix3 h (Spec.tok t) d)) (2048 * c) := by
  induction c with
  | zero =>
    intro d
    show wide _ (ix2 r d) = _
    rw [wide_apply]
    show Ideal.ofBits .f32 0x00000000#32 = R _ _ 0
    have hb : Ideal.ofBits .f32 0x00000000#32 = 0 := by simp [Ideal.ofBits, Ideal.ieee, -EReal.coe_mul]
    rw [hb]; simp [R]
  | succ c ih =>
    intro d
    show accPay (shapeCast S1x64x256 (I.accst h c)) (I.ast h c) (cat16 fun i => I.psR c h 15 (by decide) i.val)
      (boxK (chunkK I.v c) h 0 2048 (by omega)) (ix2 r d) = _
    rw [accPay_apply, show 2048 * (c + 1) = 2048 * c + 2048 by ring, ← R_add, ast_apply]
    rw [cast_apply, ih]
    refine congrArg (HAdd.hAdd _) ?_
    refine Eq.trans (Finset.sum_congr rfl fun t _ => ?_) (sum_fin (n := 2048) fun i => E (I.s2 h r) (Soft.M (I.s2 h r) (2048 * c + 2048)) (2048 * c + i)
      * (I.vs (ix2 h (Spec.tok (2048 * c + i))) * I.v (ix3 h (Spec.tok (2048 * c + i)) d)))
    rw [cat16_apply, I.psR_eq c h 15 (by decide) (t.val / 128) (by omega), psV_apply]
    have e2 : 128 * (t.val / 128) + t.val % 128 = t.val := by omega
    show E _ _ (2048 * c + (128 * (t.val / 128) + t.val % 128)) * I.vs (ix2 h (Spec.tok (2048 * c + (128 * (t.val / 128) + t.val % 128)))) * _ = _
    rw [e2, mul_assoc]
    refine congrArg (HMul.hMul _) (congrArg (HMul.hMul _) ?_)
    show I.v (ix3 h (Spec.tok (2048 * c + (0 + t.val))) d) = _
    rw [Nat.zero_add]

end Cascade.In
-- ==== Proof.Val.KernOut.lean ====
/- The kernel's result entry by entry, over the extended reals: the attention of its operands. -/
module

public import proofs.«01_k».proof.Proof.Val.KernValue

@[expose] public section

noncomputable section

namespace Cascade.In

open Idealize.ShloMosaic Idealize.ShloMosaic.TcCoe Cascade.Soft Cascade.Spec
open VecWindow

variable [Scl Ideal] (I : In Ideal)

theorem xW_apply (h : Fin 2) (b : Fin 4) (g : Fin 16) (d : Fin 256) :
    I.xW h b (ix3 (0 : Fin 1) g d) = I.x (ix3 b (head h g) d) := by
  show I.x _ = I.x _
  congr 1
  funext a
  fin_cases a <;> apply Fin.ext
  · show b.val + 1 * 0 = b.val; omega
  · show 16 * h.val + 1 * g.val = h.val * 16 + g.val; omega
  · show 0 + 1 * d.val = d.val; omega

theorem knW_apply (b : Fin 4) (h : Fin 2) (d : Fin 256) : I.knW b (ix3 (0 : Fin 1) h d) = I.kn (ix3 b h d) := by
  show I.kn _ = I.kn _
  congr 1
  funext a
  fin_cases a <;> apply Fin.ext
  · show b.val + 1 * 0 = b.val; omega
  · show 0 + 1 * h.val = h.val; omega
  · show 0 + 1 * d.val = d.val; omega

theorem vnW_apply (b : Fin 4) (h : Fin 2) (d : Fin 256) : I.vnW b (ix3 (0 : Fin 1) h d) = I.vn (ix3 b h d) := by
  show I.vn _ = I.vn _
  congr 1
  funext a
  fin_cases a <;> apply Fin.ext
  · show b.val + 1 * 0 = b.val; omega
  · show 0 + 1 * h.val = h.val; omega
  · show 0 + 1 * d.val = d.val; omega

theorem cast16_apply (x : Vec Ideal S1x16x256 .bf16) (g : Fin 16) (d : Fin 256) :
    (shapeCast S1x16x256 (shapeCast S16x256 x : FVec Ideal S16x256 .bf16) : Vec Ideal S1x16x256 .bf16) (ix3 (0 : Fin 1) g d)
      = x (ix3 (0 : Fin 1) g d) := by
  pointwise

theorem q_apply (h : Fin 2) (b : Fin 4) (g : Fin 16) (d : Fin 256) : I.q (ix3 h (row b g) d) = I.x (ix3 b (head h g) d) := by
  have hh : ∀ a, tQ.off (h, b) a ≤ ((ix3 h (row b g) d : S2x64x256.Idx) a).val
      ∧ ((ix3 h (row b g) d : S2x64x256.Idx) a).val < tQ.off (h, b) a + tQ.sz a := by
    intro a
    fin_cases a
    · show h.val ≤ h.val ∧ h.val < h.val + 1; omega
    · show 16 * b.val ≤ 16 * b.val + g.val ∧ 16 * b.val + g.val < 16 * b.val + 16; omega
    · show 0 ≤ d.val ∧ d.val < 0 + 256; omega
  unfold q
  rw [Tiling.asm_of tQ _ (h, b) _ hh]
  have e : Rect.unitLocal (s := S2x64x256) (off := tQ.off (h, b)) (size := tQ.sz) (ix3 h (row b g) d) hh
      = (ix3 (0 : Fin 1) g d : S1x16x256.Idx) := by
    funext a
    fin_cases a <;> apply Fin.ext
    · show h.val - h.val = 0; omega
    · show 16 * b.val + g.val - 16 * b.val = g.val; omega
    · show d.val - 0 = d.val; omega
  rw [e]
  exact (cast16_apply (I.xW h b) g d).trans (I.xW_apply h b g d)

theorem castN_apply (x : FVec Ideal S16x128 .f32) (g : Fin 16) (l : Fin 128) :
    (shapeCast S1x16x128 x : Vec Ideal S1x16x128 .f32) (ix3 (0 : Fin 1) g l) = x (ix2 g l) := by
  pointwise
theorem castM_apply (x : Vec Ideal S1x64x128 .f32) (r : Fin 64) (l : Fin 128) :
    (shapeCast S64x128 x : FVec Ideal S64x128 .f32) (ix2 r l) = x (ix3 (0 : Fin 1) r l) := by
  pointwise

/-- The new token's score in base-2 units. -/
def n2 (h : Fin 2) (b : Fin 4) (g : Fin 16) : EReal :=
  (∑ d : Fin 256, I.x (ix3 b (head h g) d) * I.kn (ix3 b h d)) * (Scl.scl : Ideal .f32)

theorem snH_apply (h : Fin 2) (b : Fin 4) (g : Fin 16) (l : Fin 128) : I.snH h (ix2 (row b g) l) = I.n2 h b g := by
  unfold snH
  rw [castM_apply]
  have e0 : ∀ r : Fin 64, I.snW h (ix3 (0 : Fin 1) r l) = I.sn (ix3 h r l) := fun r => by
    show I.sn _ = I.sn _
    congr 1
    funext a
    fin_cases a <;> apply Fin.ext
    · show h.val + 1 * 0 = h.val; omega
    · show 0 + 1 * r.val = r.val; omega
    · show 0 + 1 * l.val = l.val; omega
  rw [e0]
  have hh : ∀ a, tN.off (h, b) a ≤ ((ix3 h (row b g) l : S2x64x128.Idx) a).val
      ∧ ((ix3 h (row b g) l : S2x64x128.Idx) a).val < tN.off (h, b) a + tN.sz a := by
    intro a
    fin_cases a
    · show h.val ≤ h.val ∧ h.val < h.val + 1; omega
    · show 16 * b.val ≤ 16 * b.val + g.val ∧ 16 * b.val + g.val < 16 * b.val + 16; omega
    · show 0 ≤ l.val ∧ l.val < 0 + 128; omega
  unfold sn
  rw [Tiling.asm_of tN _ (h, b) _ hh]
  have e : Rect.unitLocal (s := S2x64x128) (off := tN.off (h, b)) (size := tN.sz) (ix3 h (row b g) l) hh
      = (ix3 (0 : Fin 1) g l : S1x16x128.Idx) := by
    funext a
    fin_cases a <;> apply Fin.ext
    · show h.val - h.val = 0; omega
    · show 16 * b.val + g.val - 16 * b.val = g.val; omega
    · show l.val - 0 = l.val; omega
  rw [e]
  refine (castN_apply (snPay h.val h.isLt (I.xW h b) (I.knW b)) g l).trans ?_
  rw [snPay_apply]
  simp only [xW_apply, knW_apply]
  rfl

theorem rowV_apply (h : Fin 2) (b : Fin 4) (g : Fin 16) (d : Fin 256) :
    let s := I.s2 h (row b g); let sn := I.n2 h b g; let m := max (Soft.M s 65536) sn
    let inv := Ideal.div 1 ((∑ l : Fin 128, R s (lane l.val) 65536 * Ideal.exp2 (Soft.M s 65536 - m)) + Ideal.exp2 (sn - m))
    I.rowV h b (ix2 g d)
      = R s (fun t => I.vs (ix2 h (Spec.tok t)) * I.v (ix3 h (Spec.tok t) d)) 65536 * (Ideal.exp2 (Soft.M s 65536 - m) * inv)
        + Ideal.exp2 (sn - m) * inv * I.vn (ix3 b h d) := by
  intro s sn m inv
  have hM : ∀ l, I.mst h 32 (ix2 (row b g) l) = Soft.M s 65536 := fun l => I.mst_apply h (row b g) 32 l
  have hL : ∀ l : Fin 128, I.lst h 32 (ix2 (row b g) l) = R s (lane l.val) 65536 := fun l => I.lst_apply h (row b g) 32 l
  have hA : I.accst h 32 (ix2 (row b g) d) = R s (fun t => I.vs (ix2 h (Spec.tok t)) * I.v (ix3 h (Spec.tok t) d)) 65536 :=
    I.accst_apply h (row b g) 32 d
  have hS : ∀ l, I.snH h (ix2 (row b g) l) = sn := fun l => I.snH_apply h b g l
  have hI : ∀ l, fInv (I.lst h 32) (I.mst h 32) (I.snH h) (ix2 (row b g) l) = inv := fun l => by
    rw [fInv_apply]
    simp only [fM_apply, hM, hS, hL]
    rfl
  unfold rowV
  rw [fRow_apply, vnW_apply]
  show I.fOV h (ix2 (row b g) d) + I.fPV h (ix2 (row b g) d) * _ = _
  unfold fOV fPV
  rw [fO_apply, fP_apply, hI, fM_apply, hM, hS, cast_apply, hA]

/-! ## The result array -/

theorem castO_apply (x : FVec Ideal S16x128 .f32) (g : Fin 16) (l : Fin 128) :
    (shapeCast S1x1x16x128 x : Vec Ideal S1x1x16x128 .f32) (ix4 (0 : Fin 1) (0 : Fin 1) g l) = x (ix2 g l) := by
  pointwise

theorem castT_apply (x : Vec Ideal S1x1x4x128 .f32) (b : Fin 4) (l : Fin 128) :
    (shapeCast S4x128 (truncf .bf16 (shapeCast S4x128 x : FVec Ideal S4x128 .f32) (by decide) : FVec Ideal S4x128 .bf16) : Vec Ideal S4x128 .bf16) (ix2 b l)
      = x (ix4 (0 : Fin 1) (0 : Fin 1) b l) := by
  pointwise

theorem outT_apply (h f : Fin 2) (g : Fin 16) (b : Fin 4) (l : Fin 128) :
    I.outT h f g (ix2 b l) = I.rowV h b (ix2 g (⟨128 * f.val + l.val, by omega⟩ : Fin 256)) := by
  unfold outT
  rw [castT_apply]
  show I.oG (h, f, b) (ix4 (0 : Fin 1) (0 : Fin 1) g l) = _
  have e0 : I.oG (h, (0 : Fin 2), b) = shapeCast S1x1x16x128 (half0 (I.rowV h b)) := if_pos rfl
  have e1 : I.oG (h, (1 : Fin 2), b) = shapeCast S1x1x16x128 (half1 (I.rowV h b)) := if_neg (by decide : ¬ (1 : Fin 2) = 0)
  fin_cases f
  · refine (congrFun e0 (ix4 (0 : Fin 1) (0 : Fin 1) g l)).trans ?_
    rw [castO_apply, half0_apply]
    congr 2
    apply Fin.ext
    show l.val = 128 * 0 + l.val
    omega
  · refine (congrFun e1 (ix4 (0 : Fin 1) (0 : Fin 1) g l)).trans ?_
    rw [castO_apply, half1_apply]
    rfl

theorem out_apply (b : Fin 4) (h : Fin 2) (g : Fin 16) (d : Fin 256) (y : Fin 8192) (hy : y.val = 4096 * h.val + 256 * g.val + d.val) :
    I.out (ix2 b y) = I.rowV h b (ix2 g d) := by
  obtain ⟨n, hn⟩ : ∃ n : Fin 64, n.val = y.val / 128 := ⟨⟨y.val / 128, by omega⟩, rfl⟩
  have hh : ∀ a, tB.off n a ≤ ((ix2 b y : S4x8192.Idx) a).val ∧ ((ix2 b y : S4x8192.Idx) a).val < tB.off n a + tB.sz a := by
    intro a
    fin_cases a
    · show 0 ≤ b.val ∧ b.val < 0 + 4; omega
    · show 128 * n.val ≤ y.val ∧ y.val < 128 * n.val + 128; omega
  unfold out
  rw [Tiling.asm_of tB _ n _ hh]
  have e : Rect.unitLocal (s := S4x8192) (off := tB.off n) (size := tB.sz) (ix2 b y) hh
      = (ix2 b (⟨d.val % 128, by omega⟩ : Fin 128) : S4x128.Idx) := by
    funext a
    fin_cases a <;> apply Fin.ext
    · show b.val - 0 = b.val; omega
    · show y.val - 128 * n.val = d.val % 128; omega
  rw [e]
  unfold outG
  rw [outT_apply]
  have key : ∀ (h' : Fin 2) (g' : Fin 16) (d' : Fin 256), h' = h → g' = g → d' = d → I.rowV h' b (ix2 g' d') = I.rowV h b (ix2 g d) := by
    rintro _ _ _ rfl rfl rfl; rfl
  refine key _ _ _ (Fin.ext ?_) (Fin.ext ?_) (Fin.ext ?_)
  · show n.val / 32 = h.val; omega
  · show n.val % 32 / 2 = g.val; omega
  · show 128 * (n.val % 2) + d.val % 128 = d.val; omega

/-- THE KERNEL'S RESULT AT AN INDEX, from its operands' entries. -/
theorem out_res (hC : (Scl.scl : Ideal .f32) = (((1 / 16) * (Real.log 2)⁻¹ : ℝ) : EReal))
    (a0 : (⟨4, ![4, 1, 32, 256]⟩ : Shape).Idx → EReal) (a1 a2 : (⟨4, ![4, 1, 2, 256]⟩ : Shape).Idx → EReal)
    (a3 : (⟨3, ![65536, 2, 256]⟩ : Shape).Idx → EReal) (a4 : (⟨2, ![65536, 2]⟩ : Shape).Idx → EReal)
    (a5 : (⟨3, ![65536, 2, 256]⟩ : Shape).Idx → EReal) (a6 : (⟨2, ![65536, 2]⟩ : Shape).Idx → EReal)
    (h0 : ∀ b i d, I.x (ix3 b i d) = a0 (ix4 b (0 : Fin 1) i d))
    (h1 : ∀ b h d, I.kn (ix3 b h d) = a1 (ix4 b (0 : Fin 1) h d)) (h2 : ∀ b h d, I.vn (ix3 b h d) = a2 (ix4 b (0 : Fin 1) h d))
    (h3 : ∀ h t d, I.k (ix3 h t d) = a3 (ix3 t h d)) (h4 : ∀ h t, I.ks (ix2 h t) = a4 (ix2 t h))
    (h5 : ∀ h t d, I.v (ix3 h t d) = a5 (ix3 t h d)) (h6 : ∀ h t, I.vs (ix2 h t) = a6 (ix2 t h))
    (b : Fin 4) (h : Fin 2) (g : Fin 16) (d : Fin 256) (y : Fin 8192) (hy : y.val = 4096 * h.val + 256 * g.val + d.val) :
    I.out (ix2 b y) = res a0 a1 a2 a3 a4 a5 a6 b h g d := by
  rw [I.out_apply b h g d y hy]
  have es : I.s2 h (row b g) = fun t => score a0 a3 a4 b h g t * (κ : EReal) := by
    funext t
    unfold s2 score
    simp only [q_apply, h0, h3, h4]
    rw [hC, EReal.coe_mul, mul_assoc, mul_assoc]
    rfl
  have en : I.n2 h b g = newScore a0 a1 b h g * (κ : EReal) := by
    unfold n2 newScore
    simp only [h0, h1]
    rw [hC, EReal.coe_mul, mul_assoc]
    rfl
  refine (I.rowV_apply h b g d).trans ?_
  rw [es, en, h2]
  have ev : (fun t => I.vs (ix2 h (Spec.tok t)) * I.v (ix3 h (Spec.tok t) d)) = fun t => a6 (ix2 (Spec.tok t) h) * a5 (ix3 (Spec.tok t) h d) := by
    funext t; rw [h5, h6]
  rw [ev]
  exact Soft.merge (score a0 a3 a4 b h g) (fun t => a6 (ix2 (Spec.tok t) h)) (fun t => a5 (ix3 (Spec.tok t) h d)) (newScore a0 a1 b h g)
    (a2 (ix4 b (0 : Fin 1) h d)) 65536

end Cascade.In
-- ==== Proof.Val.KernArr.lean ====
/- The kernel's result array from the program's arguments: its host operations entry by entry, then the attention. -/
module

public import proofs.«01_k».proof.Proof.Kern.LaunchIdeal
public import proofs.«01_k».proof.Proof.Val.KernOut

@[expose] public section

noncomputable section

namespace Cert.KernelIdeal.Val

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (c : Dev nD)

theorem V_x : (V m c main_v0 : Vec Ideal S4x32x256 .bf16)
    = shapeCast S4x32x256 (m ((c : Thread nD τ).loc main_arg0)) shapeCasts_S4x1x32x256_S4x32x256 := by
  show StableHlo.after hostOps0 _ (Proc.devRef .tc main_v0) = _
  after_results
  rfl

theorem V_kn : (V m c main_v1 : Vec Ideal S4x2x256 .bf16)
    = shapeCast S4x2x256 (m ((c : Thread nD τ).loc main_arg1)) shapeCasts_S4x1x2x256_S4x2x256 := by
  show StableHlo.after hostOps0 _ (Proc.devRef .tc main_v1) = _
  after_results
  rfl

theorem V_vn : (V m c main_v2 : Vec Ideal S4x2x256 .bf16)
    = shapeCast S4x2x256 (m ((c : Thread nD τ).loc main_arg2)) shapeCasts_S4x1x2x256_S4x2x256 := by
  show StableHlo.after hostOps0 _ (Proc.devRef .tc main_v2) = _
  after_results
  rfl

theorem V_k : (V m c main_v3 : Vec Ideal S2x65536x256 .fp8e4m3) = transpose S2x65536x256 [1, 0, 2]
    (m ((c : Thread nD τ).loc main_arg3) : Vec Ideal S65536x2x256 .fp8e4m3) transposes_S65536x2x256_S2x65536x256_1_0_2 := by
  show StableHlo.after hostOps0 _ (Proc.devRef .tc main_v3) = _
  after_results

theorem V_ks : (V m c main_v4 : Vec Ideal S2x65536 .f32) = transpose S2x65536 [1, 0]
    (m ((c : Thread nD τ).loc main_arg4) : Vec Ideal S65536x2 .f32) transposes_S65536x2_S2x65536_1_0 := by
  show StableHlo.after hostOps0 _ (Proc.devRef .tc main_v4) = _
  after_results

theorem V_v : (V m c main_v5 : Vec Ideal S2x65536x256 .fp8e4m3) = transpose S2x65536x256 [1, 0, 2]
    (m ((c : Thread nD τ).loc main_arg5) : Vec Ideal S65536x2x256 .fp8e4m3) transposes_S65536x2x256_S2x65536x256_1_0_2 := by
  show StableHlo.after hostOps0 _ (Proc.devRef .tc main_v5) = _
  after_results

theorem V_vs : (V m c main_v6 : Vec Ideal S2x65536 .f32) = transpose S2x65536 [1, 0]
    (m ((c : Thread nD τ).loc main_arg6) : Vec Ideal S65536x2 .f32) transposes_S65536x2_S2x65536_1_0 := by
  show StableHlo.after hostOps0 _ (Proc.devRef .tc main_v6) = _
  after_results

theorem x_apply (x : Vec Ideal S4x1x32x256 .bf16) (b : Fin 4) (i : Fin 32) (d : Fin 256) :
    (shapeCast S4x32x256 x shapeCasts_S4x1x32x256_S4x32x256 : Vec Ideal S4x32x256 .bf16) (ix3 b i d) = x (ix4 b (0 : Fin 1) i d) := by
  pointwise

theorem new_apply (x : Vec Ideal S4x1x2x256 .bf16) (b : Fin 4) (h : Fin 2) (d : Fin 256) :
    (shapeCast S4x2x256 x shapeCasts_S4x1x2x256_S4x2x256 : Vec Ideal S4x2x256 .bf16) (ix3 b h d) = x (ix4 b (0 : Fin 1) h d) := by
  pointwise

theorem kv_apply (x : Vec Ideal S65536x2x256 .fp8e4m3) (h : Fin 2) (t : Fin 65536) (d : Fin 256) :
    transpose S2x65536x256 [1, 0, 2] x transposes_S65536x2x256_S2x65536x256_1_0_2 (ix3 h t d) = x (ix3 t h d) := by
  pointwise

theorem scale_apply (x : Vec Ideal S65536x2 .f32) (h : Fin 2) (t : Fin 65536) :
    transpose S2x65536 [1, 0] x transposes_S65536x2_S2x65536_1_0 (ix2 h t) = x (ix2 t h) := by
  pointwise

/-- The operands' entries, named. -/
theorem scale_some : κ "scale" = some (((1 / 16) * (Real.log 2)⁻¹ : ℝ) : EReal) := rfl
theorem scl_eq : (Cascade.Scl.scl : Ideal .f32) = (((1 / 16) * (Real.log 2)⁻¹ : ℝ) : EReal) :=
  IdealRules.named_const.ideal_named_scalar κ "scale" (φ := .f32) 0x3DB8AA3B#32 _ scale_some
theorem h0 (b : Fin 4) (i : Fin 32) (d : Fin 256) : (V m c main_v0 : Vec Ideal S4x32x256 .bf16) (ix3 b i d)
    = (m ((c : Thread nD τ).loc main_arg0) : Vec Ideal S4x1x32x256 .bf16) (ix4 b (0 : Fin 1) i d) :=
  (congrFun (V_x m c) _).trans (x_apply _ b i d)
theorem h1 (b : Fin 4) (h : Fin 2) (d : Fin 256) : (V m c main_v1 : Vec Ideal S4x2x256 .bf16) (ix3 b h d)
    = (m ((c : Thread nD τ).loc main_arg1) : Vec Ideal S4x1x2x256 .bf16) (ix4 b (0 : Fin 1) h d) :=
  (congrFun (V_kn m c) _).trans (new_apply _ b h d)
theorem h2 (b : Fin 4) (h : Fin 2) (d : Fin 256) : (V m c main_v2 : Vec Ideal S4x2x256 .bf16) (ix3 b h d)
    = (m ((c : Thread nD τ).loc main_arg2) : Vec Ideal S4x1x2x256 .bf16) (ix4 b (0 : Fin 1) h d) :=
  (congrFun (V_vn m c) _).trans (new_apply _ b h d)
theorem h3 (h : Fin 2) (t : Fin 65536) (d : Fin 256) : (V m c main_v3 : Vec Ideal S2x65536x256 .fp8e4m3) (ix3 h t d)
    = (m ((c : Thread nD τ).loc main_arg3) : Vec Ideal S65536x2x256 .fp8e4m3) (ix3 t h d) :=
  (congrFun (V_k m c) _).trans (kv_apply _ h t d)
theorem h4 (h : Fin 2) (t : Fin 65536) : (V m c main_v4 : Vec Ideal S2x65536 .f32) (ix2 h t)
    = (m ((c : Thread nD τ).loc main_arg4) : Vec Ideal S65536x2 .f32) (ix2 t h) :=
  (congrFun (V_ks m c) _).trans (scale_apply _ h t)
theorem h5 (h : Fin 2) (t : Fin 65536) (d : Fin 256) : (V m c main_v5 : Vec Ideal S2x65536x256 .fp8e4m3) (ix3 h t d)
    = (m ((c : Thread nD τ).loc main_arg5) : Vec Ideal S65536x2x256 .fp8e4m3) (ix3 t h d) :=
  (congrFun (V_v m c) _).trans (kv_apply _ h t d)
theorem h6 (h : Fin 2) (t : Fin 65536) : (V m c main_v6 : Vec Ideal S2x65536 .f32) (ix2 h t)
    = (m ((c : Thread nD τ).loc main_arg6) : Vec Ideal S65536x2 .f32) (ix2 t h) :=
  (congrFun (V_vs m c) _).trans (scale_apply _ h t)

/-- THE KERNEL'S RESULT AT AN INDEX. -/
theorem result (b : Fin 4) (h : Fin 2) (g : Fin 16) (d : Fin 256) (y : Fin 8192) (hy : y.val = 4096 * h.val + 256 * g.val + d.val) :
    (inp m c).out (ix2 b y)
      = Cascade.Spec.res (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b h g d :=
  Cascade.In.out_res (inp m c) scl_eq (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (h0 m c) (h1 m c) (h2 m c) (h3 m c) (h4 m c) (h5 m c) (h6 m c) b h g d y hy

/-- The kernel's result array. -/
def arr : Vec Ideal S4x8192 .bf16 := (inp m c).out

theorem arr_apply (b : Fin 4) (h : Fin 2) (g : Fin 16) (d : Fin 256) (y : Fin 8192) (hy : y.val = 4096 * h.val + 256 * g.val + d.val) :
    arr m c (ix2 b y)
      = Cascade.Spec.res (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b h g d := result m c b h g d y hy

theorem run_arr (ρ : Dev nD → PrngReg) : θ_run defs (onTc (τ := τ) (main (F := Ideal))) ⟨m, fun _ => 0, ρ⟩ (fun r => ∀ c : Dev nD,
      r.2.mem ((c.tc : Thread nD τ).loc main_v7) = arr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ r c => r.1 c) (run m ρ)

end Cert.KernelIdeal.Val
-- ==== Proof.Val.RefValue.lean ====
/- What the reference's body computes, entry by entry, over the extended reals. -/
module

public import proofs.«01_k».proof.Proof.Gen.ReferenceIdeal.Value
public import proofs.«01_k».proof.Proof.Val.Soft

@[expose] public section

noncomputable section

namespace Cert.ReferenceIdeal.Val

open Cert.ReferenceIdeal Cert.ReferenceIdeal.Gen Idealize.ShloMosaic

theorem ofBits_sixteenth : Ideal.ofBits .f32 0x3D800000#32 = ((1 / 16 : ℝ) : EReal) := by
  simp [Ideal.ofBits, Ideal.ieee, -EReal.coe_mul]; norm_num
theorem ofBits_bot : Ideal.ofBits .f32 0xFF800000#32 = ⊥ := by
  simp [Ideal.ofBits, Ideal.ieee, -EReal.coe_mul]

variable (q kn vn : Vec Ideal S2x64x256 .bf16) (k v : Vec Ideal S2x65536x256 .fp8e4m3) (ks vs : Vec Ideal S2x65536 .f32)

theorem pay3_apply (h : Fin 2) (r : Fin 64) (t : Fin 65536) :
    k0_pay3 q k ks (ix3 h r t) = (∑ d : Fin 256, q (ix3 h r d) * k (ix3 h t d)) * ks (ix2 h t) * ((1 / 16 : ℝ) : EReal) := by
  rw [← ofBits_sixteenth]
  pointwise [k0_pay3, k0_pay2]

theorem pay4_apply (h : Fin 2) (r : Fin 64) :
    k0_pay4 q kn (ix3 h r (0 : Fin 1)) = (∑ d : Fin 256, q (ix3 h r d) * kn (ix3 h r d)) * ((1 / 16 : ℝ) : EReal) := by
  rw [← ofBits_sixteenth]
  pointwise [k0_pay4, k0_pay2]

/-- A row's maximum over its last axis. -/
theorem max3 {n : ℕ} (x : FVec Ideal ⟨3, ![2, 64, n]⟩ .f32) (hr : (⟨3, ![2, 64, n]⟩ : Shape).Reduces [2] S2x64) (h : Fin 2) (r : Fin 64) :
    multiReduction .maximumf [2] S2x64 x 0xFF800000#32 hr (.inl rfl) rfl (ix2 h r)
      = (Finset.univ : Finset (Fin n)).sup fun t => x (ix3 h r t) := by
  have e : multiReduction .maximumf [2] S2x64 x 0xFF800000#32 hr (.inl rfl) rfl (ix2 h r)
      = (Finset.univ : Finset (Fin n)).fold max (Ideal.ofBits .f32 0xFF800000#32) fun t => x (ix3 h r t) := by
    pointwise
  rw [e, ofBits_bot]
  rfl

theorem cast1 (x : FVec Ideal S2x64 .f32) (y : FVec Ideal S2x64x1 .f32) (h : Fin 2) (r : Fin 64) :
    maximumf (shapeCast S2x64x1 x shapeCasts_S2x64_S2x64x1) y (ix3 h r (0 : Fin 1)) = max (x (ix2 h r)) (y (ix3 h r (0 : Fin 1))) := by
  pointwise

theorem pay5_apply (h : Fin 2) (r : Fin 64) :
    k0_pay5 q k ks kn (ix3 h r (0 : Fin 1))
      = max ((Finset.univ : Finset (Fin 65536)).sup fun t => k0_pay3 q k ks (ix3 h r t)) (k0_pay4 q kn (ix3 h r (0 : Fin 1))) := by
  have e : k0_pay5 q k ks kn = maximumf (shapeCast S2x64x1 (multiReduction .maximumf [2] S2x64 (k0_pay3 q k ks) 0xFF800000#32
      reduces_S2x64x65536_S2x64 (.inl rfl) rfl) shapeCasts_S2x64_S2x64x1) (k0_pay4 q kn) := by unfold k0_pay5; rfl
  rw [e]
  generalize k0_pay3 q k ks = x
  rw [cast1, max3 (n := 65536)]

theorem pay6_apply (h : Fin 2) (r : Fin 64) (t : Fin 65536) :
    k0_pay6 q k ks kn (ix3 h r t) = Ideal.exp (k0_pay3 q k ks (ix3 h r t) - k0_pay5 q k ks kn (ix3 h r (0 : Fin 1))) := by
  pointwise [k0_pay6]

theorem pay7_apply (h : Fin 2) (r : Fin 64) :
    k0_pay7 q k ks kn (ix3 h r (0 : Fin 1)) = Ideal.exp (k0_pay4 q kn (ix3 h r (0 : Fin 1)) - k0_pay5 q k ks kn (ix3 h r (0 : Fin 1))) := by
  pointwise [k0_pay7]

theorem pay8_apply (h : Fin 2) (r : Fin 64) :
    k0_pay8 q k ks kn (ix3 h r (0 : Fin 1)) = Ideal.div 1 ((∑ t : Fin 65536, k0_pay6 q k ks kn (ix3 h r t)) + k0_pay7 q k ks kn (ix3 h r (0 : Fin 1))) := by
  pointwise [k0_pay8]

theorem pay9_apply (h : Fin 2) (r : Fin 64) (t : Fin 65536) :
    k0_pay9 q k ks kn (ix3 h r t) = k0_pay6 q k ks kn (ix3 h r t) * k0_pay8 q k ks kn (ix3 h r (0 : Fin 1)) := by
  pointwise [k0_pay9]

theorem pay10_apply (h : Fin 2) (r : Fin 64) :
    k0_pay10 q k ks kn (ix3 h r (0 : Fin 1)) = k0_pay7 q k ks kn (ix3 h r (0 : Fin 1)) * k0_pay8 q k ks kn (ix3 h r (0 : Fin 1)) := by
  pointwise [k0_pay10]

/-- Column `4096 h + 256 g + d` of a row of the result. -/
def col (h : Fin 2) (g : Fin 16) (d : Fin 256) : Fin 8192 := ⟨4096 * h.val + 256 * g.val + d.val, by omega⟩
/-- Sequence `b`'s query `g` among a head's 64 rows. -/
def row (b : Fin 4) (g : Fin 16) : Fin 64 := ⟨16 * b.val + g.val, by omega⟩

theorem pay1_apply (p : FVec Ideal S2x64x65536 .f32) (pn : FVec Ideal S2x64x1 .f32) (b : Fin 4) (h : Fin 2) (g : Fin 16) (d : Fin 256) :
    k0_pay1 p pn vs v vn (ix2 b (col h g d))
      = (∑ t : Fin 65536, p (ix3 h (row b g) t) * vs (ix2 h t) * v (ix3 h t d)) + pn (ix3 h (row b g) (0 : Fin 1)) * vn (ix3 h (row b g) d) := by
  pointwise [k0_pay1]
  have e1 : (⟨(col h g d).val / 4096, by have := (col h g d).isLt; omega⟩ : Fin 2) = h := Fin.ext (by show (4096 * h.val + 256 * g.val + d.val) / 4096 = _; omega)
  have e2 : (⟨b.val * 16 + (col h g d).val / 256 % 16, by omega⟩ : Fin 64) = row b g :=
    Fin.ext (by show b.val * 16 + (4096 * h.val + 256 * g.val + d.val) / 256 % 16 = 16 * b.val + g.val; omega)
  have e3 : (⟨(col h g d).val % 256, by omega⟩ : Fin 256) = d := Fin.ext (by show (4096 * h.val + 256 * g.val + d.val) % 256 = _; omega)
  have key : ∀ (h' : Fin 2) (r' : Fin 64) (d' : Fin 256), h' = h → r' = row b g → d' = d →
      (∑ t : Fin 65536, p (ix3 h' r' t) * vs (ix2 h' t) * v (ix3 h' t d')) + pn (ix3 h' r' (0 : Fin 1)) * vn (ix3 h' r' d')
        = (∑ t : Fin 65536, p (ix3 h (row b g) t) * vs (ix2 h t) * v (ix3 h t d)) + pn (ix3 h (row b g) (0 : Fin 1)) * vn (ix3 h (row b g) d) := by
    rintro _ _ _ rfl rfl rfl; rfl
  exact key _ _ _ e1 e2 e3

end Cert.ReferenceIdeal.Val
-- ==== Proof.Val.RefArr.lean ====
/- The reference's result array as its body's payload at its host operations' results, and those results entry by
   entry. -/
module

public import proofs.«01_k».proof.Proof.Val.RefValue
public import proofs.«01_k».proof.Proof.Val.Spec
public import Idealize.ShloMosaic.Lib.VecWindow
public import Idealize.ShloMosaic.Lib.Pipeline.ValueKit.Tiles

@[expose] public section

noncomputable section

namespace Cert.ReferenceIdeal.Val

open Cert.ReferenceIdeal Cert.ReferenceIdeal.Gen
open Idealize.ShloMosaic Idealize.ShloMosaic.TcCoe Idealize.SL.Sem Cascade.Soft Cascade.Spec

variable (m : (ℓ : Loc nD τ sig) → Buf (Elt Ideal) ℓ) (c : Dev nD)

theorem V_q : (V m c main_v2 : Vec Ideal S2x64x256 .bf16) = shapeCast S2x64x256 (transpose S2x4x16x256 [1, 0, 2, 3]
    (shapeCast S4x2x16x256 (m ((c : Thread nD τ).loc main_arg0)) shapeCasts_S4x1x32x256_S4x2x16x256 : Vec Ideal S4x2x16x256 .bf16)
      transposes_S4x2x16x256_S2x4x16x256_1_0_2_3) shapeCasts_S2x4x16x256_S2x64x256 := by
  show StableHlo.after hostOps0 _ (Proc.devRef .tc main_v2) = _
  after_results
  rfl

theorem V_kn : (V m c main_v6 : Vec Ideal S2x64x256 .bf16) = shapeCast S2x64x256 (transpose S2x4x16x256 [1, 0, 2, 3]
    (broadcastInDim S4x2x16x256 ![0, 1, 2, 3] bcast_S4x2x1x256_S4x2x16x256_0_1_2_3
      (shapeCast S4x2x1x256 (m ((c : Thread nD τ).loc main_arg1)) shapeCasts_S4x1x2x256_S4x2x1x256 : Vec Ideal S4x2x1x256 .bf16))
      transposes_S4x2x16x256_S2x4x16x256_1_0_2_3) shapeCasts_S2x4x16x256_S2x64x256 := by
  show StableHlo.after hostOps0 _ (Proc.devRef .tc main_v6) = _
  after_results
  rfl

theorem V_vn : (V m c main_v10 : Vec Ideal S2x64x256 .bf16) = shapeCast S2x64x256 (transpose S2x4x16x256 [1, 0, 2, 3]
    (broadcastInDim S4x2x16x256 ![0, 1, 2, 3] bcast_S4x2x1x256_S4x2x16x256_0_1_2_3
      (shapeCast S4x2x1x256 (m ((c : Thread nD τ).loc main_arg2)) shapeCasts_S4x1x2x256_S4x2x1x256 : Vec Ideal S4x2x1x256 .bf16))
      transposes_S4x2x16x256_S2x4x16x256_1_0_2_3) shapeCasts_S2x4x16x256_S2x64x256 := by
  show StableHlo.after hostOps0 _ (Proc.devRef .tc main_v10) = _
  after_results
  rfl

theorem V_k : (V m c main_v11 : Vec Ideal S2x65536x256 .fp8e4m3) = transpose S2x65536x256 [1, 0, 2]
    (m ((c : Thread nD τ).loc main_arg3) : Vec Ideal S65536x2x256 .fp8e4m3) transposes_S65536x2x256_S2x65536x256_1_0_2 := by
  show StableHlo.after hostOps0 _ (Proc.devRef .tc main_v11) = _
  after_results

theorem V_ks : (V m c main_v12 : Vec Ideal S2x65536 .f32) = transpose S2x65536 [1, 0]
    (m ((c : Thread nD τ).loc main_arg4) : Vec Ideal S65536x2 .f32) transposes_S65536x2_S2x65536_1_0 := by
  show StableHlo.after hostOps0 _ (Proc.devRef .tc main_v12) = _
  after_results

theorem V_v : (V m c main_v13 : Vec Ideal S2x65536x256 .fp8e4m3) = transpose S2x65536x256 [1, 0, 2]
    (m ((c : Thread nD τ).loc main_arg5) : Vec Ideal S65536x2x256 .fp8e4m3) transposes_S65536x2x256_S2x65536x256_1_0_2 := by
  show StableHlo.after hostOps0 _ (Proc.devRef .tc main_v13) = _
  after_results

theorem V_vs : (V m c main_v14 : Vec Ideal S2x65536 .f32) = transpose S2x65536 [1, 0]
    (m ((c : Thread nD τ).loc main_arg6) : Vec Ideal S65536x2 .f32) transposes_S65536x2_S2x65536_1_0 := by
  show StableHlo.after hostOps0 _ (Proc.devRef .tc main_v14) = _
  after_results

theorem rows_apply (x : Vec Ideal S2x4x16x256 .bf16) (h : Fin 2) (b : Fin 4) (g : Fin 16) (d : Fin 256) :
    (shapeCast S2x64x256 x shapeCasts_S2x4x16x256_S2x64x256 : Vec Ideal S2x64x256 .bf16) (ix3 h (row b g) d) = x (ix4 h b g d) := by
  have key : ∀ r : Fin 64, (shapeCast S2x64x256 x shapeCasts_S2x4x16x256_S2x64x256 : Vec Ideal S2x64x256 .bf16) (ix3 h r d)
      = x (ix4 h (⟨r.val / 16, by omega⟩ : Fin 4) (⟨r.val % 16, by omega⟩ : Fin 16) d) := fun r => by
    pointwise
  have e1 : (⟨(row b g).val / 16, by have := (row b g).isLt; omega⟩ : Fin 4) = b := Fin.ext (by show (16 * b.val + g.val) / 16 = _; omega)
  have e2 : (⟨(row b g).val % 16, by omega⟩ : Fin 16) = g := Fin.ext (by show (16 * b.val + g.val) % 16 = _; omega)
  rw [key, e1, e2]

theorem q_apply (x : Vec Ideal S4x1x32x256 .bf16) (h : Fin 2) (b : Fin 4) (g : Fin 16) (d : Fin 256) :
    transpose S2x4x16x256 [1, 0, 2, 3] (shapeCast S4x2x16x256 x shapeCasts_S4x1x32x256_S4x2x16x256 : Vec Ideal S4x2x16x256 .bf16)
      transposes_S4x2x16x256_S2x4x16x256_1_0_2_3 (ix4 h b g d) = x (ix4 b (0 : Fin 1) (head h g) d) := by
  pointwise

theorem new_apply (x : Vec Ideal S4x1x2x256 .bf16) (h : Fin 2) (b : Fin 4) (g : Fin 16) (d : Fin 256) :
    transpose S2x4x16x256 [1, 0, 2, 3] (broadcastInDim S4x2x16x256 ![0, 1, 2, 3] bcast_S4x2x1x256_S4x2x16x256_0_1_2_3
      (shapeCast S4x2x1x256 x shapeCasts_S4x1x2x256_S4x2x1x256 : Vec Ideal S4x2x1x256 .bf16))
      transposes_S4x2x16x256_S2x4x16x256_1_0_2_3 (ix4 h b g d) = x (ix4 b (0 : Fin 1) h d) := by
  pointwise

theorem kv_apply (x : Vec Ideal S65536x2x256 .fp8e4m3) (h : Fin 2) (t : Fin 65536) (d : Fin 256) :
    transpose S2x65536x256 [1, 0, 2] x transposes_S65536x2x256_S2x65536x256_1_0_2 (ix3 h t d) = x (ix3 t h d) := by
  pointwise

theorem scale_apply (x : Vec Ideal S65536x2 .f32) (h : Fin 2) (t : Fin 65536) :
    transpose S2x65536 [1, 0] x transposes_S65536x2_S2x65536_1_0 (ix2 h t) = x (ix2 t h) := by
  pointwise

/-! ## The windows are whole arrays -/

/-- The one point of the grid of no axis. -/
abbrev t0 : Fin cfg0.N := ⟨0, by decide⟩

theorem emb_id {S : Shape} (f : S.Idx → S.Idx) (x : S.Idx → ℕ) (hf : ∀ y a, (f y a).val = 0 * S.size a + 1 * (y a).val) (y : S.Idx) : f y = y :=
  funext fun a => Fin.ext (by rw [hf]; omega)

theorem iblk0 : (iblk m c 0 t0 : Vec Ideal S2x64x256 .bf16) = V m c main_v2 := by
  funext y
  exact congrArg (V m c main_v2) (emb_id (fun y => ((cfg0.win 0).blk t0).view.emb y) (fun _ => 0) (fun y a => rfl) y)
theorem iblk1 : (iblk m c 1 t0 : Vec Ideal S2x64x256 .bf16) = V m c main_v6 := by
  funext y
  exact congrArg (V m c main_v6) (emb_id (fun y => ((cfg0.win 1).blk t0).view.emb y) (fun _ => 0) (fun y a => rfl) y)
theorem iblk2 : (iblk m c 2 t0 : Vec Ideal S2x64x256 .bf16) = V m c main_v10 := by
  funext y
  exact congrArg (V m c main_v10) (emb_id (fun y => ((cfg0.win 2).blk t0).view.emb y) (fun _ => 0) (fun y a => rfl) y)
theorem iblk3 : (iblk m c 3 t0 : Vec Ideal S2x65536x256 .fp8e4m3) = V m c main_v11 := by
  funext y
  exact congrArg (V m c main_v11) (emb_id (fun y => ((cfg0.win 3).blk t0).view.emb y) (fun _ => 0) (fun y a => rfl) y)
theorem iblk4 : (iblk m c 4 t0 : Vec Ideal S2x65536 .f32) = V m c main_v12 := by
  funext y
  exact congrArg (V m c main_v12) (emb_id (fun y => ((cfg0.win 4).blk t0).view.emb y) (fun _ => 0) (fun y a => rfl) y)
theorem iblk5 : (iblk m c 5 t0 : Vec Ideal S2x65536x256 .fp8e4m3) = V m c main_v13 := by
  funext y
  exact congrArg (V m c main_v13) (emb_id (fun y => ((cfg0.win 5).blk t0).view.emb y) (fun _ => 0) (fun y a => rfl) y)
theorem iblk6 : (iblk m c 6 t0 : Vec Ideal S2x65536 .f32) = V m c main_v14 := by
  funext y
  exact congrArg (V m c main_v14) (emb_id (fun y => ((cfg0.win 6).blk t0).view.emb y) (fun _ => 0) (fun y a => rfl) y)

theorem out_eq (q kn vn : Vec Ideal S2x64x256 .bf16) (k v : Vec Ideal S2x65536x256 .fp8e4m3) (ks vs : Vec Ideal S2x65536 .f32) :
    out0_7 q kn vn k ks v vs = k0_pay1 (k0_pay9 q k ks kn) (k0_pay10 q k ks kn) vs v vn := by
  unfold out0_7
  refine (View.canon_cons_unit_lit _ _ _ (by decide)).trans ?_
  have e1 : ∀ x : Vec Ideal S2x64x256 .bf16, View.ld x r0_0 = x := fun x => View.ld_unit_lit _ x (by decide)
  have e2 : ∀ x : Vec Ideal S2x65536x256 .fp8e4m3, View.ld x r0_1 = x := fun x => View.ld_unit_lit _ x (by decide)
  have e3 : ∀ x : Vec Ideal S2x65536 .f32, View.ld x r0_2 = x := fun x => View.ld_unit_lit _ x (by decide)
  have e4 : ∀ x : Vec Ideal S2x65536 .f32, k0_pay11 x = x := fun x => by unfold k0_pay11; exact shapeCast_self _ _
  simp only [e1, e2, e3, e4]

theorem flush7 : (cfg0.win 7).flush t0 = true := rfl

theorem emb7 (y : S4x8192.Idx) : ((cfg0.win 7).blk t0).view.emb y = y :=
  emb_id (fun y => ((cfg0.win 7).blk t0).view.emb y) (fun _ => 0) (fun y a => rfl) y

set_option maxRecDepth 20000 in
theorem arr_apply (y : S4x8192.Idx) : ((dats m 0 c).arrAt 7 cfg0.N : Vec Ideal S4x8192 .bf16) (((cfg0.win 7).blk t0).view.emb y)
      = out0_7 (iblk m c 0 t0) (iblk m c 1 t0) (iblk m c 2 t0) (iblk m c 3 t0) (iblk m c 4 t0) (iblk m c 5 t0) (iblk m c 6 t0) y :=
  congrFun ((Value.blocks7 m c t0 flush7).trans (Value.flushed7 m c t0)) y

theorem arr_eq (y : S4x8192.Idx) : ((dats m 0 c).arrAt 7 cfg0.N : Vec Ideal S4x8192 .bf16) y
    = out0_7 (V m c main_v2) (V m c main_v6) (V m c main_v10) (V m c main_v11) (V m c main_v12) (V m c main_v13) (V m c main_v14) y := by
  have b := arr_apply m c y
  rw [iblk0, iblk1, iblk2, iblk3, iblk4, iblk5, iblk6] at b
  exact (congrArg ((dats m 0 c).arrAt 7 cfg0.N : Vec Ideal S4x8192 .bf16) (emb7 y)).symm.trans b

/-- The body's result at an index, from its operands' entries. -/
theorem body_apply (q kn vn : Vec Ideal S2x64x256 .bf16) (k v : Vec Ideal S2x65536x256 .fp8e4m3) (ks vs : Vec Ideal S2x65536 .f32)
    (a0 : Vec Ideal S4x1x32x256 .bf16) (a1 a2 : Vec Ideal S4x1x2x256 .bf16) (a3 : Vec Ideal S65536x2x256 .fp8e4m3)
    (a4 : Vec Ideal S65536x2 .f32) (a5 : Vec Ideal S65536x2x256 .fp8e4m3) (a6 : Vec Ideal S65536x2 .f32)
    (h0 : ∀ h b g d, q (ix3 h (row b g) d) = a0 (ix4 b (0 : Fin 1) (head h g) d))
    (h1 : ∀ h b g d, kn (ix3 h (row b g) d) = a1 (ix4 b (0 : Fin 1) h d))
    (h2 : ∀ h b g d, vn (ix3 h (row b g) d) = a2 (ix4 b (0 : Fin 1) h d))
    (h3 : ∀ h t d, k (ix3 h t d) = a3 (ix3 t h d)) (h4 : ∀ h t, ks (ix2 h t) = a4 (ix2 t h))
    (h5 : ∀ h t d, v (ix3 h t d) = a5 (ix3 t h d)) (h6 : ∀ h t, vs (ix2 h t) = a6 (ix2 t h))
    (b : Fin 4) (h : Fin 2) (g : Fin 16) (d : Fin 256) :
    k0_pay1 (k0_pay9 q k ks kn) (k0_pay10 q k ks kn) vs v vn (ix2 b (col h g d)) = res a0 a1 a2 a3 a4 a5 a6 b h g d := by
  rw [pay1_apply]
  have hn : k0_pay4 q kn (ix3 h (row b g) (0 : Fin 1)) = newScore a0 a1 b h g := by
    rw [pay4_apply]; simp only [h0, h1]; rfl
  have hr : ∀ t : Fin 65536, k0_pay3 q k ks (ix3 h (row b g) t) = score a0 a3 a4 b h g t.val := fun t => by
    rw [pay3_apply]; simp only [h0, h3, h4]; unfold score; rw [tok_val]
  have hμ := pay5_apply q kn k ks h (row b g)
  rw [hn] at hμ
  have hi := pay8_apply q kn k ks h (row b g)
  rw [pay7_apply, hn] at hi
  simp only [pay6_apply] at hi
  rw [pay10_apply, pay7_apply, hn, h2]
  simp only [pay9_apply, pay6_apply]
  exact attend_fin (score a0 a3 a4 b h g) (fun t => a6 (ix2 (tok t) h)) (fun t => a5 (ix3 (tok t) h d)) (newScore a0 a1 b h g)
    (a2 (ix4 b (0 : Fin 1) h d)) (fun t => k0_pay3 q k ks (ix3 h (row b g) t)) (fun t => vs (ix2 h t)) (fun t => v (ix3 h t d))
    hr (fun t => by rw [h6, tok_val]) (fun t => by rw [h5, tok_val]) _ _ hμ hi

/-- THE REFERENCE'S RESULT AT AN INDEX. -/
theorem result (b : Fin 4) (h : Fin 2) (g : Fin 16) (d : Fin 256) :
    ((dats m 0 c).arrAt 7 cfg0.N : Vec Ideal S4x8192 .bf16) (ix2 b (col h g d))
      = res (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b h g d := by
  rw [arr_eq, out_eq]
  exact body_apply _ _ _ _ _ _ _ _ _ _ _ _ _ _
    (fun h b g d => by rw [V_q]; exact (rows_apply _ h b g d).trans (q_apply _ h b g d))
    (fun h b g d => by rw [V_kn]; exact (rows_apply _ h b g d).trans (new_apply _ h b g d))
    (fun h b g d => by rw [V_vn]; exact (rows_apply _ h b g d).trans (new_apply _ h b g d))
    (fun h t d => by rw [V_k]; exact kv_apply _ h t d)
    (fun h t => by rw [V_ks]; exact scale_apply _ h t)
    (fun h t d => by rw [V_v]; exact kv_apply _ h t d)
    (fun h t => by rw [V_vs]; exact scale_apply _ h t) b h g d

/-- The reference's result array. -/
def arr : Vec Ideal S4x8192 .bf16 := (dats m 0 c).arrAt 7 cfg0.N

theorem arr_res (b : Fin 4) (h : Fin 2) (g : Fin 16) (d : Fin 256) :
    arr m c (ix2 b (col h g d))
      = res (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b h g d := result m c b h g d

theorem run_arr (ρ : Dev nD → PrngReg) : θ_run defs (onTc (τ := τ) (main (F := Ideal))) ⟨m, fun _ => 0, ρ⟩ (fun r => ∀ c : Dev nD,
      r.2.mem ((c.tc : Thread nD τ).loc main_v15) = arr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Value.run_blocks m ρ

end Cert.ReferenceIdeal.Val
-- ==== Proof.lean ====
module

public import proofs.«01_k».proof.Defs
public import proofs.«01_k».proof.Proof.Kern.LaunchBits
public import proofs.«01_k».proof.Proof.Val.KernArr
public import proofs.«01_k».proof.Proof.Val.RefArr
public import Idealize.ShloMosaic.Adequacy
public import Idealize.ShloMosaic.Init

@[expose] public section

noncomputable section

namespace Cert.Proof

open Idealize.ShloMosaic Idealize.SL.Sem

/-- A column of the result is dimension `d` of query `g` of head `h`. -/
theorem column (y : Fin 8192) : ∃ (h : Fin 2) (g : Fin 16) (d : Fin 256), y = Cert.ReferenceIdeal.Val.col h g d :=
  ⟨⟨y.val / 4096, by omega⟩, ⟨y.val / 256 % 16, by omega⟩, ⟨y.val % 256, by omega⟩,
    Fin.ext (by show y.val = 4096 * (y.val / 4096) + 256 * (y.val / 256 % 16) + y.val % 256; omega)⟩

/-- From memories that agree on the arguments, the reference's array is the kernel's. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Val.arr m' c = Cert.KernelIdeal.Val.arr m c := by
  funext y
  obtain ⟨i, j, rfl⟩ : ∃ (i : Fin 4) (j : Fin 8192), y = ix2 i j :=
    ⟨y 0, y 1, funext fun a => match a with | ⟨0, _⟩ => rfl | ⟨1, _⟩ => rfl⟩
  obtain ⟨k, g, d, rfl⟩ := column j
  refine (Cert.ReferenceIdeal.Val.arr_res m' c i k g d).trans ?_
  refine Eq.trans ?_ (Cert.KernelIdeal.Val.arr_apply m c i k g d _ rfl).symm
  obtain ⟨e0, e1, e2, e3, e4, e5, e6⟩ := h
  rw [e0, e1, e2, e3, e4, e5, e6]

theorem algebraic [hK : Cert.KernelIdeal.Facts] [hR : Cert.ReferenceIdeal.Facts] : Cert.algebraic_KernelIdeal_ReferenceIdeal :=
  fun m g m' g' _ h => ⟨fun c => Cert.KernelIdeal.Val.arr m c, Cert.KernelIdeal.Val.run_arr m g,
    (θ_run _ _ _).mono (fun _ r c => ⟨(r c).1.trans (same m m' c (h c)), (r c).2⟩) (Cert.ReferenceIdeal.Val.run_arr m' g')⟩

theorem claim : Cert.Claim := ⟨Cert.Kernel.Gen.facts, Cert.KernelIdeal.Gen.facts, Cert.ReferenceIdeal.Gen.facts,
  fun m g _ => (θ_run _ _ _).mono (fun _ h => ⟨fun c => (h.1 c).2, h.2⟩) (Cert.Kernel.Hand.run (F := Bits) m g),
  fun m g _ => (θ_run _ _ _).mono (fun _ h => ⟨fun c => (h.1 c).2, h.2⟩) (Cert.KernelIdeal.Hand.run (F := Ideal) m g),
  fun m g _ => Cert.ReferenceIdeal.Gen.frame (F := Ideal) m g,
  IdealRules.named_const.statement Cert.KernelIdeal.κ "scale" .f32 0x3DB8AA3B#32 _ Cert.KernelIdeal.Val.scale_some,
  algebraic⟩

end Cert.Proof

end
